-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![1024]⟩ ⟨1, ![2048]⟩ (Layout.meshBlock [2, 2, 2] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = Layout.blockN ⟨2, ![1024, 512]⟩ ⟨2, ![2048, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_balanced_Kernel : Cert.Pre_balanced_Kernel.Facts) (hPre_balanced_ReferenceIdeal : Cert.Pre_balanced_ReferenceIdeal.Facts),
    quiescent_Kernel (hKernel := hKernel) (hPre_balanced_Kernel := hPre_balanced_Kernel)
    ∧ quiescent_KernelIdeal (hKernelIdeal := hKernelIdeal) (hPre_balanced_Kernel := hPre_balanced_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
-- ==== Pre_balanced_Kernel.lean ====
abbrev S1024x512 : Shape := ⟨2, ![1024, 512]⟩
abbrev S1024 : Shape := ⟨1, ![1024]⟩
abbrev S_ : Shape := ⟨0, ![]⟩
abbrev S1 : Shape := ⟨1, ![1]⟩
abbrev S2 : Shape := ⟨1, ![2]⟩

class Facts : Prop where
  bcast_S_S1024 : S_.BroadcastsInDim S1024 (![] : Fin 0 → Fin S1024.rank)
  natLt_1_32 : 1 < 32
  reducesTo_S1024_S_d0 : S1024.ReducesTo [0] S_
  h_S_ : 0 < S_.numel
  bcast_S_S1 : S_.BroadcastsInDim S1 (![] : Fin 0 → Fin S1.rank)
  concatenates_S1_S1_S2_d0 : Shape.Concatenates [S1, S1] S2 0

variable [Facts]

def fn {F : FTy → Type} [FloatOps F] (main_arg0 : FVec F S1024x512 .f32) (main_arg1 : IVec S1024 32) : IVec S2 1 :=
  let main_c : IVec S_ 32 := constantI S_ 32 0#32
  let main_v0 : IVec S1024 32 := broadcastInDim S1024 ![] bcast_S_S1024 main_c
  let main_v1 : IVec S1024 1 := cmpi .eq main_arg1 main_v0
  let main_v2 : IVec S1024 32 := (extui 32 · natLt_1_32) main_v1
  let main_c_0 : IVec S_ 32 := constantI S_ 32 0#32
  let main_v3 : IVec S1024 32 := broadcastInDim S1024 ![] bcast_S_S1024 main_c_0
  let main_v4 : IVec S1024 1 := cmpi .eq main_arg1 main_v3
  let main_c_1 : IVec S_ 32 := constantI S_ 32 1#32
  let main_v5 : IVec S1024 32 := broadcastInDim S1024 ![] bcast_S_S1024 main_c_1
  let main_v6 : IVec S1024 1 := cmpi .eq main_arg1 main_v5
  let main_v7 : IVec S1024 1 := ori main_v4 main_v6
  let main_c_2 : IVec S_ 1 := constantI S_ 1 1#1
  let main_v8 : IVec S_ 1 := (fun x v => Host.reduce IntOp.andi x v reducesTo_S1024_S_d0 h_S_) main_v7 main_c_2
  let main_c_3 : IVec S_ 32 := constantI S_ 32 0#32
  let main_v9 : IVec S_ 32 := (fun x v => Host.reduce IntOp.addi x v reducesTo_S1024_S_d0 h_S_) main_v2 main_c_3
  let main_c_4 : IVec S_ 32 := constantI S_ 32 512#32
  let main_v10 : IVec S_ 1 := cmpi .eq main_v9 main_c_4
  let main_v11 : IVec S1 1 := broadcastInDim S1 ![] bcast_S_S1 main_v8
  let main_v12 : IVec S1 1 := broadcastInDim S1 ![] bcast_S_S1 main_v10
  let main_v13 : IVec S2 1 := (fun a b => concatenate S2 0 [⟨S1, a⟩, ⟨S1, b⟩] concatenates_S1_S1_S2_d0) main_v11 main_v12
  main_v13
-- ==== Pre_balanced_ReferenceIdeal.lean ====
abbrev S2048x512 : Shape := ⟨2, ![2048, 512]⟩
abbrev S2048 : Shape := ⟨1, ![2048]⟩
abbrev S_ : Shape := ⟨0, ![]⟩
abbrev S1 : Shape := ⟨1, ![1]⟩
abbrev S2 : Shape := ⟨1, ![2]⟩

class Facts : Prop where
  bcast_S_S2048 : S_.BroadcastsInDim S2048 (![] : Fin 0 → Fin S2048.rank)
  natLt_1_32 : 1 < 32
  reducesTo_S2048_S_d0 : S2048.ReducesTo [0] S_
  h_S_ : 0 < S_.numel
  bcast_S_S1 : S_.BroadcastsInDim S1 (![] : Fin 0 → Fin S1.rank)
  concatenates_S1_S1_S2_d0 : Shape.Concatenates [S1, S1] S2 0

variable [Facts]

def fn {F : FTy → Type} [FloatOps F] (main_arg0 : FVec F S2048x512 .f32) (main_arg1 : IVec S2048 32) : IVec S2 1 :=
  let main_c : IVec S_ 32 := constantI S_ 32 0#32
  let main_v0 : IVec S2048 32 := broadcastInDim S2048 ![] bcast_S_S2048 main_c
  let main_v1 : IVec S2048 1 := cmpi .eq main_arg1 main_v0
  let main_v2 : IVec S2048 32 := (extui 32 · natLt_1_32) main_v1
  let main_c_0 : IVec S_ 32 := constantI S_ 32 0#32
  let main_v3 : IVec S2048 32 := broadcastInDim S2048 ![] bcast_S_S2048 main_c_0
  let main_v4 : IVec S2048 1 := cmpi .eq main_arg1 main_v3
  let main_c_1 : IVec S_ 32 := constantI S_ 32 1#32
  let main_v5 : IVec S2048 32 := broadcastInDim S2048 ![] bcast_S_S2048 main_c_1
  let main_v6 : IVec S2048 1 := cmpi .eq main_arg1 main_v5
  let main_v7 : IVec S2048 1 := ori main_v4 main_v6
  let main_c_2 : IVec S_ 1 := constantI S_ 1 1#1
  let main_v8 : IVec S_ 1 := (fun x v => Host.reduce IntOp.andi x v reducesTo_S2048_S_d0 h_S_) main_v7 main_c_2
  let main_c_3 : IVec S_ 32 := constantI S_ 32 0#32
  let main_v9 : IVec S_ 32 := (fun x v => Host.reduce IntOp.addi x v reducesTo_S2048_S_d0 h_S_) main_v2 main_c_3
  let main_c_4 : IVec S_ 32 := constantI S_ 32 512#32
  let main_v10 : IVec S_ 1 := cmpi .eq main_v9 main_c_4
  let main_v11 : IVec S1 1 := broadcastInDim S1 ![] bcast_S_S1 main_v8
  let main_v12 : IVec S1 1 := broadcastInDim S1 ![] bcast_S_S1 main_v10
  let main_v13 : IVec S2 1 := (fun a b => concatenate S2 0 [⟨S1, a⟩, ⟨S1, b⟩] concatenates_S1_S1_S2_d0) main_v11 main_v12
  main_v13
-- ==== Kernel.lean ====
abbrev S1024x512 : Shape := ⟨2, ![1024, 512]⟩
abbrev S1024 : Shape := ⟨1, ![1024]⟩
abbrev S_ : Shape := ⟨0, ![]⟩
abbrev S1 : Shape := ⟨1, ![1]⟩
abbrev S1x1024 : Shape := ⟨2, ![1, 1024]⟩
abbrev S576x512 : Shape := ⟨2, ![576, 512]⟩
abbrev S18 : Shape := ⟨1, ![18]⟩
abbrev S3 : Shape := ⟨1, ![3]⟩
abbrev S288x1024 : Shape := ⟨2, ![288, 1024]⟩
abbrev S288x512 : Shape := ⟨2, ![288, 512]⟩
abbrev S32x512 : Shape := ⟨2, ![32, 512]⟩
abbrev S8x512 : Shape := ⟨2, ![8, 512]⟩
abbrev S1024x1024 : Shape := ⟨2, ![1024, 1024]⟩

abbrev nBuf : Space → Nat
  | .hbm => 83
  | .vmem => 6
  | .smem => 1
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S1024, .i32⟩
  | .hbm, ⟨14, _⟩ => ⟨S_, .i32⟩
  | .hbm, ⟨15, _⟩ => ⟨S_, .i32⟩
  | .hbm, ⟨16, _⟩ => ⟨S1024, .i32⟩
  | .hbm, ⟨17, _⟩ => ⟨S1, .i32⟩
  | .hbm, ⟨18, _⟩ => ⟨S_, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i1⟩
  | .hbm, ⟨39, _⟩ => ⟨S_, .i1⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S1024, .i1⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S_, .i32⟩
  | .hbm, ⟨59, _⟩ => ⟨S1024, .i32⟩
  | .hbm, ⟨60, _⟩ => ⟨S1024, .i32⟩
  | .hbm, ⟨61, _⟩ => ⟨S1024, .i32⟩
  | .hbm, ⟨62, _⟩ => ⟨S_, .i32⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024, .i32⟩
  | .hbm, ⟨71, _⟩ => ⟨S_, .i32⟩
  | .hbm, ⟨72, _⟩ => ⟨S1024, .i32⟩
  | .hbm, ⟨73, _⟩ => ⟨S1024, .i32⟩
  | .hbm, ⟨74, _⟩ => ⟨S1024, .i32⟩
  | .hbm, ⟨75, _⟩ => ⟨S_, .i32⟩
  | .hbm, ⟨76, _⟩ => ⟨S_, .i32⟩
  | .hbm, ⟨77, _⟩ => ⟨S1024, .i32⟩
  | .hbm, ⟨78, _⟩ => ⟨S1024, .i32⟩
  | .hbm, ⟨79, _⟩ => ⟨S1x1024, .i32⟩
  | .hbm, ⟨80, _⟩ => ⟨S1x1024, .i32⟩
  | .hbm, ⟨81, _⟩ => ⟨S1, .i32⟩
  | .hbm, ⟨82, _⟩ => ⟨S1024x512, .f32⟩
  | .local _ .vmem, ⟨0, _⟩ => ⟨S1x1024, .i32⟩
  | .local _ .vmem, ⟨1, _⟩ => ⟨S1x1024, .i32⟩
  | .local _ .vmem, ⟨2, _⟩ => ⟨S1024x512, .f32⟩
  | .local _ .vmem, ⟨3, _⟩ => ⟨S1024x512, .f32⟩
  | .local _ .vmem, ⟨4, _⟩ => ⟨S576x512, .bf16⟩
  | .local _ .vmem, ⟨5, _⟩ => ⟨S576x512, .bf16⟩
  | .local _ .smem, ⟨0, _⟩ => ⟨S1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_call0_c : Ref sig .tc := ⟨.hbm, 14, rfl⟩
abbrev main_call0_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_c_5 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_c_1 : Ref sig .tc := ⟨.hbm, 33, rfl⟩
abbrev main_call1_v4 : Ref sig .tc := ⟨.hbm, 34, rfl⟩
abbrev main_call1_c_2 : Ref sig .tc := ⟨.hbm, 35, rfl⟩
abbrev main_call1_v5 : Ref sig .tc := ⟨.hbm, 36, rfl⟩
abbrev main_call1_c_3 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_v17 : Ref sig .tc := ⟨.hbm, 42, rfl⟩
abbrev main_c_6 : Ref sig .tc := ⟨.hbm, 43, rfl⟩
abbrev main_call2_v0 : Ref sig .tc := ⟨.hbm, 44, rfl⟩
abbrev main_v18 : Ref sig .tc := ⟨.hbm, 45, rfl⟩
abbrev main_c_7 : Ref sig .tc := ⟨.hbm, 46, rfl⟩
abbrev main_v19 : Ref sig .tc := ⟨.hbm, 47, rfl⟩
abbrev main_v20 : Ref sig .tc := ⟨.hbm, 48, rfl⟩
abbrev main_c_8 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_9 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_10 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_11 : Ref sig .tc := ⟨.hbm, 62, rfl⟩
abbrev main_call5_v0 : Ref sig .tc := ⟨.hbm, 63, rfl⟩
abbrev main_call5_v1 : Ref sig .tc := ⟨.hbm, 64, rfl⟩
abbrev main_v31 : Ref sig .tc := ⟨.hbm, 65, rfl⟩
abbrev main_c_12 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_13 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_14 : Ref sig .tc := ⟨.hbm, 75, rfl⟩
abbrev main_call7_v0 : Ref sig .tc := ⟨.hbm, 76, rfl⟩
abbrev main_call7_v1 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v166 : BitVec 32 := Scalar.muli v2 c4_i32_75
  let v167 : BitVec 32 := Scalar.addi c0_i32_76 v166
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_77 : BitVec 32 := 2#32
  let v168 : BitVec 32 := Scalar.muli v9 c2_i32_77
  let v169 : BitVec 32 := Scalar.addi v167 v168
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v170 : BitVec 32 := Scalar.muli v8 c1_i32_78
  let v171 : BitVec 32 := Scalar.addi v169 v170
  v171.toNat
def k0_dev2 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev3 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev4 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev5 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev6 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev7 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev8 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev9 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev10 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev11 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev12 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev13 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev14 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev15 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev16 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev17 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev18 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_dev19 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v486 : BitVec 32 := Scalar.muli v2 c4_i32_261
  let v487 : BitVec 32 := Scalar.addi c0_i32_262 v486
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v488 : BitVec 32 := Scalar.muli v9 c2_i32_263
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v490 : BitVec 32 := Scalar.muli v8 c1_i32_264
  let v491 : BitVec 32 := Scalar.addi v489 v490
  v491.toNat
def k0_mult1 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_11 : BitVec 32 := 0#32
  let c1024_i32_5 : BitVec 32 := 1024#32
  let v15 : BitVec 32 := Scalar.subi c1024_i32_5 v11
  let c8_i32 : BitVec 32 := 8#32
  let c0_i32_6 : BitVec 32 := 0#32
  let v16 : BitVec 1 := Scalar.cmpi .eq c8_i32 c0_i32_6
  let c1_i32_7 : BitVec 32 := 1#32
  let v17 : BitVec 32 := Scalar.select v16 c1_i32_7 c8_i32
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let v26 : BitVec 32 := Scalar.select v10 c0_i32_11 v25
  let c1024_i32 : BitVec 32 := 1024#32
  let v12 : BitVec 32 := Scalar.subi c1024_i32 v11
  let v13 : BitVec 32 := Scalar.select v10 v12 v11
  let v27 : BitVec 32 := Scalar.addi v26 v13
  let c7_i32 : BitVec 32 := 7#32
  let v28 : BitVec 32 := Scalar.addi v27 c7_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c8_i32_12 : BitVec 32 := 8#32
  let c0_i32_15 : BitVec 32 := 0#32
  let v35 : BitVec 1 := Scalar.cmpi .sgt c8_i32_12 c0_i32_15
  let v36 : BitVec 32 := Scalar.extui v35
  let c0_i32_16 : BitVec 32 := 0#32
  let v37 : BitVec 1 := Scalar.cmpi .slt c8_i32_12 c0_i32_16
  let v38 : BitVec 32 := Scalar.extui v37
  let v39 : BitVec 32 := Scalar.subi v36 v38
  let v40 : BitVec 1 := Scalar.cmpi .ne v34 v39
  let v41 : BitVec 32 := Scalar.remsi v28 c8_i32_12
  let c0_i32_17 : BitVec 32 := 0#32
  let v42 : BitVec 1 := Scalar.cmpi .ne v41 c0_i32_17
  let v43 : BitVec 1 := Scalar.andi v40 v42
  let v29 : BitVec 32 := Scalar.divsi v28 c8_i32_12
  let c1_i32_18 : BitVec 32 := 1#32
  let v44 : BitVec 32 := Scalar.subi v29 c1_i32_18
  let v45 : BitVec 32 := Scalar.select v43 v44 v29
  let c8_i32_19 : BitVec 32 := 8#32
  let v46 : BitVec 32 := Scalar.muli v45 c8_i32_19
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c32_i32 : BitVec 32 := 32#32
  let c0_i32_22 : BitVec 32 := 0#32
  let v53 : BitVec 1 := Scalar.cmpi .sgt c32_i32 c0_i32_22
  let v54 : BitVec 32 := Scalar.extui v53
  let c0_i32_23 : BitVec 32 := 0#32
  let v55 : BitVec 1 := Scalar.cmpi .slt c32_i32 c0_i32_23
  let v56 : BitVec 32 := Scalar.extui v55
  let v57 : BitVec 32 := Scalar.subi v54 v56
  let v58 : BitVec 1 := Scalar.cmpi .ne v52 v57
  let v59 : BitVec 32 := Scalar.remsi v46 c32_i32
  let c0_i32_24 : BitVec 32 := 0#32
  let v60 : BitVec 1 := Scalar.cmpi .ne v59 c0_i32_24
  let v61 : BitVec 1 := Scalar.andi v58 v60
  let v47 : BitVec 32 := Scalar.divsi v46 c32_i32
  let c1_i32_25 : BitVec 32 := 1#32
  let v62 : BitVec 32 := Scalar.subi v47 c1_i32_25
  let v63 : BitVec 32 := Scalar.select v61 v62 v47
  let c32_i32_259 : BitVec 32 := 32#32
  let v486 : BitVec 32 := Scalar.muli v63 c32_i32_259
  let c0_i32_260 : BitVec 32 := 0#32
  let v487 : BitVec 32 := Scalar.addi v486 c0_i32_260
  v487
def k0_cond19 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_11 : BitVec 32 := 0#32
  let c1024_i32_5 : BitVec 32 := 1024#32
  let v15 : BitVec 32 := Scalar.subi c1024_i32_5 v11
  let c8_i32 : BitVec 32 := 8#32
  let c0_i32_6 : BitVec 32 := 0#32
  let v16 : BitVec 1 := Scalar.cmpi .eq c8_i32 c0_i32_6
  let c1_i32_7 : BitVec 32 := 1#32
  let v17 : BitVec 32 := Scalar.select v16 c1_i32_7 c8_i32
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let v26 : BitVec 32 := Scalar.select v10 c0_i32_11 v25
  let c1024_i32 : BitVec 32 := 1024#32
  let v12 : BitVec 32 := Scalar.subi c1024_i32 v11
  let v13 : BitVec 32 := Scalar.select v10 v12 v11
  let v27 : BitVec 32 := Scalar.addi v26 v13
  let c7_i32 : BitVec 32 := 7#32
  let v28 : BitVec 32 := Scalar.addi v27 c7_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c8_i32_12 : BitVec 32 := 8#32
  let c0_i32_15 : BitVec 32 := 0#32
  let v35 : BitVec 1 := Scalar.cmpi .sgt c8_i32_12 c0_i32_15
  let v36 : BitVec 32 := Scalar.extui v35
  let c0_i32_16 : BitVec 32 := 0#32
  let v37 : BitVec 1 := Scalar.cmpi .slt c8_i32_12 c0_i32_16
  let v38 : BitVec 32 := Scalar.extui v37
  let v39 : BitVec 32 := Scalar.subi v36 v38
  let v40 : BitVec 1 := Scalar.cmpi .ne v34 v39
  let v41 : BitVec 32 := Scalar.remsi v28 c8_i32_12
  let c0_i32_17 : BitVec 32 := 0#32
  let v42 : BitVec 1 := Scalar.cmpi .ne v41 c0_i32_17
  let v43 : BitVec 1 := Scalar.andi v40 v42
  let v29 : BitVec 32 := Scalar.divsi v28 c8_i32_12
  let c1_i32_18 : BitVec 32 := 1#32
  let v44 : BitVec 32 := Scalar.subi v29 c1_i32_18
  let v45 : BitVec 32 := Scalar.select v43 v44 v29
  let c8_i32_19 : BitVec 32 := 8#32
  let v46 : BitVec 32 := Scalar.muli v45 c8_i32_19
  let c32_i32_26 : BitVec 32 := 32#32
  let c0_i32_27 : BitVec 32 := 0#32
  let v64 : BitVec 1 := Scalar.cmpi .eq c32_i32_26 c0_i32_27
  let c1_i32_28 : BitVec 32 := 1#32
  let v65 : BitVec 32 := Scalar.select v64 c1_i32_28 c32_i32_26
  let v66 : BitVec 32 := Scalar.remsi v46 v65
  let c0_i32_30 : BitVec 32 := 0#32
  let v68 : BitVec 1 := Scalar.cmpi .slt v66 c0_i32_30
  let c0_i32_31 : BitVec 32 := 0#32
  let v69 : BitVec 1 := Scalar.cmpi .slt v65 c0_i32_31
  let v70 : BitVec 1 := Scalar.xori v68 v69
  let c0_i32_29 : BitVec 32 := 0#32
  let v67 : BitVec 1 := Scalar.cmpi .ne v66 c0_i32_29
  let v71 : BitVec 1 := Scalar.andi v70 v67
  let v72 : BitVec 32 := Scalar.addi v66 v65
  let v73 : BitVec 32 := Scalar.select v71 v72 v66
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c8_i32_32 : BitVec 32 := 8#32
  let c0_i32_35 : BitVec 32 := 0#32
  let v80 : BitVec 1 := Scalar.cmpi .sgt c8_i32_32 c0_i32_35
  let v81 : BitVec 32 := Scalar.extui v80
  let c0_i32_36 : BitVec 32 := 0#32
  let v82 : BitVec 1 := Scalar.cmpi .slt c8_i32_32 c0_i32_36
  let v83 : BitVec 32 := Scalar.extui v82
  let v84 : BitVec 32 := Scalar.subi v81 v83
  let v85 : BitVec 1 := Scalar.cmpi .ne v79 v84
  let v86 : BitVec 32 := Scalar.remsi v73 c8_i32_32
  let c0_i32_37 : BitVec 32 := 0#32
  let v87 : BitVec 1 := Scalar.cmpi .ne v86 c0_i32_37
  let v88 : BitVec 1 := Scalar.andi v85 v87
  let v74 : BitVec 32 := Scalar.divsi v73 c8_i32_32
  let c1_i32_38 : BitVec 32 := 1#32
  let v89 : BitVec 32 := Scalar.subi v74 c1_i32_38
  let v90 : BitVec 32 := Scalar.select v88 v89 v74
  let c0_i32_114 : BitVec 32 := 0#32
  let v257 : BitVec 1 := Scalar.cmpi .sgt v90 c0_i32_114
  let v258 : BitVec 32 := Scalar.extui v257
  let c0_i32_115 : BitVec 32 := 0#32
  let v259 : BitVec 1 := Scalar.cmpi .ne v258 c0_i32_115
  v259

def k0_off1 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_11 : BitVec 32 := 0#32
  let c1024_i32_5 : BitVec 32 := 1024#32
  let v15 : BitVec 32 := Scalar.subi c1024_i32_5 v11
  let c8_i32 : BitVec 32 := 8#32
  let c0_i32_6 : BitVec 32 := 0#32
  let v16 : BitVec 1 := Scalar.cmpi .eq c8_i32 c0_i32_6
  let c1_i32_7 : BitVec 32 := 1#32
  let v17 : BitVec 32 := Scalar.select v16 c1_i32_7 c8_i32
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let v26 : BitVec 32 := Scalar.select v10 c0_i32_11 v25
  let c1024_i32 : BitVec 32 := 1024#32
  let v12 : BitVec 32 := Scalar.subi c1024_i32 v11
  let v13 : BitVec 32 := Scalar.select v10 v12 v11
  let v27 : BitVec 32 := Scalar.addi v26 v13
  let c7_i32 : BitVec 32 := 7#32
  let v28 : BitVec 32 := Scalar.addi v27 c7_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c8_i32_12 : BitVec 32 := 8#32
  let c0_i32_15 : BitVec 32 := 0#32
  let v35 : BitVec 1 := Scalar.cmpi .sgt c8_i32_12 c0_i32_15
  let v36 : BitVec 32 := Scalar.extui v35
  let c0_i32_16 : BitVec 32 := 0#32
  let v37 : BitVec 1 := Scalar.cmpi .slt c8_i32_12 c0_i32_16
  let v38 : BitVec 32 := Scalar.extui v37
  let v39 : BitVec 32 := Scalar.subi v36 v38
  let v40 : BitVec 1 := Scalar.cmpi .ne v34 v39
  let v41 : BitVec 32 := Scalar.remsi v28 c8_i32_12
  let c0_i32_17 : BitVec 32 := 0#32
  let v42 : BitVec 1 := Scalar.cmpi .ne v41 c0_i32_17
  let v43 : BitVec 1 := Scalar.andi v40 v42
  let v29 : BitVec 32 := Scalar.divsi v28 c8_i32_12
  let c1_i32_18 : BitVec 32 := 1#32
  let v44 : BitVec 32 := Scalar.subi v29 c1_i32_18
  let v45 : BitVec 32 := Scalar.select v43 v44 v29
  let c8_i32_19 : BitVec 32 := 8#32
  let v46 : BitVec 32 := Scalar.muli v45 c8_i32_19
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c32_i32 : BitVec 32 := 32#32
  let c0_i32_22 : BitVec 32 := 0#32
  let v53 : BitVec 1 := Scalar.cmpi .sgt c32_i32 c0_i32_22
  let v54 : BitVec 32 := Scalar.extui v53
  let c0_i32_23 : BitVec 32 := 0#32
  let v55 : BitVec 1 := Scalar.cmpi .slt c32_i32 c0_i32_23
  let v56 : BitVec 32 := Scalar.extui v55
  let v57 : BitVec 32 := Scalar.subi v54 v56
  let v58 : BitVec 1 := Scalar.cmpi .ne v52 v57
  let v59 : BitVec 32 := Scalar.remsi v46 c32_i32
  let c0_i32_24 : BitVec 32 := 0#32
  let v60 : BitVec 1 := Scalar.cmpi .ne v59 c0_i32_24
  let v61 : BitVec 1 := Scalar.andi v58 v60
  let v47 : BitVec 32 := Scalar.divsi v46 c32_i32
  let c1_i32_25 : BitVec 32 := 1#32
  let v62 : BitVec 32 := Scalar.subi v47 c1_i32_25
  let v63 : BitVec 32 := Scalar.select v61 v62 v47
  let c32_i32_259 : BitVec 32 := 32#32
  let v486 : BitVec 32 := Scalar.muli v63 c32_i32_259
  let c0_i32_260 : BitVec 32 := 0#32
  let v487 : BitVec 32 := Scalar.addi v486 c0_i32_260
  let v488 : BitVec 32 := v487
  let c0_i32_267 : BitVec 32 := 0#32
  ![v488.toNat, 0]
def k0_dev20 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v489 : BitVec 32 := Scalar.muli v2 c4_i32_263
  let v490 : BitVec 32 := Scalar.addi c0_i32_264 v489
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_265 : BitVec 32 := 2#32
  let v491 : BitVec 32 := Scalar.muli v9 c2_i32_265
  let v492 : BitVec 32 := Scalar.addi v490 v491
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v493 : BitVec 32 := Scalar.muli v8 c1_i32_266
  let v494 : BitVec 32 := Scalar.addi v492 v493
  v494.toNat
def k0_mult2 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_11 : BitVec 32 := 0#32
  let c1024_i32_5 : BitVec 32 := 1024#32
  let v15 : BitVec 32 := Scalar.subi c1024_i32_5 v11
  let c8_i32 : BitVec 32 := 8#32
  let c0_i32_6 : BitVec 32 := 0#32
  let v16 : BitVec 1 := Scalar.cmpi .eq c8_i32 c0_i32_6
  let c1_i32_7 : BitVec 32 := 1#32
  let v17 : BitVec 32 := Scalar.select v16 c1_i32_7 c8_i32
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let v26 : BitVec 32 := Scalar.select v10 c0_i32_11 v25
  let c1024_i32 : BitVec 32 := 1024#32
  let v12 : BitVec 32 := Scalar.subi c1024_i32 v11
  let v13 : BitVec 32 := Scalar.select v10 v12 v11
  let v27 : BitVec 32 := Scalar.addi v26 v13
  let c7_i32 : BitVec 32 := 7#32
  let v28 : BitVec 32 := Scalar.addi v27 c7_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c8_i32_12 : BitVec 32 := 8#32
  let c0_i32_15 : BitVec 32 := 0#32
  let v35 : BitVec 1 := Scalar.cmpi .sgt c8_i32_12 c0_i32_15
  let v36 : BitVec 32 := Scalar.extui v35
  let c0_i32_16 : BitVec 32 := 0#32
  let v37 : BitVec 1 := Scalar.cmpi .slt c8_i32_12 c0_i32_16
  let v38 : BitVec 32 := Scalar.extui v37
  let v39 : BitVec 32 := Scalar.subi v36 v38
  let v40 : BitVec 1 := Scalar.cmpi .ne v34 v39
  let v41 : BitVec 32 := Scalar.remsi v28 c8_i32_12
  let c0_i32_17 : BitVec 32 := 0#32
  let v42 : BitVec 1 := Scalar.cmpi .ne v41 c0_i32_17
  let v43 : BitVec 1 := Scalar.andi v40 v42
  let v29 : BitVec 32 := Scalar.divsi v28 c8_i32_12
  let c1_i32_18 : BitVec 32 := 1#32
  let v44 : BitVec 32 := Scalar.subi v29 c1_i32_18
  let v45 : BitVec 32 := Scalar.select v43 v44 v29
  let c8_i32_19 : BitVec 32 := 8#32
  let v46 : BitVec 32 := Scalar.muli v45 c8_i32_19
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c32_i32 : BitVec 32 := 32#32
  let c0_i32_22 : BitVec 32 := 0#32
  let v53 : BitVec 1 := Scalar.cmpi .sgt c32_i32 c0_i32_22
  let v54 : BitVec 32 := Scalar.extui v53
  let c0_i32_23 : BitVec 32 := 0#32
  let v55 : BitVec 1 := Scalar.cmpi .slt c32_i32 c0_i32_23
  let v56 : BitVec 32 := Scalar.extui v55
  let v57 : BitVec 32 := Scalar.subi v54 v56
  let v58 : BitVec 1 := Scalar.cmpi .ne v52 v57
  let v59 : BitVec 32 := Scalar.remsi v46 c32_i32
  let c0_i32_24 : BitVec 32 := 0#32
  let v60 : BitVec 1 := Scalar.cmpi .ne v59 c0_i32_24
  let v61 : BitVec 1 := Scalar.andi v58 v60
  let v47 : BitVec 32 := Scalar.divsi v46 c32_i32
  let c1_i32_25 : BitVec 32 := 1#32
  let v62 : BitVec 32 := Scalar.subi v47 c1_i32_25
  let v63 : BitVec 32 := Scalar.select v61 v62 v47
  let c32_i32_259 : BitVec 32 := 32#32
  let v486 : BitVec 32 := Scalar.muli v63 c32_i32_259
  let c8_i32_260 : BitVec 32 := 8#32
  let v487 : BitVec 32 := Scalar.addi v486 c8_i32_260
  v487
def k0_cond20 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_11 : BitVec 32 := 0#32
  let c1024_i32_5 : BitVec 32 := 1024#32
  let v15 : BitVec 32 := Scalar.subi c1024_i32_5 v11
  let c8_i32 : BitVec 32 := 8#32
  let c0_i32_6 : BitVec 32 := 0#32
  let v16 : BitVec 1 := Scalar.cmpi .eq c8_i32 c0_i32_6
  let c1_i32_7 : BitVec 32 := 1#32
  let v17 : BitVec 32 := Scalar.select v16 c1_i32_7 c8_i32
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let v26 : BitVec 32 := Scalar.select v10 c0_i32_11 v25
  let c1024_i32 : BitVec 32 := 1024#32
  let v12 : BitVec 32 := Scalar.subi c1024_i32 v11
  let v13 : BitVec 32 := Scalar.select v10 v12 v11
  let v27 : BitVec 32 := Scalar.addi v26 v13
  let c7_i32 : BitVec 32 := 7#32
  let v28 : BitVec 32 := Scalar.addi v27 c7_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c8_i32_12 : BitVec 32 := 8#32
  let c0_i32_15 : BitVec 32 := 0#32
  let v35 : BitVec 1 := Scalar.cmpi .sgt c8_i32_12 c0_i32_15
  let v36 : BitVec 32 := Scalar.extui v35
  let c0_i32_16 : BitVec 32 := 0#32
  let v37 : BitVec 1 := Scalar.cmpi .slt c8_i32_12 c0_i32_16
  let v38 : BitVec 32 := Scalar.extui v37
  let v39 : BitVec 32 := Scalar.subi v36 v38
  let v40 : BitVec 1 := Scalar.cmpi .ne v34 v39
  let v41 : BitVec 32 := Scalar.remsi v28 c8_i32_12
  let c0_i32_17 : BitVec 32 := 0#32
  let v42 : BitVec 1 := Scalar.cmpi .ne v41 c0_i32_17
  let v43 : BitVec 1 := Scalar.andi v40 v42
  let v29 : BitVec 32 := Scalar.divsi v28 c8_i32_12
  let c1_i32_18 : BitVec 32 := 1#32
  let v44 : BitVec 32 := Scalar.subi v29 c1_i32_18
  let v45 : BitVec 32 := Scalar.select v43 v44 v29
  let c8_i32_19 : BitVec 32 := 8#32
  let v46 : BitVec 32 := Scalar.muli v45 c8_i32_19
  let c32_i32_26 : BitVec 32 := 32#32
  let c0_i32_27 : BitVec 32 := 0#32
  let v64 : BitVec 1 := Scalar.cmpi .eq c32_i32_26 c0_i32_27
  let c1_i32_28 : BitVec 32 := 1#32
  let v65 : BitVec 32 := Scalar.select v64 c1_i32_28 c32_i32_26
  let v66 : BitVec 32 := Scalar.remsi v46 v65
  let c0_i32_30 : BitVec 32 := 0#32
  let v68 : BitVec 1 := Scalar.cmpi .slt v66 c0_i32_30
  let c0_i32_31 : BitVec 32 := 0#32
  let v69 : BitVec 1 := Scalar.cmpi .slt v65 c0_i32_31
  let v70 : BitVec 1 := Scalar.xori v68 v69
  let c0_i32_29 : BitVec 32 := 0#32
  let v67 : BitVec 1 := Scalar.cmpi .ne v66 c0_i32_29
  let v71 : BitVec 1 := Scalar.andi v70 v67
  let v72 : BitVec 32 := Scalar.addi v66 v65
  let v73 : BitVec 32 := Scalar.select v71 v72 v66
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c8_i32_32 : BitVec 32 := 8#32
  let c0_i32_35 : BitVec 32 := 0#32
  let v80 : BitVec 1 := Scalar.cmpi .sgt c8_i32_32 c0_i32_35
  let v81 : BitVec 32 := Scalar.extui v80
  let c0_i32_36 : BitVec 32 := 0#32
  let v82 : BitVec 1 := Scalar.cmpi .slt c8_i32_32 c0_i32_36
  let v83 : BitVec 32 := Scalar.extui v82
  let v84 : BitVec 32 := Scalar.subi v81 v83
  let v85 : BitVec 1 := Scalar.cmpi .ne v79 v84
  let v86 : BitVec 32 := Scalar.remsi v73 c8_i32_32
  let c0_i32_37 : BitVec 32 := 0#32
  let v87 : BitVec 1 := Scalar.cmpi .ne v86 c0_i32_37
  let v88 : BitVec 1 := Scalar.andi v85 v87
  let v74 : BitVec 32 := Scalar.divsi v73 c8_i32_32
  let c1_i32_38 : BitVec 32 := 1#32
  let v89 : BitVec 32 := Scalar.subi v74 c1_i32_38
  let v90 : BitVec 32 := Scalar.select v88 v89 v74
  let c1_i32_116 : BitVec 32 := 1#32
  let v260 : BitVec 1 := Scalar.cmpi .sgt v90 c1_i32_116
  let v261 : BitVec 32 := Scalar.extui v260
  let c0_i32_117 : BitVec 32 := 0#32
  let v262 : BitVec 1 := Scalar.cmpi .ne v261 c0_i32_117
  v262

def k0_off2 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_11 : BitVec 32 := 0#32
  let c1024_i32_5 : BitVec 32 := 1024#32
  let v15 : BitVec 32 := Scalar.subi c1024_i32_5 v11
  let c8_i32 : BitVec 32 := 8#32
  let c0_i32_6 : BitVec 32 := 0#32
  let v16 : BitVec 1 := Scalar.cmpi .eq c8_i32 c0_i32_6
  let c1_i32_7 : BitVec 32 := 1#32
  let v17 : BitVec 32 := Scalar.select v16 c1_i32_7 c8_i32
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let v26 : BitVec 32 := Scalar.select v10 c0_i32_11 v25
  let c1024_i32 : BitVec 32 := 1024#32
  let v12 : BitVec 32 := Scalar.subi c1024_i32 v11
  let v13 : BitVec 32 := Scalar.select v10 v12 v11
  let v27 : BitVec 32 := Scalar.addi v26 v13
  let c7_i32 : BitVec 32 := 7#32
  let v28 : BitVec 32 := Scalar.addi v27 c7_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c8_i32_12 : BitVec 32 := 8#32
  let c0_i32_15 : BitVec 32 := 0#32
  let v35 : BitVec 1 := Scalar.cmpi .sgt c8_i32_12 c0_i32_15
  let v36 : BitVec 32 := Scalar.extui v35
  let c0_i32_16 : BitVec 32 := 0#32
  let v37 : BitVec 1 := Scalar.cmpi .slt c8_i32_12 c0_i32_16
  let v38 : BitVec 32 := Scalar.extui v37
  let v39 : BitVec 32 := Scalar.subi v36 v38
  let v40 : BitVec 1 := Scalar.cmpi .ne v34 v39
  let v41 : BitVec 32 := Scalar.remsi v28 c8_i32_12
  let c0_i32_17 : BitVec 32 := 0#32
  let v42 : BitVec 1 := Scalar.cmpi .ne v41 c0_i32_17
  let v43 : BitVec 1 := Scalar.andi v40 v42
  let v29 : BitVec 32 := Scalar.divsi v28 c8_i32_12
  let c1_i32_18 : BitVec 32 := 1#32
  let v44 : BitVec 32 := Scalar.subi v29 c1_i32_18
  let v45 : BitVec 32 := Scalar.select v43 v44 v29
  let c8_i32_19 : BitVec 32 := 8#32
  let v46 : BitVec 32 := Scalar.muli v45 c8_i32_19
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c32_i32 : BitVec 32 := 32#32
  let c0_i32_22 : BitVec 32 := 0#32
  let v53 : BitVec 1 := Scalar.cmpi .sgt c32_i32 c0_i32_22
  let v54 : BitVec 32 := Scalar.extui v53
  let c0_i32_23 : BitVec 32 := 0#32
  let v55 : BitVec 1 := Scalar.cmpi .slt c32_i32 c0_i32_23
  let v56 : BitVec 32 := Scalar.extui v55
  let v57 : BitVec 32 := Scalar.subi v54 v56
  let v58 : BitVec 1 := Scalar.cmpi .ne v52 v57
  let v59 : BitVec 32 := Scalar.remsi v46 c32_i32
  let c0_i32_24 : BitVec 32 := 0#32
  let v60 : BitVec 1 := Scalar.cmpi .ne v59 c0_i32_24
  let v61 : BitVec 1 := Scalar.andi v58 v60
  let v47 : BitVec 32 := Scalar.divsi v46 c32_i32
  let c1_i32_25 : BitVec 32 := 1#32
  let v62 : BitVec 32 := Scalar.subi v47 c1_i32_25
  let v63 : BitVec 32 := Scalar.select v61 v62 v47
  let c32_i32_259 : BitVec 32 := 32#32
  let v486 : BitVec 32 := Scalar.muli v63 c32_i32_259
  let c8_i32_260 : BitVec 32 := 8#32
  let v487 : BitVec 32 := Scalar.addi v486 c8_i32_260
  let v488 : BitVec 32 := v487
  let c0_i32_267 : BitVec 32 := 0#32
  ![v488.toNat, 0]
def k0_dev21 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v489 : BitVec 32 := Scalar.muli v2 c4_i32_263
  let v490 : BitVec 32 := Scalar.addi c0_i32_264 v489
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_265 : BitVec 32 := 2#32
  let v491 : BitVec 32 := Scalar.muli v9 c2_i32_265
  let v492 : BitVec 32 := Scalar.addi v490 v491
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v493 : BitVec 32 := Scalar.muli v8 c1_i32_266
  let v494 : BitVec 32 := Scalar.addi v492 v493
  v494.toNat
def k0_mult3 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_11 : BitVec 32 := 0#32
  let c1024_i32_5 : BitVec 32 := 1024#32
  let v15 : BitVec 32 := Scalar.subi c1024_i32_5 v11
  let c8_i32 : BitVec 32 := 8#32
  let c0_i32_6 : BitVec 32 := 0#32
  let v16 : BitVec 1 := Scalar.cmpi .eq c8_i32 c0_i32_6
  let c1_i32_7 : BitVec 32 := 1#32
  let v17 : BitVec 32 := Scalar.select v16 c1_i32_7 c8_i32
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let v26 : BitVec 32 := Scalar.select v10 c0_i32_11 v25
  let c1024_i32 : BitVec 32 := 1024#32
  let v12 : BitVec 32 := Scalar.subi c1024_i32 v11
  let v13 : BitVec 32 := Scalar.select v10 v12 v11
  let v27 : BitVec 32 := Scalar.addi v26 v13
  let c7_i32 : BitVec 32 := 7#32
  let v28 : BitVec 32 := Scalar.addi v27 c7_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c8_i32_12 : BitVec 32 := 8#32
  let c0_i32_15 : BitVec 32 := 0#32
  let v35 : BitVec 1 := Scalar.cmpi .sgt c8_i32_12 c0_i32_15
  let v36 : BitVec 32 := Scalar.extui v35
  let c0_i32_16 : BitVec 32 := 0#32
  let v37 : BitVec 1 := Scalar.cmpi .slt c8_i32_12 c0_i32_16
  let v38 : BitVec 32 := Scalar.extui v37
  let v39 : BitVec 32 := Scalar.subi v36 v38
  let v40 : BitVec 1 := Scalar.cmpi .ne v34 v39
  let v41 : BitVec 32 := Scalar.remsi v28 c8_i32_12
  let c0_i32_17 : BitVec 32 := 0#32
  let v42 : BitVec 1 := Scalar.cmpi .ne v41 c0_i32_17
  let v43 : BitVec 1 := Scalar.andi v40 v42
  let v29 : BitVec 32 := Scalar.divsi v28 c8_i32_12
  let c1_i32_18 : BitVec 32 := 1#32
  let v44 : BitVec 32 := Scalar.subi v29 c1_i32_18
  let v45 : BitVec 32 := Scalar.select v43 v44 v29
  let c8_i32_19 : BitVec 32 := 8#32
  let v46 : BitVec 32 := Scalar.muli v45 c8_i32_19
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c32_i32 : BitVec 32 := 32#32
  let c0_i32_22 : BitVec 32 := 0#32
  let v53 : BitVec 1 := Scalar.cmpi .sgt c32_i32 c0_i32_22
  let v54 : BitVec 32 := Scalar.extui v53
  let c0_i32_23 : BitVec 32 := 0#32
  let v55 : BitVec 1 := Scalar.cmpi .slt c32_i32 c0_i32_23
  let v56 : BitVec 32 := Scalar.extui v55
  let v57 : BitVec 32 := Scalar.subi v54 v56
  let v58 : BitVec 1 := Scalar.cmpi .ne v52 v57
  let v59 : BitVec 32 := Scalar.remsi v46 c32_i32
  let c0_i32_24 : BitVec 32 := 0#32
  let v60 : BitVec 1 := Scalar.cmpi .ne v59 c0_i32_24
  let v61 : BitVec 1 := Scalar.andi v58 v60
  let v47 : BitVec 32 := Scalar.divsi v46 c32_i32
  let c1_i32_25 : BitVec 32 := 1#32
  let v62 : BitVec 32 := Scalar.subi v47 c1_i32_25
  let v63 : BitVec 32 := Scalar.select v61 v62 v47
  let c32_i32_259 : BitVec 32 := 32#32
  let v486 : BitVec 32 := Scalar.muli v63 c32_i32_259
  let c16_i32_260 : BitVec 32 := 16#32
  let v487 : BitVec 32 := Scalar.addi v486 c16_i32_260
  v487
def k0_cond21 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_11 : BitVec 32 := 0#32
  let c1024_i32_5 : BitVec 32 := 1024#32
  let v15 : BitVec 32 := Scalar.subi c1024_i32_5 v11
  let c8_i32 : BitVec 32 := 8#32
  let c0_i32_6 : BitVec 32 := 0#32
  let v16 : BitVec 1 := Scalar.cmpi .eq c8_i32 c0_i32_6
  let c1_i32_7 : BitVec 32 := 1#32
  let v17 : BitVec 32 := Scalar.select v16 c1_i32_7 c8_i32
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let v26 : BitVec 32 := Scalar.select v10 c0_i32_11 v25
  let c1024_i32 : BitVec 32 := 1024#32
  let v12 : BitVec 32 := Scalar.subi c1024_i32 v11
  let v13 : BitVec 32 := Scalar.select v10 v12 v11
  let v27 : BitVec 32 := Scalar.addi v26 v13
  let c7_i32 : BitVec 32 := 7#32
  let v28 : BitVec 32 := Scalar.addi v27 c7_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c8_i32_12 : BitVec 32 := 8#32
  let c0_i32_15 : BitVec 32 := 0#32
  let v35 : BitVec 1 := Scalar.cmpi .sgt c8_i32_12 c0_i32_15
  let v36 : BitVec 32 := Scalar.extui v35
  let c0_i32_16 : BitVec 32 := 0#32
  let v37 : BitVec 1 := Scalar.cmpi .slt c8_i32_12 c0_i32_16
  let v38 : BitVec 32 := Scalar.extui v37
  let v39 : BitVec 32 := Scalar.subi v36 v38
  let v40 : BitVec 1 := Scalar.cmpi .ne v34 v39
  let v41 : BitVec 32 := Scalar.remsi v28 c8_i32_12
  let c0_i32_17 : BitVec 32 := 0#32
  let v42 : BitVec 1 := Scalar.cmpi .ne v41 c0_i32_17
  let v43 : BitVec 1 := Scalar.andi v40 v42
  let v29 : BitVec 32 := Scalar.divsi v28 c8_i32_12
  let c1_i32_18 : BitVec 32 := 1#32
  let v44 : BitVec 32 := Scalar.subi v29 c1_i32_18
  let v45 : BitVec 32 := Scalar.select v43 v44 v29
  let c8_i32_19 : BitVec 32 := 8#32
  let v46 : BitVec 32 := Scalar.muli v45 c8_i32_19
  let c32_i32_26 : BitVec 32 := 32#32
  let c0_i32_27 : BitVec 32 := 0#32
  let v64 : BitVec 1 := Scalar.cmpi .eq c32_i32_26 c0_i32_27
  let c1_i32_28 : BitVec 32 := 1#32
  let v65 : BitVec 32 := Scalar.select v64 c1_i32_28 c32_i32_26
  let v66 : BitVec 32 := Scalar.remsi v46 v65
  let c0_i32_30 : BitVec 32 := 0#32
  let v68 : BitVec 1 := Scalar.cmpi .slt v66 c0_i32_30
  let c0_i32_31 : BitVec 32 := 0#32
  let v69 : BitVec 1 := Scalar.cmpi .slt v65 c0_i32_31
  let v70 : BitVec 1 := Scalar.xori v68 v69
  let c0_i32_29 : BitVec 32 := 0#32
  let v67 : BitVec 1 := Scalar.cmpi .ne v66 c0_i32_29
  let v71 : BitVec 1 := Scalar.andi v70 v67
  let v72 : BitVec 32 := Scalar.addi v66 v65
  let v73 : BitVec 32 := Scalar.select v71 v72 v66
  let c0_i32_33 : BitVec 32 := 0#32
  let v75 : BitVec 1 := Scalar.cmpi .sgt v73 c0_i32_33
  let v76 : BitVec 32 := Scalar.extui v75
  let c0_i32_34 : BitVec 32 := 0#32
  let v77 : BitVec 1 := Scalar.cmpi .slt v73 c0_i32_34
  let v78 : BitVec 32 := Scalar.extui v77
  let v79 : BitVec 32 := Scalar.subi v76 v78
  let c8_i32_32 : BitVec 32 := 8#32
  let c0_i32_35 : BitVec 32 := 0#32
  let v80 : BitVec 1 := Scalar.cmpi .sgt c8_i32_32 c0_i32_35
  let v81 : BitVec 32 := Scalar.extui v80
  let c0_i32_36 : BitVec 32 := 0#32
  let v82 : BitVec 1 := Scalar.cmpi .slt c8_i32_32 c0_i32_36
  let v83 : BitVec 32 := Scalar.extui v82
  let v84 : BitVec 32 := Scalar.subi v81 v83
  let v85 : BitVec 1 := Scalar.cmpi .ne v79 v84
  let v86 : BitVec 32 := Scalar.remsi v73 c8_i32_32
  let c0_i32_37 : BitVec 32 := 0#32
  let v87 : BitVec 1 := Scalar.cmpi .ne v86 c0_i32_37
  let v88 : BitVec 1 := Scalar.andi v85 v87
  let v74 : BitVec 32 := Scalar.divsi v73 c8_i32_32
  let c1_i32_38 : BitVec 32 := 1#32
  let v89 : BitVec 32 := Scalar.subi v74 c1_i32_38
  let v90 : BitVec 32 := Scalar.select v88 v89 v74
  let c2_i32_118 : BitVec 32 := 2#32
  let v263 : BitVec 1 := Scalar.cmpi .sgt v90 c2_i32_118
  let v264 : BitVec 32 := Scalar.extui v263
  let c0_i32_119 : BitVec 32 := 0#32
  let v265 : BitVec 1 := Scalar.cmpi .ne v264 c0_i32_119
  v265

def k0_off3 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_11 : BitVec 32 := 0#32
  let c1024_i32_5 : BitVec 32 := 1024#32
  let v15 : BitVec 32 := Scalar.subi c1024_i32_5 v11
  let c8_i32 : BitVec 32 := 8#32
  let c0_i32_6 : BitVec 32 := 0#32
  let v16 : BitVec 1 := Scalar.cmpi .eq c8_i32 c0_i32_6
  let c1_i32_7 : BitVec 32 := 1#32
  let v17 : BitVec 32 := Scalar.select v16 c1_i32_7 c8_i32
  let v18 : BitVec 32 := Scalar.remsi v15 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let v26 : BitVec 32 := Scalar.select v10 c0_i32_11 v25
  let c1024_i32 : BitVec 32 := 1024#32
  let v12 : BitVec 32 := Scalar.subi c1024_i32 v11
  let v13 : BitVec 32 := Scalar.select v10 v12 v11
  let v27 : BitVec 32 := Scalar.addi v26 v13
  let c7_i32 : BitVec 32 := 7#32
  let v28 : BitVec 32 := Scalar.addi v27 c7_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c8_i32_12 : BitVec 32 := 8#32
  let c0_i32_15 : BitVec 32 := 0#32
  let v35 : BitVec 1 := Scalar.cmpi .sgt c8_i32_12 c0_i32_15
  let v36 : BitVec 32 := Scalar.extui v35
  let c0_i32_16 : BitVec 32 := 0#32
  let v37 : BitVec 1 := Scalar.cmpi .slt c8_i32_12 c0_i32_16
  let v38 : BitVec 32 := Scalar.extui v37
  let v39 : BitVec 32 := Scalar.subi v36 v38
  let v40 : BitVec 1 := Scalar.cmpi .ne v34 v39
  let v41 : BitVec 32 := Scalar.remsi v28 c8_i32_12
  let c0_i32_17 : BitVec 32 := 0#32
  let v42 : BitVec 1 := Scalar.cmpi .ne v41 c0_i32_17
  let v43 : BitVec 1 := Scalar.andi v40 v42
  let v29 : BitVec 32 := Scalar.divsi v28 c8_i32_12
  let c1_i32_18 : BitVec 32 := 1#32
  let v44 : BitVec 32 := Scalar.subi v29 c1_i32_18
  let v45 : BitVec 32 := Scalar.select v43 v44 v29
  let c8_i32_19 : BitVec 32 := 8#32
  let v46 : BitVec 32 := Scalar.muli v45 c8_i32_19
  let c0_i32_20 : BitVec 32 := 0#32
  let v48 : BitVec 1 := Scalar.cmpi .sgt v46 c0_i32_20
  let v49 : BitVec 32 := Scalar.extui v48
  let c0_i32_21 : BitVec 32 := 0#32
  let v50 : BitVec 1 := Scalar.cmpi .slt v46 c0_i32_21
  let v51 : BitVec 32 := Scalar.extui v50
  let v52 : BitVec 32 := Scalar.subi v49 v51
  let c32_i32 : BitVec 32 := 32#32
  let c0_i32_22 : BitVec 32 := 0#32
  let v53 : BitVec 1 := Scalar.cmpi .sgt c32_i32 c0_i32_22
  let v54 : BitVec 32 := Scalar.extui v53
  let c0_i32_23 : BitVec 32 := 0#32
  let v55 : BitVec 1 := Scalar.cmpi .slt c32_i32 c0_i32_23
  let v56 : BitVec 32 := Scalar.extui v55
  let v57 : BitVec 32 := Scalar.subi v54 v56
  let v58 : BitVec 1 := Scalar.cmpi .ne v52 v57
  let v59 : BitVec 32 := Scalar.remsi v46 c32_i32
  let c0_i32_24 : BitVec 32 := 0#32
  let v60 : BitVec 1 := Scalar.cmpi .ne v59 c0_i32_24
  let v61 : BitVec 1 := Scalar.andi v58 v60
  let v47 : BitVec 32 := Scalar.divsi v46 c32_i32
  let c1_i32_25 : BitVec 32 := 1#32
  let v62 : BitVec 32 := Scalar.subi v47 c1_i32_25
  let v63 : BitVec 32 := Scalar.select v61 v62 v47
  let c32_i32_259 : BitVec 32 := 32#32
  let v486 : BitVec 32 := Scalar.muli v63 c32_i32_259
  let c16_i32_260 : BitVec 32 := 16#32
  let v487 : BitVec 32 := Scalar.addi v486 c16_i32_260
  let v488 : BitVec 32 := v487
  let c0_i32_267 : BitVec 32 := 0#32
  ![v488.toNat, 0]
def k0_dev22 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v489 : BitVec 32 := Scalar.muli v2 c4_i32_263
  let v490 : BitVec 32 := Scalar.addi c0_i32_264 v489
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_265 : BitVec 32 := 2#32
  let v491 : BitVec 32 := Scalar.muli v9 c2_i32_265
  let v492 : BitVec 32 := Scalar.addi v490 v491
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v493 : BitVec 32 := Scalar.muli v8 c1_i32_266
  let v494 : BitVec 32 := Scalar.addi v492 v493
  v494.toNat
def k0_mult4 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  v356
def k0_mult5 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c0_i32_260 : BitVec 32 := 0#32
  let v494 : BitVec 32 := Scalar.addi v357 c0_i32_260
  v494
def k0_cond43 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c0_i32_175 : BitVec 32 := 0#32
  let v360 : BitVec 1 := Scalar.cmpi .sgt v137 c0_i32_175
  let v361 : BitVec 32 := Scalar.extui v360
  let c0_i32_176 : BitVec 32 := 0#32
  let v362 : BitVec 1 := Scalar.cmpi .ne v361 c0_i32_176
  v362

def k0_off4 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c0_i32_260 : BitVec 32 := 0#32
  let v494 : BitVec 32 := Scalar.addi v357 c0_i32_260
  let v495 : BitVec 32 := v494
  let v498 : Index := Scalar.indexCast v495
  let c0_263 : Index := 0#32
  ![v498.toNat, 0]
def k0_mult6 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c32_i32_260 : BitVec 32 := 32#32
  let v494 : BitVec 32 := Scalar.addi v357 c32_i32_260
  v494
def k0_cond44 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c1_i32_177 : BitVec 32 := 1#32
  let v363 : BitVec 1 := Scalar.cmpi .sgt v137 c1_i32_177
  let v364 : BitVec 32 := Scalar.extui v363
  let c0_i32_178 : BitVec 32 := 0#32
  let v365 : BitVec 1 := Scalar.cmpi .ne v364 c0_i32_178
  v365

def k0_off5 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c32_i32_260 : BitVec 32 := 32#32
  let v494 : BitVec 32 := Scalar.addi v357 c32_i32_260
  let v495 : BitVec 32 := v494
  let v498 : Index := Scalar.indexCast v495
  let c0_262 : Index := 0#32
  ![v498.toNat, 0]
def k0_mult7 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c64_i32_259 : BitVec 32 := 64#32
  let v494 : BitVec 32 := Scalar.addi v357 c64_i32_259
  v494
def k0_cond45 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c2_i32_179 : BitVec 32 := 2#32
  let v366 : BitVec 1 := Scalar.cmpi .sgt v137 c2_i32_179
  let v367 : BitVec 32 := Scalar.extui v366
  let c0_i32_180 : BitVec 32 := 0#32
  let v368 : BitVec 1 := Scalar.cmpi .ne v367 c0_i32_180
  v368

def k0_off6 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c64_i32_259 : BitVec 32 := 64#32
  let v494 : BitVec 32 := Scalar.addi v357 c64_i32_259
  let v495 : BitVec 32 := v494
  let v498 : Index := Scalar.indexCast v495
  let c0_261 : Index := 0#32
  ![v498.toNat, 0]
def k0_mult8 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c96_i32_259 : BitVec 32 := 96#32
  let v494 : BitVec 32 := Scalar.addi v357 c96_i32_259
  v494
def k0_cond46 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c3_i32_181 : BitVec 32 := 3#32
  let v369 : BitVec 1 := Scalar.cmpi .sgt v137 c3_i32_181
  let v370 : BitVec 32 := Scalar.extui v369
  let c0_i32_182 : BitVec 32 := 0#32
  let v371 : BitVec 1 := Scalar.cmpi .ne v370 c0_i32_182
  v371

def k0_off7 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c96_i32_259 : BitVec 32 := 96#32
  let v494 : BitVec 32 := Scalar.addi v357 c96_i32_259
  let v495 : BitVec 32 := v494
  let v498 : Index := Scalar.indexCast v495
  let c0_261 : Index := 0#32
  ![v498.toNat, 0]
def k0_mult9 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c128_i32_259 : BitVec 32 := 128#32
  let v494 : BitVec 32 := Scalar.addi v357 c128_i32_259
  v494
def k0_cond47 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c4_i32_183 : BitVec 32 := 4#32
  let v372 : BitVec 1 := Scalar.cmpi .sgt v137 c4_i32_183
  let v373 : BitVec 32 := Scalar.extui v372
  let c0_i32_184 : BitVec 32 := 0#32
  let v374 : BitVec 1 := Scalar.cmpi .ne v373 c0_i32_184
  v374

def k0_off8 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c128_i32_259 : BitVec 32 := 128#32
  let v494 : BitVec 32 := Scalar.addi v357 c128_i32_259
  let v495 : BitVec 32 := v494
  let v498 : Index := Scalar.indexCast v495
  let c0_261 : Index := 0#32
  ![v498.toNat, 0]
def k0_mult10 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c160_i32_259 : BitVec 32 := 160#32
  let v494 : BitVec 32 := Scalar.addi v357 c160_i32_259
  v494
def k0_cond48 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c5_i32_185 : BitVec 32 := 5#32
  let v375 : BitVec 1 := Scalar.cmpi .sgt v137 c5_i32_185
  let v376 : BitVec 32 := Scalar.extui v375
  let c0_i32_186 : BitVec 32 := 0#32
  let v377 : BitVec 1 := Scalar.cmpi .ne v376 c0_i32_186
  v377

def k0_off9 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c160_i32_259 : BitVec 32 := 160#32
  let v494 : BitVec 32 := Scalar.addi v357 c160_i32_259
  let v495 : BitVec 32 := v494
  let v498 : Index := Scalar.indexCast v495
  let c0_261 : Index := 0#32
  ![v498.toNat, 0]
def k0_mult11 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c192_i32_259 : BitVec 32 := 192#32
  let v494 : BitVec 32 := Scalar.addi v357 c192_i32_259
  v494
def k0_cond49 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c6_i32_187 : BitVec 32 := 6#32
  let v378 : BitVec 1 := Scalar.cmpi .sgt v137 c6_i32_187
  let v379 : BitVec 32 := Scalar.extui v378
  let c0_i32_188 : BitVec 32 := 0#32
  let v380 : BitVec 1 := Scalar.cmpi .ne v379 c0_i32_188
  v380

def k0_off10 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c192_i32_259 : BitVec 32 := 192#32
  let v494 : BitVec 32 := Scalar.addi v357 c192_i32_259
  let v495 : BitVec 32 := v494
  let v498 : Index := Scalar.indexCast v495
  let c0_261 : Index := 0#32
  ![v498.toNat, 0]
def k0_mult12 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c224_i32_259 : BitVec 32 := 224#32
  let v494 : BitVec 32 := Scalar.addi v357 c224_i32_259
  v494
def k0_cond50 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c7_i32_189 : BitVec 32 := 7#32
  let v381 : BitVec 1 := Scalar.cmpi .sgt v137 c7_i32_189
  let v382 : BitVec 32 := Scalar.extui v381
  let c0_i32_190 : BitVec 32 := 0#32
  let v383 : BitVec 1 := Scalar.cmpi .ne v382 c0_i32_190
  v383

def k0_off11 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c224_i32_259 : BitVec 32 := 224#32
  let v494 : BitVec 32 := Scalar.addi v357 c224_i32_259
  let v495 : BitVec 32 := v494
  let v498 : Index := Scalar.indexCast v495
  let c0_261 : Index := 0#32
  ![v498.toNat, 0]
def k0_mult13 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c256_i32_259 : BitVec 32 := 256#32
  let v494 : BitVec 32 := Scalar.addi v357 c256_i32_259
  v494
def k0_cond51 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c8_i32_191 : BitVec 32 := 8#32
  let v384 : BitVec 1 := Scalar.cmpi .sgt v137 c8_i32_191
  let v385 : BitVec 32 := Scalar.extui v384
  let c0_i32_192 : BitVec 32 := 0#32
  let v386 : BitVec 1 := Scalar.cmpi .ne v385 c0_i32_192
  v386

def k0_off12 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c256_i32_259 : BitVec 32 := 256#32
  let v494 : BitVec 32 := Scalar.addi v357 c256_i32_259
  let v495 : BitVec 32 := v494
  let v498 : Index := Scalar.indexCast v495
  let c0_261 : Index := 0#32
  ![v498.toNat, 0]
def k0_mult14 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c288_i32_260 : BitVec 32 := 288#32
  let v494 : BitVec 32 := Scalar.addi v357 c288_i32_260
  v494
def k0_cond52 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c9_i32_193 : BitVec 32 := 9#32
  let v387 : BitVec 1 := Scalar.cmpi .sgt v137 c9_i32_193
  let v388 : BitVec 32 := Scalar.extui v387
  let c0_i32_194 : BitVec 32 := 0#32
  let v389 : BitVec 1 := Scalar.cmpi .ne v388 c0_i32_194
  v389

def k0_off13 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c288_i32_260 : BitVec 32 := 288#32
  let v494 : BitVec 32 := Scalar.addi v357 c288_i32_260
  let v495 : BitVec 32 := v494
  let v498 : Index := Scalar.indexCast v495
  let c0_263 : Index := 0#32
  ![v498.toNat, 0]
def k0_mult15 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c320_i32_259 : BitVec 32 := 320#32
  let v494 : BitVec 32 := Scalar.addi v357 c320_i32_259
  v494
def k0_cond53 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c10_i32_195 : BitVec 32 := 10#32
  let v390 : BitVec 1 := Scalar.cmpi .sgt v137 c10_i32_195
  let v391 : BitVec 32 := Scalar.extui v390
  let c0_i32_196 : BitVec 32 := 0#32
  let v392 : BitVec 1 := Scalar.cmpi .ne v391 c0_i32_196
  v392

def k0_off14 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c320_i32_259 : BitVec 32 := 320#32
  let v494 : BitVec 32 := Scalar.addi v357 c320_i32_259
  let v495 : BitVec 32 := v494
  let v498 : Index := Scalar.indexCast v495
  let c0_261 : Index := 0#32
  ![v498.toNat, 0]
def k0_mult16 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c352_i32_259 : BitVec 32 := 352#32
  let v494 : BitVec 32 := Scalar.addi v357 c352_i32_259
  v494
def k0_cond54 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c11_i32_197 : BitVec 32 := 11#32
  let v393 : BitVec 1 := Scalar.cmpi .sgt v137 c11_i32_197
  let v394 : BitVec 32 := Scalar.extui v393
  let c0_i32_198 : BitVec 32 := 0#32
  let v395 : BitVec 1 := Scalar.cmpi .ne v394 c0_i32_198
  v395

def k0_off15 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c352_i32_259 : BitVec 32 := 352#32
  let v494 : BitVec 32 := Scalar.addi v357 c352_i32_259
  let v495 : BitVec 32 := v494
  let v498 : Index := Scalar.indexCast v495
  let c0_261 : Index := 0#32
  ![v498.toNat, 0]
def k0_mult17 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c384_i32_259 : BitVec 32 := 384#32
  let v494 : BitVec 32 := Scalar.addi v357 c384_i32_259
  v494
def k0_cond55 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c12_i32_199 : BitVec 32 := 12#32
  let v396 : BitVec 1 := Scalar.cmpi .sgt v137 c12_i32_199
  let v397 : BitVec 32 := Scalar.extui v396
  let c0_i32_200 : BitVec 32 := 0#32
  let v398 : BitVec 1 := Scalar.cmpi .ne v397 c0_i32_200
  v398

def k0_off16 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c384_i32_259 : BitVec 32 := 384#32
  let v494 : BitVec 32 := Scalar.addi v357 c384_i32_259
  let v495 : BitVec 32 := v494
  let v498 : Index := Scalar.indexCast v495
  let c0_261 : Index := 0#32
  ![v498.toNat, 0]
def k0_mult18 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c416_i32_259 : BitVec 32 := 416#32
  let v494 : BitVec 32 := Scalar.addi v357 c416_i32_259
  v494
def k0_cond56 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c13_i32_201 : BitVec 32 := 13#32
  let v399 : BitVec 1 := Scalar.cmpi .sgt v137 c13_i32_201
  let v400 : BitVec 32 := Scalar.extui v399
  let c0_i32_202 : BitVec 32 := 0#32
  let v401 : BitVec 1 := Scalar.cmpi .ne v400 c0_i32_202
  v401

def k0_off17 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c416_i32_259 : BitVec 32 := 416#32
  let v494 : BitVec 32 := Scalar.addi v357 c416_i32_259
  let v495 : BitVec 32 := v494
  let v498 : Index := Scalar.indexCast v495
  let c0_261 : Index := 0#32
  ![v498.toNat, 0]
def k0_mult19 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c448_i32_259 : BitVec 32 := 448#32
  let v494 : BitVec 32 := Scalar.addi v357 c448_i32_259
  v494
def k0_cond57 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c14_i32_203 : BitVec 32 := 14#32
  let v402 : BitVec 1 := Scalar.cmpi .sgt v137 c14_i32_203
  let v403 : BitVec 32 := Scalar.extui v402
  let c0_i32_204 : BitVec 32 := 0#32
  let v404 : BitVec 1 := Scalar.cmpi .ne v403 c0_i32_204
  v404

def k0_off18 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c448_i32_259 : BitVec 32 := 448#32
  let v494 : BitVec 32 := Scalar.addi v357 c448_i32_259
  let v495 : BitVec 32 := v494
  let v498 : Index := Scalar.indexCast v495
  let c0_261 : Index := 0#32
  ![v498.toNat, 0]
def k0_mult20 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c480_i32_259 : BitVec 32 := 480#32
  let v494 : BitVec 32 := Scalar.addi v357 c480_i32_259
  v494
def k0_cond58 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c15_i32_205 : BitVec 32 := 15#32
  let v405 : BitVec 1 := Scalar.cmpi .sgt v137 c15_i32_205
  let v406 : BitVec 32 := Scalar.extui v405
  let c0_i32_206 : BitVec 32 := 0#32
  let v407 : BitVec 1 := Scalar.cmpi .ne v406 c0_i32_206
  v407

def k0_off19 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c480_i32_259 : BitVec 32 := 480#32
  let v494 : BitVec 32 := Scalar.addi v357 c480_i32_259
  let v495 : BitVec 32 := v494
  let v498 : Index := Scalar.indexCast v495
  let c0_261 : Index := 0#32
  ![v498.toNat, 0]
def k0_mult21 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c512_i32_259 : BitVec 32 := 512#32
  let v494 : BitVec 32 := Scalar.addi v357 c512_i32_259
  v494
def k0_cond59 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c16_i32_207 : BitVec 32 := 16#32
  let v408 : BitVec 1 := Scalar.cmpi .sgt v137 c16_i32_207
  let v409 : BitVec 32 := Scalar.extui v408
  let c0_i32_208 : BitVec 32 := 0#32
  let v410 : BitVec 1 := Scalar.cmpi .ne v409 c0_i32_208
  v410

def k0_off20 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c512_i32_259 : BitVec 32 := 512#32
  let v494 : BitVec 32 := Scalar.addi v357 c512_i32_259
  let v495 : BitVec 32 := v494
  let v498 : Index := Scalar.indexCast v495
  let c0_261 : Index := 0#32
  ![v498.toNat, 0]
def k0_mult22 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c544_i32_259 : BitVec 32 := 544#32
  let v494 : BitVec 32 := Scalar.addi v357 c544_i32_259
  v494
def k0_cond60 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c17_i32_209 : BitVec 32 := 17#32
  let v411 : BitVec 1 := Scalar.cmpi .sgt v137 c17_i32_209
  let v412 : BitVec 32 := Scalar.extui v411
  let c0_i32_210 : BitVec 32 := 0#32
  let v413 : BitVec 1 := Scalar.cmpi .ne v412 c0_i32_210
  v413

def k0_off21 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c544_i32_259 : BitVec 32 := 544#32
  let v494 : BitVec 32 := Scalar.addi v357 c544_i32_259
  let v495 : BitVec 32 := v494
  let v498 : Index := Scalar.indexCast v495
  let c0_261 : Index := 0#32
  ![v498.toNat, 0]
def k0_mult23 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c32_i32_259 : BitVec 32 := 32#32
  let v486 : BitVec 32 := Scalar.muli v137 c32_i32_259
  let c0_i32_260 : BitVec 32 := 0#32
  let v487 : BitVec 32 := Scalar.addi v486 c0_i32_260
  let v496 : BitVec 32 := Scalar.addi v357 v487
  v496
def k0_cond61 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c32_i32_61 : BitVec 32 := 32#32
  let c0_i32_62 : BitVec 32 := 0#32
  let v138 : BitVec 1 := Scalar.cmpi .eq c32_i32_61 c0_i32_62
  let c1_i32_63 : BitVec 32 := 1#32
  let v139 : BitVec 32 := Scalar.select v138 c1_i32_63 c32_i32_61
  let v140 : BitVec 32 := Scalar.remsi v120 v139
  let c0_i32_65 : BitVec 32 := 0#32
  let v142 : BitVec 1 := Scalar.cmpi .slt v140 c0_i32_65
  let c0_i32_66 : BitVec 32 := 0#32
  let v143 : BitVec 1 := Scalar.cmpi .slt v139 c0_i32_66
  let v144 : BitVec 1 := Scalar.xori v142 v143
  let c0_i32_64 : BitVec 32 := 0#32
  let v141 : BitVec 1 := Scalar.cmpi .ne v140 c0_i32_64
  let v145 : BitVec 1 := Scalar.andi v144 v141
  let v146 : BitVec 32 := Scalar.addi v140 v139
  let v147 : BitVec 32 := Scalar.select v145 v146 v140
  let c0_i32_68 : BitVec 32 := 0#32
  let v149 : BitVec 1 := Scalar.cmpi .sgt v147 c0_i32_68
  let v150 : BitVec 32 := Scalar.extui v149
  let c0_i32_69 : BitVec 32 := 0#32
  let v151 : BitVec 1 := Scalar.cmpi .slt v147 c0_i32_69
  let v152 : BitVec 32 := Scalar.extui v151
  let v153 : BitVec 32 := Scalar.subi v150 v152
  let c8_i32_67 : BitVec 32 := 8#32
  let c0_i32_70 : BitVec 32 := 0#32
  let v154 : BitVec 1 := Scalar.cmpi .sgt c8_i32_67 c0_i32_70
  let v155 : BitVec 32 := Scalar.extui v154
  let c0_i32_71 : BitVec 32 := 0#32
  let v156 : BitVec 1 := Scalar.cmpi .slt c8_i32_67 c0_i32_71
  let v157 : BitVec 32 := Scalar.extui v156
  let v158 : BitVec 32 := Scalar.subi v155 v157
  let v159 : BitVec 1 := Scalar.cmpi .ne v153 v158
  let v160 : BitVec 32 := Scalar.remsi v147 c8_i32_67
  let c0_i32_72 : BitVec 32 := 0#32
  let v161 : BitVec 1 := Scalar.cmpi .ne v160 c0_i32_72
  let v162 : BitVec 1 := Scalar.andi v159 v161
  let v148 : BitVec 32 := Scalar.divsi v147 c8_i32_67
  let c1_i32_73 : BitVec 32 := 1#32
  let v163 : BitVec 32 := Scalar.subi v148 c1_i32_73
  let v164 : BitVec 32 := Scalar.select v162 v163 v148
  let c0_i32_211 : BitVec 32 := 0#32
  let v414 : BitVec 1 := Scalar.cmpi .sgt v164 c0_i32_211
  let v415 : BitVec 32 := Scalar.extui v414
  let c0_i32_212 : BitVec 32 := 0#32
  let v416 : BitVec 1 := Scalar.cmpi .ne v415 c0_i32_212
  v416

def k0_off22 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c32_i32_259 : BitVec 32 := 32#32
  let v486 : BitVec 32 := Scalar.muli v137 c32_i32_259
  let c0_i32_260 : BitVec 32 := 0#32
  let v487 : BitVec 32 := Scalar.addi v486 c0_i32_260
  let v498 : Index := Scalar.indexCast v487
  let c0_261 : Index := 0#32
  ![v498.toNat, 0]
def k0_off23 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c32_i32_259 : BitVec 32 := 32#32
  let v486 : BitVec 32 := Scalar.muli v137 c32_i32_259
  let c0_i32_260 : BitVec 32 := 0#32
  let v487 : BitVec 32 := Scalar.addi v486 c0_i32_260
  let v496 : BitVec 32 := Scalar.addi v357 v487
  let v497 : BitVec 32 := v496
  let v501 : Index := Scalar.indexCast v497
  let c0_262 : Index := 0#32
  ![v501.toNat, 0]
def k0_mult24 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c32_i32_259 : BitVec 32 := 32#32
  let v486 : BitVec 32 := Scalar.muli v137 c32_i32_259
  let c8_i32_260 : BitVec 32 := 8#32
  let v487 : BitVec 32 := Scalar.addi v486 c8_i32_260
  let v496 : BitVec 32 := Scalar.addi v357 v487
  v496
def k0_cond62 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c32_i32_61 : BitVec 32 := 32#32
  let c0_i32_62 : BitVec 32 := 0#32
  let v138 : BitVec 1 := Scalar.cmpi .eq c32_i32_61 c0_i32_62
  let c1_i32_63 : BitVec 32 := 1#32
  let v139 : BitVec 32 := Scalar.select v138 c1_i32_63 c32_i32_61
  let v140 : BitVec 32 := Scalar.remsi v120 v139
  let c0_i32_65 : BitVec 32 := 0#32
  let v142 : BitVec 1 := Scalar.cmpi .slt v140 c0_i32_65
  let c0_i32_66 : BitVec 32 := 0#32
  let v143 : BitVec 1 := Scalar.cmpi .slt v139 c0_i32_66
  let v144 : BitVec 1 := Scalar.xori v142 v143
  let c0_i32_64 : BitVec 32 := 0#32
  let v141 : BitVec 1 := Scalar.cmpi .ne v140 c0_i32_64
  let v145 : BitVec 1 := Scalar.andi v144 v141
  let v146 : BitVec 32 := Scalar.addi v140 v139
  let v147 : BitVec 32 := Scalar.select v145 v146 v140
  let c0_i32_68 : BitVec 32 := 0#32
  let v149 : BitVec 1 := Scalar.cmpi .sgt v147 c0_i32_68
  let v150 : BitVec 32 := Scalar.extui v149
  let c0_i32_69 : BitVec 32 := 0#32
  let v151 : BitVec 1 := Scalar.cmpi .slt v147 c0_i32_69
  let v152 : BitVec 32 := Scalar.extui v151
  let v153 : BitVec 32 := Scalar.subi v150 v152
  let c8_i32_67 : BitVec 32 := 8#32
  let c0_i32_70 : BitVec 32 := 0#32
  let v154 : BitVec 1 := Scalar.cmpi .sgt c8_i32_67 c0_i32_70
  let v155 : BitVec 32 := Scalar.extui v154
  let c0_i32_71 : BitVec 32 := 0#32
  let v156 : BitVec 1 := Scalar.cmpi .slt c8_i32_67 c0_i32_71
  let v157 : BitVec 32 := Scalar.extui v156
  let v158 : BitVec 32 := Scalar.subi v155 v157
  let v159 : BitVec 1 := Scalar.cmpi .ne v153 v158
  let v160 : BitVec 32 := Scalar.remsi v147 c8_i32_67
  let c0_i32_72 : BitVec 32 := 0#32
  let v161 : BitVec 1 := Scalar.cmpi .ne v160 c0_i32_72
  let v162 : BitVec 1 := Scalar.andi v159 v161
  let v148 : BitVec 32 := Scalar.divsi v147 c8_i32_67
  let c1_i32_73 : BitVec 32 := 1#32
  let v163 : BitVec 32 := Scalar.subi v148 c1_i32_73
  let v164 : BitVec 32 := Scalar.select v162 v163 v148
  let c1_i32_213 : BitVec 32 := 1#32
  let v417 : BitVec 1 := Scalar.cmpi .sgt v164 c1_i32_213
  let v418 : BitVec 32 := Scalar.extui v417
  let c0_i32_214 : BitVec 32 := 0#32
  let v419 : BitVec 1 := Scalar.cmpi .ne v418 c0_i32_214
  v419

def k0_off24 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c32_i32_259 : BitVec 32 := 32#32
  let v486 : BitVec 32 := Scalar.muli v137 c32_i32_259
  let c8_i32_260 : BitVec 32 := 8#32
  let v487 : BitVec 32 := Scalar.addi v486 c8_i32_260
  let v498 : Index := Scalar.indexCast v487
  let c0_261 : Index := 0#32
  ![v498.toNat, 0]
def k0_off25 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c32_i32_259 : BitVec 32 := 32#32
  let v486 : BitVec 32 := Scalar.muli v137 c32_i32_259
  let c8_i32_260 : BitVec 32 := 8#32
  let v487 : BitVec 32 := Scalar.addi v486 c8_i32_260
  let v496 : BitVec 32 := Scalar.addi v357 v487
  let v497 : BitVec 32 := v496
  let v501 : Index := Scalar.indexCast v497
  let c0_262 : Index := 0#32
  ![v501.toNat, 0]
def k0_mult25 (d0 : Dev nD) (v11 : BitVec 32) : BitVec 32 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c32_i32_259 : BitVec 32 := 32#32
  let v486 : BitVec 32 := Scalar.muli v137 c32_i32_259
  let c16_i32_260 : BitVec 32 := 16#32
  let v487 : BitVec 32 := Scalar.addi v486 c16_i32_260
  let v496 : BitVec 32 := Scalar.addi v357 v487
  v496
def k0_cond63 (d0 : Dev nD) (v11 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c32_i32_61 : BitVec 32 := 32#32
  let c0_i32_62 : BitVec 32 := 0#32
  let v138 : BitVec 1 := Scalar.cmpi .eq c32_i32_61 c0_i32_62
  let c1_i32_63 : BitVec 32 := 1#32
  let v139 : BitVec 32 := Scalar.select v138 c1_i32_63 c32_i32_61
  let v140 : BitVec 32 := Scalar.remsi v120 v139
  let c0_i32_65 : BitVec 32 := 0#32
  let v142 : BitVec 1 := Scalar.cmpi .slt v140 c0_i32_65
  let c0_i32_66 : BitVec 32 := 0#32
  let v143 : BitVec 1 := Scalar.cmpi .slt v139 c0_i32_66
  let v144 : BitVec 1 := Scalar.xori v142 v143
  let c0_i32_64 : BitVec 32 := 0#32
  let v141 : BitVec 1 := Scalar.cmpi .ne v140 c0_i32_64
  let v145 : BitVec 1 := Scalar.andi v144 v141
  let v146 : BitVec 32 := Scalar.addi v140 v139
  let v147 : BitVec 32 := Scalar.select v145 v146 v140
  let c0_i32_68 : BitVec 32 := 0#32
  let v149 : BitVec 1 := Scalar.cmpi .sgt v147 c0_i32_68
  let v150 : BitVec 32 := Scalar.extui v149
  let c0_i32_69 : BitVec 32 := 0#32
  let v151 : BitVec 1 := Scalar.cmpi .slt v147 c0_i32_69
  let v152 : BitVec 32 := Scalar.extui v151
  let v153 : BitVec 32 := Scalar.subi v150 v152
  let c8_i32_67 : BitVec 32 := 8#32
  let c0_i32_70 : BitVec 32 := 0#32
  let v154 : BitVec 1 := Scalar.cmpi .sgt c8_i32_67 c0_i32_70
  let v155 : BitVec 32 := Scalar.extui v154
  let c0_i32_71 : BitVec 32 := 0#32
  let v156 : BitVec 1 := Scalar.cmpi .slt c8_i32_67 c0_i32_71
  let v157 : BitVec 32 := Scalar.extui v156
  let v158 : BitVec 32 := Scalar.subi v155 v157
  let v159 : BitVec 1 := Scalar.cmpi .ne v153 v158
  let v160 : BitVec 32 := Scalar.remsi v147 c8_i32_67
  let c0_i32_72 : BitVec 32 := 0#32
  let v161 : BitVec 1 := Scalar.cmpi .ne v160 c0_i32_72
  let v162 : BitVec 1 := Scalar.andi v159 v161
  let v148 : BitVec 32 := Scalar.divsi v147 c8_i32_67
  let c1_i32_73 : BitVec 32 := 1#32
  let v163 : BitVec 32 := Scalar.subi v148 c1_i32_73
  let v164 : BitVec 32 := Scalar.select v162 v163 v148
  let c2_i32_215 : BitVec 32 := 2#32
  let v420 : BitVec 1 := Scalar.cmpi .sgt v164 c2_i32_215
  let v421 : BitVec 32 := Scalar.extui v420
  let c0_i32_216 : BitVec 32 := 0#32
  let v422 : BitVec 1 := Scalar.cmpi .ne v421 c0_i32_216
  v422

def k0_off26 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c32_i32_259 : BitVec 32 := 32#32
  let v486 : BitVec 32 := Scalar.muli v137 c32_i32_259
  let c16_i32_260 : BitVec 32 := 16#32
  let v487 : BitVec 32 := Scalar.addi v486 c16_i32_260
  let v498 : Index := Scalar.indexCast v487
  let c0_261 : Index := 0#32
  ![v498.toNat, 0]
def k0_off27 (d0 : Dev nD) (v11 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 1 := Scalar.cmpi .eq v5 c0_i32
  let c0_i32_4 : BitVec 32 := 0#32
  let v14 : BitVec 32 := Scalar.select v10 v11 c0_i32_4
  let c0_i32_168 : BitVec 32 := 0#32
  let v340 : BitVec 1 := Scalar.cmpi .sgt v14 c0_i32_168
  let v341 : BitVec 32 := Scalar.extui v340
  let c0_i32_169 : BitVec 32 := 0#32
  let v342 : BitVec 1 := Scalar.cmpi .slt v14 c0_i32_169
  let v343 : BitVec 32 := Scalar.extui v342
  let v344 : BitVec 32 := Scalar.subi v341 v343
  let c8_i32_167 : BitVec 32 := 8#32
  let c0_i32_170 : BitVec 32 := 0#32
  let v345 : BitVec 1 := Scalar.cmpi .sgt c8_i32_167 c0_i32_170
  let v346 : BitVec 32 := Scalar.extui v345
  let c0_i32_171 : BitVec 32 := 0#32
  let v347 : BitVec 1 := Scalar.cmpi .slt c8_i32_167 c0_i32_171
  let v348 : BitVec 32 := Scalar.extui v347
  let v349 : BitVec 32 := Scalar.subi v346 v348
  let v350 : BitVec 1 := Scalar.cmpi .ne v344 v349
  let v351 : BitVec 32 := Scalar.remsi v14 c8_i32_167
  let c0_i32_172 : BitVec 32 := 0#32
  let v352 : BitVec 1 := Scalar.cmpi .ne v351 c0_i32_172
  let v353 : BitVec 1 := Scalar.andi v350 v352
  let v339 : BitVec 32 := Scalar.divsi v14 c8_i32_167
  let c1_i32_173 : BitVec 32 := 1#32
  let v354 : BitVec 32 := Scalar.subi v339 c1_i32_173
  let v355 : BitVec 32 := Scalar.select v353 v354 v339
  let c8_i32_174 : BitVec 32 := 8#32
  let v356 : BitVec 32 := Scalar.muli v355 c8_i32_174
  let v357 : BitVec 32 := v356
  let c8_i32_39 : BitVec 32 := 8#32
  let c0_i32_40 : BitVec 32 := 0#32
  let v91 : BitVec 1 := Scalar.cmpi .eq c8_i32_39 c0_i32_40
  let c1_i32_41 : BitVec 32 := 1#32
  let v92 : BitVec 32 := Scalar.select v91 c1_i32_41 c8_i32_39
  let v93 : BitVec 32 := Scalar.remsi v14 v92
  let c0_i32_43 : BitVec 32 := 0#32
  let v95 : BitVec 1 := Scalar.cmpi .slt v93 c0_i32_43
  let c0_i32_44 : BitVec 32 := 0#32
  let v96 : BitVec 1 := Scalar.cmpi .slt v92 c0_i32_44
  let v97 : BitVec 1 := Scalar.xori v95 v96
  let c0_i32_42 : BitVec 32 := 0#32
  let v94 : BitVec 1 := Scalar.cmpi .ne v93 c0_i32_42
  let v98 : BitVec 1 := Scalar.andi v97 v94
  let v99 : BitVec 32 := Scalar.addi v93 v92
  let v100 : BitVec 32 := Scalar.select v98 v99 v93
  let c1024_i32 : BitVec 32 := 1024#32
  let v12 : BitVec 32 := Scalar.subi c1024_i32 v11
  let v13 : BitVec 32 := Scalar.select v10 v12 v11
  let v101 : BitVec 32 := Scalar.addi v100 v13
  let c7_i32_45 : BitVec 32 := 7#32
  let v102 : BitVec 32 := Scalar.addi v101 c7_i32_45
  let c0_i32_47 : BitVec 32 := 0#32
  let v104 : BitVec 1 := Scalar.cmpi .sgt v102 c0_i32_47
  let v105 : BitVec 32 := Scalar.extui v104
  let c0_i32_48 : BitVec 32 := 0#32
  let v106 : BitVec 1 := Scalar.cmpi .slt v102 c0_i32_48
  let v107 : BitVec 32 := Scalar.extui v106
  let v108 : BitVec 32 := Scalar.subi v105 v107
  let c8_i32_46 : BitVec 32 := 8#32
  let c0_i32_49 : BitVec 32 := 0#32
  let v109 : BitVec 1 := Scalar.cmpi .sgt c8_i32_46 c0_i32_49
  let v110 : BitVec 32 := Scalar.extui v109
  let c0_i32_50 : BitVec 32 := 0#32
  let v111 : BitVec 1 := Scalar.cmpi .slt c8_i32_46 c0_i32_50
  let v112 : BitVec 32 := Scalar.extui v111
  let v113 : BitVec 32 := Scalar.subi v110 v112
  let v114 : BitVec 1 := Scalar.cmpi .ne v108 v113
  let v115 : BitVec 32 := Scalar.remsi v102 c8_i32_46
  let c0_i32_51 : BitVec 32 := 0#32
  let v116 : BitVec 1 := Scalar.cmpi .ne v115 c0_i32_51
  let v117 : BitVec 1 := Scalar.andi v114 v116
  let v103 : BitVec 32 := Scalar.divsi v102 c8_i32_46
  let c1_i32_52 : BitVec 32 := 1#32
  let v118 : BitVec 32 := Scalar.subi v103 c1_i32_52
  let v119 : BitVec 32 := Scalar.select v117 v118 v103
  let c8_i32_53 : BitVec 32 := 8#32
  let v120 : BitVec 32 := Scalar.muli v119 c8_i32_53
  let c0_i32_55 : BitVec 32 := 0#32
  let v122 : BitVec 1 := Scalar.cmpi .sgt v120 c0_i32_55
  let v123 : BitVec 32 := Scalar.extui v122
  let c0_i32_56 : BitVec 32 := 0#32
  let v124 : BitVec 1 := Scalar.cmpi .slt v120 c0_i32_56
  let v125 : BitVec 32 := Scalar.extui v124
  let v126 : BitVec 32 := Scalar.subi v123 v125
  let c32_i32_54 : BitVec 32 := 32#32
  let c0_i32_57 : BitVec 32 := 0#32
  let v127 : BitVec 1 := Scalar.cmpi .sgt c32_i32_54 c0_i32_57
  let v128 : BitVec 32 := Scalar.extui v127
  let c0_i32_58 : BitVec 32 := 0#32
  let v129 : BitVec 1 := Scalar.cmpi .slt c32_i32_54 c0_i32_58
  let v130 : BitVec 32 := Scalar.extui v129
  let v131 : BitVec 32 := Scalar.subi v128 v130
  let v132 : BitVec 1 := Scalar.cmpi .ne v126 v131
  let v133 : BitVec 32 := Scalar.remsi v120 c32_i32_54
  let c0_i32_59 : BitVec 32 := 0#32
  let v134 : BitVec 1 := Scalar.cmpi .ne v133 c0_i32_59
  let v135 : BitVec 1 := Scalar.andi v132 v134
  let v121 : BitVec 32 := Scalar.divsi v120 c32_i32_54
  let c1_i32_60 : BitVec 32 := 1#32
  let v136 : BitVec 32 := Scalar.subi v121 c1_i32_60
  let v137 : BitVec 32 := Scalar.select v135 v136 v121
  let c32_i32_259 : BitVec 32 := 32#32
  let v486 : BitVec 32 := Scalar.muli v137 c32_i32_259
  let c16_i32_260 : BitVec 32 := 16#32
  let v487 : BitVec 32 := Scalar.addi v486 c16_i32_260
  let v496 : BitVec 32 := Scalar.addi v357 v487
  let v497 : BitVec 32 := v496
  let v501 : Index := Scalar.indexCast v497
  let c0_262 : Index := 0#32
  ![v501.toNat, 0]

def k0_chk1_0 (d0 : Dev nD) (v11 : BitVec 32) : Prop :=
  (∀ (k0_h19 : k0_cond19 d0 v11 = 1#1), 8 ∣ (k0_mult1 d0 v11).toNat) ∧
  (∀ (k0_h19 : k0_cond19 d0 v11 = 1#1), ∀ a, (k0_off1 d0 v11) a + S8x512.size a ≤ S576x512.size a) ∧
  (∀ (k0_h19 : k0_cond19 d0 v11 = 1#1), ∀ (hinb : ∀ a, (k0_off1 d0 v11) a + S8x512.size a ≤ S576x512.size a), (Rect.unit (s := S576x512) (k0_off1 d0 v11) S8x512.size hinb).WholeWords (EltTy.packing .bf16)) ∧
  (∀ (k0_h20 : k0_cond20 d0 v11 = 1#1), 8 ∣ (k0_mult2 d0 v11).toNat) ∧
  (∀ (k0_h20 : k0_cond20 d0 v11 = 1#1), ∀ a, (k0_off2 d0 v11) a + S8x512.size a ≤ S576x512.size a) ∧
  (∀ (k0_h20 : k0_cond20 d0 v11 = 1#1), ∀ (hinb : ∀ a, (k0_off2 d0 v11) a + S8x512.size a ≤ S576x512.size a), (Rect.unit (s := S576x512) (k0_off2 d0 v11) S8x512.size hinb).WholeWords (EltTy.packing .bf16)) ∧
  (∀ (k0_h21 : k0_cond21 d0 v11 = 1#1), 8 ∣ (k0_mult3 d0 v11).toNat) ∧
  (∀ (k0_h21 : k0_cond21 d0 v11 = 1#1), ∀ a, (k0_off3 d0 v11) a + S8x512.size a ≤ S576x512.size a) ∧
  (∀ (k0_h21 : k0_cond21 d0 v11 = 1#1), ∀ (hinb : ∀ a, (k0_off3 d0 v11) a + S8x512.size a ≤ S576x512.size a), (Rect.unit (s := S576x512) (k0_off3 d0 v11) S8x512.size hinb).WholeWords (EltTy.packing .bf16)) ∧
  (8 ∣ (k0_mult4 d0 v11).toNat) ∧
  (∀ (k0_h43 : k0_cond43 d0 v11 = 1#1), 8 ∣ (k0_mult5 d0 v11).toNat) ∧
  (∀ (k0_h43 : k0_cond43 d0 v11 = 1#1), ∀ a, (k0_off4 d0 v11) a + S32x512.size a ≤ S1024x512.size a) ∧
  (∀ (k0_h44 : k0_cond44 d0 v11 = 1#1), 8 ∣ (k0_mult6 d0 v11).toNat) ∧
  (∀ (k0_h44 : k0_cond44 d0 v11 = 1#1), ∀ a, (k0_off5 d0 v11) a + S32x512.size a ≤ S1024x512.size a) ∧
  (∀ (k0_h45 : k0_cond45 d0 v11 = 1#1), 8 ∣ (k0_mult7 d0 v11).toNat) ∧
  (∀ (k0_h45 : k0_cond45 d0 v11 = 1#1), ∀ a, (k0_off6 d0 v11) a + S32x512.size a ≤ S1024x512.size a) ∧
  (∀ (k0_h46 : k0_cond46 d0 v11 = 1#1), 8 ∣ (k0_mult8 d0 v11).toNat) ∧
  (∀ (k0_h46 : k0_cond46 d0 v11 = 1#1), ∀ a, (k0_off7 d0 v11) a + S32x512.size a ≤ S1024x512.size a) ∧
  (∀ (k0_h47 : k0_cond47 d0 v11 = 1#1), 8 ∣ (k0_mult9 d0 v11).toNat) ∧
  (∀ (k0_h47 : k0_cond47 d0 v11 = 1#1), ∀ a, (k0_off8 d0 v11) a + S32x512.size a ≤ S1024x512.size a) ∧
  (∀ (k0_h48 : k0_cond48 d0 v11 = 1#1), 8 ∣ (k0_mult10 d0 v11).toNat) ∧
  (∀ (k0_h48 : k0_cond48 d0 v11 = 1#1), ∀ a, (k0_off9 d0 v11) a + S32x512.size a ≤ S1024x512.size a) ∧
  (∀ (k0_h49 : k0_cond49 d0 v11 = 1#1), 8 ∣ (k0_mult11 d0 v11).toNat) ∧
  (∀ (k0_h49 : k0_cond49 d0 v11 = 1#1), ∀ a, (k0_off10 d0 v11) a + S32x512.size a ≤ S1024x512.size a) ∧
  (∀ (k0_h50 : k0_cond50 d0 v11 = 1#1), 8 ∣ (k0_mult12 d0 v11).toNat) ∧
  (∀ (k0_h50 : k0_cond50 d0 v11 = 1#1), ∀ a, (k0_off11 d0 v11) a + S32x512.size a ≤ S1024x512.size a) ∧
  (∀ (k0_h51 : k0_cond51 d0 v11 = 1#1), 8 ∣ (k0_mult13 d0 v11).toNat) ∧
  (∀ (k0_h51 : k0_cond51 d0 v11 = 1#1), ∀ a, (k0_off12 d0 v11) a + S32x512.size a ≤ S1024x512.size a) ∧
  (∀ (k0_h52 : k0_cond52 d0 v11 = 1#1), 8 ∣ (k0_mult14 d0 v11).toNat) ∧
  (∀ (k0_h52 : k0_cond52 d0 v11 = 1#1), ∀ a, (k0_off13 d0 v11) a + S32x512.size a ≤ S1024x512.size a) ∧
  (∀ (k0_h53 : k0_cond53 d0 v11 = 1#1), 8 ∣ (k0_mult15 d0 v11).toNat) ∧
  (∀ (k0_h53 : k0_cond53 d0 v11 = 1#1), ∀ a, (k0_off14 d0 v11) a + S32x512.size a ≤ S1024x512.size a)
def k0_chk1_1 (d0 : Dev nD) (v11 : BitVec 32) : Prop :=
  (∀ (k0_h54 : k0_cond54 d0 v11 = 1#1), 8 ∣ (k0_mult16 d0 v11).toNat) ∧
  (∀ (k0_h54 : k0_cond54 d0 v11 = 1#1), ∀ a, (k0_off15 d0 v11) a + S32x512.size a ≤ S1024x512.size a) ∧
  (∀ (k0_h55 : k0_cond55 d0 v11 = 1#1), 8 ∣ (k0_mult17 d0 v11).toNat) ∧
  (∀ (k0_h55 : k0_cond55 d0 v11 = 1#1), ∀ a, (k0_off16 d0 v11) a + S32x512.size a ≤ S1024x512.size a) ∧
  (∀ (k0_h56 : k0_cond56 d0 v11 = 1#1), 8 ∣ (k0_mult18 d0 v11).toNat) ∧
  (∀ (k0_h56 : k0_cond56 d0 v11 = 1#1), ∀ a, (k0_off17 d0 v11) a + S32x512.size a ≤ S1024x512.size a) ∧
  (∀ (k0_h57 : k0_cond57 d0 v11 = 1#1), 8 ∣ (k0_mult19 d0 v11).toNat) ∧
  (∀ (k0_h57 : k0_cond57 d0 v11 = 1#1), ∀ a, (k0_off18 d0 v11) a + S32x512.size a ≤ S1024x512.size a) ∧
  (∀ (k0_h58 : k0_cond58 d0 v11 = 1#1), 8 ∣ (k0_mult20 d0 v11).toNat) ∧
  (∀ (k0_h58 : k0_cond58 d0 v11 = 1#1), ∀ a, (k0_off19 d0 v11) a + S32x512.size a ≤ S1024x512.size a) ∧
  (∀ (k0_h59 : k0_cond59 d0 v11 = 1#1), 8 ∣ (k0_mult21 d0 v11).toNat) ∧
  (∀ (k0_h59 : k0_cond59 d0 v11 = 1#1), ∀ a, (k0_off20 d0 v11) a + S32x512.size a ≤ S1024x512.size a) ∧
  (∀ (k0_h60 : k0_cond60 d0 v11 = 1#1), 8 ∣ (k0_mult22 d0 v11).toNat) ∧
  (∀ (k0_h60 : k0_cond60 d0 v11 = 1#1), ∀ a, (k0_off21 d0 v11) a + S32x512.size a ≤ S1024x512.size a) ∧
  (∀ (k0_h61 : k0_cond61 d0 v11 = 1#1), 8 ∣ (k0_mult23 d0 v11).toNat) ∧
  (∀ (k0_h61 : k0_cond61 d0 v11 = 1#1), ∀ a, (k0_off22 d0 v11) a + S8x512.size a ≤ S576x512.size a) ∧
  (∀ (k0_h61 : k0_cond61 d0 v11 = 1#1), ∀ a, (k0_off23 d0 v11) a + S8x512.size a ≤ S1024x512.size a) ∧
  (∀ (k0_h62 : k0_cond62 d0 v11 = 1#1), 8 ∣ (k0_mult24 d0 v11).toNat) ∧
  (∀ (k0_h62 : k0_cond62 d0 v11 = 1#1), ∀ a, (k0_off24 d0 v11) a + S8x512.size a ≤ S576x512.size a) ∧
  (∀ (k0_h62 : k0_cond62 d0 v11 = 1#1), ∀ a, (k0_off25 d0 v11) a + S8x512.size a ≤ S1024x512.size a) ∧
  (∀ (k0_h63 : k0_cond63 d0 v11 = 1#1), 8 ∣ (k0_mult25 d0 v11).toNat) ∧
  (∀ (k0_h63 : k0_cond63 d0 v11 = 1#1), ∀ a, (k0_off26 d0 v11) a + S8x512.size a ≤ S576x512.size a) ∧
  (∀ (k0_h63 : k0_cond63 d0 v11 = 1#1), ∀ a, (k0_off27 d0 v11) a + S8x512.size a ≤ S1024x512.size a)
def k0_chk1 (d0 : Dev nD) (v11 : BitVec 32) : Prop :=
  k0_chk1_0 d0 v11 ∧
  k0_chk1_1 d0 v11
theorem k0_mult1_dvd : ∀ (d0 : Dev nD) (v11 : BitVec 32) (k0_hw1 : k0_chk1 d0 v11), ∀ (k0_h19 : k0_cond19 d0 v11 = 1#1), 8 ∣ (k0_mult1 d0 v11).toNat := fun d0 v11 k0_hw1 k0_h19 => k0_hw1.1.1 k0_h19
theorem k0_off1_inb : ∀ (d0 : Dev nD) (v11 : BitVec 32) (k0_hw1 : k0_chk1 d0 v11), ∀ (k0_h19 : k0_cond19 d0 v11 = 1#1), ∀ a, (k0_off1 d0 v11) a + S8x512.size a ≤ S576x512.size a := fun d0 v11 k0_hw1 k0_h19 => k0_hw1.1.2.1 k0_h19
theorem k0_off1_wordsbf16 : ∀ (d0 : Dev nD) (v11 : BitVec 32) (k0_hw1 : k0_chk1 d0 v11), ∀ (k0_h19 : k0_cond19 d0 v11 = 1#1), (Rect.unit (s := S576x512) (k0_off1 d0 v11) S8x512.size (k0_off1_inb d0 v11 k0_hw1 k0_h19)).WholeWords (EltTy.packing .bf16) := fun d0 v11 k0_hw1 k0_h19 => k0_hw1.1.2.2.1 k0_h19 (k0_off1_inb d0 v11 k0_hw1 k0_h19)
theorem k0_mult2_dvd : ∀ (d0 : Dev nD) (v11 : BitVec 32) (k0_hw1 : k0_chk1 d0 v11), ∀ (k0_h20 : k0_cond20 d0 v11 = 1#1), 8 ∣ (k0_mult2 d0 v11).toNat := fun d0 v11 k0_hw1 k0_h20 => k0_hw1.1.2.2.2.1 k0_h20
theorem k0_off2_inb : ∀ (d0 : Dev nD) (v11 : BitVec 32) (k0_hw1 : k0_chk1 d0 v11), ∀ (k0_h20 : k0_cond20 d0 v11 = 1#1), ∀ a, (k0_off2 d0 v11) a + S8x512.size a ≤ S576x512.size a := fun d0 v11 k0_hw1 k0_h20 => k0_hw1.1.2.2.2.2.1 k0_h20
theorem k0_off2_wordsbf16 : ∀ (d0 : Dev nD) (v11 : BitVec 32) (k0_hw1 : k0_chk1 d0 v11), ∀ (k0_h20 : k0_cond20 d0 v11 = 1#1), (Rect.unit (s := S576x512) (k0_off2 d0 v11) S8x512.size (k0_off2_inb d0 v11 k0_hw1 k0_h20)).WholeWords (EltTy.packing .bf16) := fun d0 v11 k0_hw1 k0_h20 => k0_hw1.1.2.2.2.2.2.1 k0_h20 (k0_off2_inb d0 v11 k0_hw1 k0_h20)
theorem k0_mult3_dvd : ∀ (d0 : Dev nD) (v11 : BitVec 32) (k0_hw1 : k0_chk1 d0 v11), ∀ (k0_h21 : k0_cond21 d0 v11 = 1#1), 8 ∣ (k0_mult3 d0 v11).toNat := fun d0 v11 k0_hw1 k0_h21 => k0_hw1.1.2.2.2.2.2.2.1 k0_h21
theorem k0_off3_inb : ∀ (d0 : Dev nD) (v11 : BitVec 32) (k0_hw1 : k0_chk1 d0 v11), ∀ (k0_h21 : k0_cond21 d0 v11 = 1#1), ∀ a, (k0_off3 d0 v11) a + S8x512.size a ≤ S576x512.size a := fun d0 v11 k0_hw1 k0_h21 => k0_hw1.1.2.2.2.2.2.2.2.1 k0_h21
theorem k0_off3_wordsbf16 : ∀ (d0 : Dev nD) (v11 : BitVec 32) (k0_hw1 : k0_chk1 d0 v11), ∀ (k0_h21 : k0_cond21 d0 v11 = 1#1), (Rect.unit (s := S576x512) (k0_off3 d0 v11) S8x512.size (k0_off3_inb d0 v11 k0_hw1 k0_h21)).WholeWords (EltTy.packing .bf16) := fun d0 v11 k0_hw1 k0_h21 => k0_hw1.1.2.2.2.2.2.2.2.2.1 k0_h21 (k0_off3_inb d0 v11 k0_hw1 k0_h21)
theorem k0_mult4_dvd : ∀ (d0 : Dev nD) (v11 : BitVec 32) (k0_hw1 : k0_chk1 d0 v11), 8 ∣ (k0_mult4 d0 v11).toNat := fun d0 v11 k0_hw1 => k0_hw1.1.2.2.2.2.2.2.2.2.2.1
theorem k0_mult5_dvd : ∀ (d0 : Dev nD) (v11 : BitVec 32) (k0_hw1 : k0_chk1 d0 v11), ∀ (k0_h43 : k0_cond43 d0 v11 = 1#1), 8 ∣ (k0_mult5 d0 v11).toNat := fun d0 v11 k0_hw1 k0_h43 => k0_hw1.1.2.2.2.2.2.2.2.2.2.2.1 k0_h43
theorem k0_off4_inb : ∀ (d0 : Dev nD) (v11 : BitVec 32) (k0_hw1 : k0_chk1 d0 v11), ∀ (k0_h43 : k0_cond43 d0 v11 = 1#1), ∀ a, (k0_off4 d0 v11) a + S32x512.size a ≤ S1024x512.size a := fun d0 v11 k0_hw1 k0_h43 => k0_hw1.1.2.2.2.2.2.2.2.2.2.2.2.1 k0_h43
theorem k0_mult6_dvd : ∀ (d0 : Dev nD) (v11 : BitVec 32) (k0_hw1 : k0_chk1 d0 v11), ∀ (k0_h44 : k0_cond44 d0 v11 = 1#1), 8 ∣ (k0_mult6 d0 v11).toNat := fun d0 v11 k0_hw1 k0_h44 => k0_hw1.1.2.2.2.2.2.2.2.2.2.2.2.2.1 k0_h44
theorem k0_off5_inb : ∀ (d0 : Dev nD) (v11 : BitVec 32) (k0_hw1 : k0_chk1 d0 v11), ∀ (k0_h44 : k0_cond44 d0 v11 = 1#1), ∀ a, (k0_off5 d0 v11) a + S32x512.size a ≤ S1024x512.size a := fun d0 v11 k0_hw1 k0_h44 => k0_hw1.1.2.2.2.2.2.2.2.2.2.2.2.2.2.1 k0_h44
theorem k0_mult7_dvd : ∀ (d0 : Dev nD) (v11 : BitVec 32) (k0_hw1 : k0_chk1 d0 v11), ∀ (k0_h45 : k0_cond45 d0 v11 = 1#1), 8 ∣ (k0_mult7 d0 v11).toNat := fun d0 v11 k0_hw1 k0_h45 => k0_hw1.1.2.2.2.2.2.2.2.2.2.2.2.2.2.2.1 k0_h45
theorem k0_off6_inb : ∀ (d0 : Dev nD) (v11 : BitVec 32) (k0_hw1 : k0_chk1 d0 v11), ∀ (k0_h45 : k0_cond45 d0 v11 = 1#1), ∀ a, (k0_off6 d0 v11) a + S32x512.size a ≤ S1024x512.size a := fun d0 v11 k0_hw1 k0_h45 => k0_hw1.1.2.2.2.2.2.2.2.2.2.2.2.2.2.2.2.1 k0_h45
theorem k0_mult8_dvd : ∀ (d0 : Dev nD) (v11 : BitVec 32) (k0_hw1 : k0_chk1 d0 v11), ∀ (k0_h46 : k0_cond46 d0 v11 = 1#1), 8 ∣ (k0_mult8 d0 v11).toNat := fun d0 v11 k0_hw1 k0_h46 => k0_hw1.1.2.2.2.2.2.2.2.2.2.2.2.2.2.2.2.2.1 k0_h46
theorem k0_off7_inb : ∀ (d0 : Dev nD) (v11 : BitVec 32) (k0_hw1 : k0_chk1 d0 v11), ∀ (k0_h46 : k0_cond46 d0 v11 = 1#1), ∀ a, (k0_off7 d0 v11) a + S32x512.size a ≤ S1024x512.size a := fun d0 v11 k0_hw1 k0_h46 => k0_hw1.1.2.2.2.2.2.2.2.2.2.2.2.2.2.2.2.2.2.1 k0_h46
theorem k0_mult9_dvd : ∀ (d0 : Dev nD) (v11 : BitVec 32) (k0_hw1 : k0_chk1 d0 v11), ∀ (k0_h47 : k0_cond47 d0 v11 = 1#1), 8 ∣ (k0_mult9 d0 v11).toNat := fun d0 v11 k0_hw1 k0_h47 => k0_hw1.1.2.2.2.2.2.2.2.2.2.2.2.2.2.2.2.2.2.2.1 k0_h47
theorem k0_off8_inb : ∀ (d0 : Dev nD) (v11 : BitVec 32) (k0_hw1 : k0_chk1 d0 v11), ∀ (k0_h47 : k0_cond47 d0 v11 = 1#1), ∀ a, (k0_off8 d0 v11) a + S32x512.size a ≤ S1024x512.size a := fun d0 v11 k0_hw1 k0_h47 => k0_hw1.1.2.2.2.2.2.2.2.2.2.2.2.2.2.2.2.2.2.2.2.1 k0_h47
theorem k0_mult10_dvd : ∀ (d0 : Dev nD) (v11 : BitVec 32) (k0_hw1 : k0_chk1 d0 v11), ∀ (k0_h48 : k0_cond48 d0 v11 = 1#1), 8 ∣ (k0_mult10 d0 v11).toNat := fun d0 v11 k0_hw1 k0_h48 => k0_hw1.1.2.2.2.2.2.2.2.2.2.2.2.2.2.2.2.2.2.2.2.2.1 k0_h48
theorem k0_off9_inb : ∀ (d0 : Dev nD) (v11 : BitVec 32) (k0_hw1 : k0_chk1 d0 v11), ∀ (k0_h48 : k0_cond48 d0 v11 = 1#1), ∀ a, (k0_off9 d0 v11) a + S32x512.size a ≤ S1024x512.size a := fun d0 v11 k0_hw1 k0_h48 => k0_hw1.1.2.2.2.2.2.2.2.2.2.2.2.2.2.2.2.2.2.2.2.2.2.1 k0_h48
theorem k0_mult11_dvd : ∀ (d0 : Dev nD) (v11 : BitVec 32) (k0_hw1 : k0_chk1 d0 v11), ∀ (k0_h49 : k0_cond49 d0 v11 = 1#1), 8 ∣ (k0_mult11 d0 v11).toNat := fun d0 v11 k0_hw1 k0_h49 => k0_hw1.1.2.2.2.2.2.2.2.2.2.2.2.2.2.2.2.2.2.2.2.2.2.2.1 k0_h49
theorem k0_off10_inb : ∀ (d0 : Dev nD) (v11 : BitVec 32) (k0_hw1 : k0_chk1 d0 v11), ∀ (k0_h49 : k0_cond49 d0 v11 = 1#1), ∀ a, (k0_off10 d0 v11) a + S32x512.size a ≤ S1024x512.size a := fun d0 v11 k0_hw1 k0_h49 => k0_hw1.1.2.2.2.2.2.2.2.2.2.2.2.2.2.2.2.2.2.2.2.2.2.2.2.1 k0_h49
theorem k0_mult12_dvd : ∀ (d0 : Dev nD) (v11 : BitVec 32) (k0_hw1 : k0_chk1 d0 v11), ∀ (k0_h50 : k0_cond50 d0 v11 = 1#1), 8 ∣ (k0_mult12 d0 v11).toNat := fun d0 v11 k0_hw1 k0_h50 => k0_hw1.1.2.2.2.2.2.2.2.2.2.2.2.2.2.2.2.2.2.2.2.2.2.2.2.2.1 k0_h50
theorem k0_off11_inb : ∀ (d0 : Dev nD) (v11 : BitVec 32) (k0_hw1 : k0_chk1 d0 v11), ∀ (k0_h50 : k0_cond50 d0 v11 = 1#1), ∀ a, (k0_off11 d0 v11) a + S32x512.size a ≤ S1024x512.size a := fun d0 v11 k0_hw1 k0_h50 => k0_hw1.1.2.2.2.2.2.2.2.2.2.2.2.2.2.2.2.2.2.2.2.2.2.2.2.2.2.1 k0_h50
theorem k0_mult13_dvd : ∀ (d0 : Dev nD) (v11 : BitVec 32) (k0_hw1 : k0_chk1 d0 v11), ∀ (k0_h51 : k0_cond51 d0 v11 = 1#1), 8 ∣ (k0_mult13 d0 v11).toNat := fun d0 v11 k0_hw1 k0_h51 => k0_hw1.1.2.2.2.2.2.2.2.2.2.2.2.2.2.2.2.2.2.2.2.2.2.2.2.2.2.2.1 k0_h51
theorem k0_off12_inb : ∀ (d0 : Dev nD) (v11 : BitVec 32) (k0_hw1 : k0_chk1 d0 v11), ∀ (k0_h51 : k0_cond51 d0 v11 = 1#1), ∀ a, (k0_off12 d0 v11) a + S32x512.size a ≤ S1024x512.size a := fun d0 v11 k0_hw1 k0_h51 => k0_hw1.1.2.2.2.2.2.2.2.2.2.2.2.2.2.2.2.2.2.2.2.2.2.2.2.2.2.2.2.1 k0_h51
theorem k0_mult14_dvd : ∀ (d0 : Dev nD) (v11 : BitVec 32) (k0_hw1 : k0_chk1 d0 v11), ∀ (k0_h52 : k0_cond52 d0 v11 = 1#1), 8 ∣ (k0_mult14 d0 v11).toNat := fun d0 v11 k0_hw1 k0_h52 => k0_hw1.1.2.2.2.2.2.2.2.2.2.2.2.2.2.2.2.2.2.2.2.2.2.2.2.2.2.2.2.2.1 k0_h52
theorem k0_off13_inb : ∀ (d0 : Dev nD) (v11 : BitVec 32) (k0_hw1 : k0_chk1 d0 v11), ∀ (k0_h52 : k0_cond52 d0 v11 = 1#1), ∀ a, (k0_off13 d0 v11) a + S32x512.size a ≤ S1024x512.size a := fun d0 v11 k0_hw1 k0_h52 => k0_hw1.1.2.2.2.2.2.2.2.2.2.2.2.2.2.2.2.2.2.2.2.2.2.2.2.2.2.2.2.2.2.1 k0_h52
theorem k0_mult15_dvd : ∀ (d0 : Dev nD) (v11 : BitVec 32) (k0_hw1 : k0_chk1 d0 v11), ∀ (k0_h53 : k0_cond53 d0 v11 = 1#1), 8 ∣ (k0_mult15 d0 v11).toNat := fun d0 v11 k0_hw1 k0_h53 => k0_hw1.1.2.2.2.2.2.2.2.2.2.2.2.2.2.2.2.2.2.2.2.2.2.2.2.2.2.2.2.2.2.2.1 k0_h53
theorem k0_off14_inb : ∀ (d0 : Dev nD) (v11 : BitVec 32) (k0_hw1 : k0_chk1 d0 v11), ∀ (k0_h53 : k0_cond53 d0 v11 = 1#1), ∀ a, (k0_off14 d0 v11) a + S32x512.size a ≤ S1024x512.size a := fun d0 v11 k0_hw1 k0_h53 => k0_hw1.1.2.2.2.2.2.2.2.2.2.2.2.2.2.2.2.2.2.2.2.2.2.2.2.2.2.2.2.2.2.2.2 k0_h53
theorem k0_mult16_dvd : ∀ (d0 : Dev nD) (v11 : BitVec 32) (k0_hw1 : k0_chk1 d0 v11), ∀ (k0_h54 : k0_cond54 d0 v11 = 1#1), 8 ∣ (k0_mult16 d0 v11).toNat := fun d0 v11 k0_hw1 k0_h54 => k0_hw1.2.1 k0_h54
theorem k0_off15_inb : ∀ (d0 : Dev nD) (v11 : BitVec 32) (k0_hw1 : k0_chk1 d0 v11), ∀ (k0_h54 : k0_cond54 d0 v11 = 1#1), ∀ a, (k0_off15 d0 v11) a + S32x512.size a ≤ S1024x512.size a := fun d0 v11 k0_hw1 k0_h54 => k0_hw1.2.2.1 k0_h54
theorem k0_mult17_dvd : ∀ (d0 : Dev nD) (v11 : BitVec 32) (k0_hw1 : k0_chk1 d0 v11), ∀ (k0_h55 : k0_cond55 d0 v11 = 1#1), 8 ∣ (k0_mult17 d0 v11).toNat := fun d0 v11 k0_hw1 k0_h55 => k0_hw1.2.2.2.1 k0_h55
theorem k0_off16_inb : ∀ (d0 : Dev nD) (v11 : BitVec 32) (k0_hw1 : k0_chk1 d0 v11), ∀ (k0_h55 : k0_cond55 d0 v11 = 1#1), ∀ a, (k0_off16 d0 v11) a + S32x512.size a ≤ S1024x512.size a := fun d0 v11 k0_hw1 k0_h55 => k0_hw1.2.2.2.2.1 k0_h55
theorem k0_mult18_dvd : ∀ (d0 : Dev nD) (v11 : BitVec 32) (k0_hw1 : k0_chk1 d0 v11), ∀ (k0_h56 : k0_cond56 d0 v11 = 1#1), 8 ∣ (k0_mult18 d0 v11).toNat := fun d0 v11 k0_hw1 k0_h56 => k0_hw1.2.2.2.2.2.1 k0_h56
theorem k0_off17_inb : ∀ (d0 : Dev nD) (v11 : BitVec 32) (k0_hw1 : k0_chk1 d0 v11), ∀ (k0_h56 : k0_cond56 d0 v11 = 1#1), ∀ a, (k0_off17 d0 v11) a + S32x512.size a ≤ S1024x512.size a := fun d0 v11 k0_hw1 k0_h56 => k0_hw1.2.2.2.2.2.2.1 k0_h56
theorem k0_mult19_dvd : ∀ (d0 : Dev nD) (v11 : BitVec 32) (k0_hw1 : k0_chk1 d0 v11), ∀ (k0_h57 : k0_cond57 d0 v11 = 1#1), 8 ∣ (k0_mult19 d0 v11).toNat := fun d0 v11 k0_hw1 k0_h57 => k0_hw1.2.2.2.2.2.2.2.1 k0_h57
theorem k0_off18_inb : ∀ (d0 : Dev nD) (v11 : BitVec 32) (k0_hw1 : k0_chk1 d0 v11), ∀ (k0_h57 : k0_cond57 d0 v11 = 1#1), ∀ a, (k0_off18 d0 v11) a + S32x512.size a ≤ S1024x512.size a := fun d0 v11 k0_hw1 k0_h57 => k0_hw1.2.2.2.2.2.2.2.2.1 k0_h57
theorem k0_mult20_dvd : ∀ (d0 : Dev nD) (v11 : BitVec 32) (k0_hw1 : k0_chk1 d0 v11), ∀ (k0_h58 : k0_cond58 d0 v11 = 1#1), 8 ∣ (k0_mult20 d0 v11).toNat := fun d0 v11 k0_hw1 k0_h58 => k0_hw1.2.2.2.2.2.2.2.2.2.1 k0_h58
theorem k0_off19_inb : ∀ (d0 : Dev nD) (v11 : BitVec 32) (k0_hw1 : k0_chk1 d0 v11), ∀ (k0_h58 : k0_cond58 d0 v11 = 1#1), ∀ a, (k0_off19 d0 v11) a + S32x512.size a ≤ S1024x512.size a := fun d0 v11 k0_hw1 k0_h58 => k0_hw1.2.2.2.2.2.2.2.2.2.2.1 k0_h58
theorem k0_mult21_dvd : ∀ (d0 : Dev nD) (v11 : BitVec 32) (k0_hw1 : k0_chk1 d0 v11), ∀ (k0_h59 : k0_cond59 d0 v11 = 1#1), 8 ∣ (k0_mult21 d0 v11).toNat := fun d0 v11 k0_hw1 k0_h59 => k0_hw1.2.2.2.2.2.2.2.2.2.2.2.1 k0_h59
theorem k0_off20_inb : ∀ (d0 : Dev nD) (v11 : BitVec 32) (k0_hw1 : k0_chk1 d0 v11), ∀ (k0_h59 : k0_cond59 d0 v11 = 1#1), ∀ a, (k0_off20 d0 v11) a + S32x512.size a ≤ S1024x512.size a := fun d0 v11 k0_hw1 k0_h59 => k0_hw1.2.2.2.2.2.2.2.2.2.2.2.2.1 k0_h59
theorem k0_mult22_dvd : ∀ (d0 : Dev nD) (v11 : BitVec 32) (k0_hw1 : k0_chk1 d0 v11), ∀ (k0_h60 : k0_cond60 d0 v11 = 1#1), 8 ∣ (k0_mult22 d0 v11).toNat := fun d0 v11 k0_hw1 k0_h60 => k0_hw1.2.2.2.2.2.2.2.2.2.2.2.2.2.1 k0_h60
theorem k0_off21_inb : ∀ (d0 : Dev nD) (v11 : BitVec 32) (k0_hw1 : k0_chk1 d0 v11), ∀ (k0_h60 : k0_cond60 d0 v11 = 1#1), ∀ a, (k0_off21 d0 v11) a + S32x512.size a ≤ S1024x512.size a := fun d0 v11 k0_hw1 k0_h60 => k0_hw1.2.2.2.2.2.2.2.2.2.2.2.2.2.2.1 k0_h60
theorem k0_mult23_dvd : ∀ (d0 : Dev nD) (v11 : BitVec 32) (k0_hw1 : k0_chk1 d0 v11), ∀ (k0_h61 : k0_cond61 d0 v11 = 1#1), 8 ∣ (k0_mult23 d0 v11).toNat := fun d0 v11 k0_hw1 k0_h61 => k0_hw1.2.2.2.2.2.2.2.2.2.2.2.2.2.2.2.1 k0_h61
theorem k0_off22_inb : ∀ (d0 : Dev nD) (v11 : BitVec 32) (k0_hw1 : k0_chk1 d0 v11), ∀ (k0_h61 : k0_cond61 d0 v11 = 1#1), ∀ a, (k0_off22 d0 v11) a + S8x512.size a ≤ S576x512.size a := fun d0 v11 k0_hw1 k0_h61 => k0_hw1.2.2.2.2.2.2.2.2.2.2.2.2.2.2.2.2.1 k0_h61
theorem k0_off23_inb : ∀ (d0 : Dev nD) (v11 : BitVec 32) (k0_hw1 : k0_chk1 d0 v11), ∀ (k0_h61 : k0_cond61 d0 v11 = 1#1), ∀ a, (k0_off23 d0 v11) a + S8x512.size a ≤ S1024x512.size a := fun d0 v11 k0_hw1 k0_h61 => k0_hw1.2.2.2.2.2.2.2.2.2.2.2.2.2.2.2.2.2.1 k0_h61
theorem k0_mult24_dvd : ∀ (d0 : Dev nD) (v11 : BitVec 32) (k0_hw1 : k0_chk1 d0 v11), ∀ (k0_h62 : k0_cond62 d0 v11 = 1#1), 8 ∣ (k0_mult24 d0 v11).toNat := fun d0 v11 k0_hw1 k0_h62 => k0_hw1.2.2.2.2.2.2.2.2.2.2.2.2.2.2.2.2.2.2.1 k0_h62
theorem k0_off24_inb : ∀ (d0 : Dev nD) (v11 : BitVec 32) (k0_hw1 : k0_chk1 d0 v11), ∀ (k0_h62 : k0_cond62 d0 v11 = 1#1), ∀ a, (k0_off24 d0 v11) a + S8x512.size a ≤ S576x512.size a := fun d0 v11 k0_hw1 k0_h62 => k0_hw1.2.2.2.2.2.2.2.2.2.2.2.2.2.2.2.2.2.2.2.1 k0_h62
theorem k0_off25_inb : ∀ (d0 : Dev nD) (v11 : BitVec 32) (k0_hw1 : k0_chk1 d0 v11), ∀ (k0_h62 : k0_cond62 d0 v11 = 1#1), ∀ a, (k0_off25 d0 v11) a + S8x512.size a ≤ S1024x512.size a := fun d0 v11 k0_hw1 k0_h62 => k0_hw1.2.2.2.2.2.2.2.2.2.2.2.2.2.2.2.2.2.2.2.2.1 k0_h62
theorem k0_mult25_dvd : ∀ (d0 : Dev nD) (v11 : BitVec 32) (k0_hw1 : k0_chk1 d0 v11), ∀ (k0_h63 : k0_cond63 d0 v11 = 1#1), 8 ∣ (k0_mult25 d0 v11).toNat := fun d0 v11 k0_hw1 k0_h63 => k0_hw1.2.2.2.2.2.2.2.2.2.2.2.2.2.2.2.2.2.2.2.2.2.1 k0_h63
theorem k0_off26_inb : ∀ (d0 : Dev nD) (v11 : BitVec 32) (k0_hw1 : k0_chk1 d0 v11), ∀ (k0_h63 : k0_cond63 d0 v11 = 1#1), ∀ a, (k0_off26 d0 v11) a + S8x512.size a ≤ S576x512.size a := fun d0 v11 k0_hw1 k0_h63 => k0_hw1.2.2.2.2.2.2.2.2.2.2.2.2.2.2.2.2.2.2.2.2.2.2.1 k0_h63
theorem k0_off27_inb : ∀ (d0 : Dev nD) (v11 : BitVec 32) (k0_hw1 : k0_chk1 d0 v11), ∀ (k0_h63 : k0_cond63 d0 v11 = 1#1), ∀ a, (k0_off27 d0 v11) a + S8x512.size a ≤ S1024x512.size a := fun d0 v11 k0_hw1 k0_h63 => k0_hw1.2.2.2.2.2.2.2.2.2.2.2.2.2.2.2.2.2.2.2.2.2.2.2 k0_h63

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S1x1, .i32⟩
  | .hbm, ⟨18, _⟩ => ⟨S2048x1, .i32⟩
  | .hbm, ⟨19, _⟩ => ⟨S2048x1, .i1⟩
  | .hbm, ⟨20, _⟩ => ⟨S2048x1, .i1⟩
  | .hbm, ⟨21, _⟩ => ⟨S_, .i1⟩
  | .hbm, ⟨22, _⟩ => ⟨S2048, .i1⟩
  | .hbm, ⟨23, _⟩ => ⟨S2048x512, .f32⟩
  | .hbm, ⟨24, _⟩ => ⟨S2048x512, .i1⟩
  | .hbm, ⟨25, _⟩ => ⟨S_, .f32⟩
  | .hbm, ⟨26, _⟩ => ⟨S2048x512, .f32⟩
  | .hbm, ⟨27, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_call1_c : Ref sig .tc := ⟨.hbm, 5, rfl⟩
abbrev main_call1_v0 : Ref sig .tc := ⟨.hbm, 6, rfl⟩
abbrev main_call1_v1 : Ref sig .tc := ⟨.hbm, 7, rfl⟩
abbrev main_call1_c_0 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_c_1 : Ref sig .tc := ⟨.hbm, 13, rfl⟩
abbrev main_call1_c_2 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_3 : Ref sig .tc := ⟨.hbm, 21, rfl⟩
abbrev main_call1_v12 : Ref sig .tc := ⟨.hbm, 22, rfl⟩
abbrev main_call1_v13 : Ref sig .tc := ⟨.hbm, 23, rfl⟩
abbrev main_call1_v14 : Ref sig .tc := ⟨.hbm, 24, rfl⟩
abbrev main_call1_cst : Ref sig .tc := ⟨.hbm, 25, rfl⟩
abbrev main_call1_v15 : Ref sig .tc := ⟨.hbm, 26, rfl⟩
abbrev main_v1 : Ref sig .tc := ⟨.hbm, 27, rfl⟩

abbrev nD : Nat := 1
abbrev τ : Topo := Topo.v7x

variable {F : FTy → Type} [FloatOps F]
-- ==== Proof.Chunks.lean ====
/- The arithmetic of the exchange. The mesh pairs each device with the one whose position on the middle axis differs; the two exchange rows. What a device sends is cut
   into at most 18 chunks of 32 rows and at most 3 chunks of 8 rows, one after another from row 0 of its send buffer. -/
module

public import Mathlib.Data.Finset.Basic
public import Mathlib.Algebra.Order.Group.Nat
public import Mathlib.Tactic.Common
public import Mathlib.Order.Interval.Finset.Nat

@[expose] public section

namespace Cert.Proof

/-- The device's position on the axis along which the rows are exchanged. -/
def yOf (c : Fin 8) : ℕ := c.val / 2 % 2

/-- The device at the other position of that axis. -/
def pr (c : Fin 8) : Fin 8 := if c.val / 2 % 2 = 0 then c + 2 else c - 2

/-- The partner's partner is the device. -/
theorem pr_pr (c : Fin 8) : pr (pr c) = c := by revert c; decide

/-- The partner is another device. -/
theorem pr_ne (c : Fin 8) : pr c ≠ c := by revert c; decide

/-- The two devices of a pair have the two positions. -/
theorem yOf_pr (c : Fin 8) : yOf (pr c) = 1 - yOf c := by revert c; decide

/-- There are two positions. -/
theorem yOf_lt (c : Fin 8) : yOf c = 0 ∨ yOf c = 1 := by revert c; decide

/-- The rows of chunk k. -/
def rowsOf (k : ℕ) : ℕ := if k < 18 then 32 else 8

/-- Whether chunk k is sent, of a device whose rows to send take s groups of 8. -/
def act (s k : ℕ) : Prop := if k < 18 then k < s / 4 else k - 18 < s % 4

instance (s k : ℕ) : Decidable (act s k) := by unfold act; infer_instance

/-- The first row of chunk k. -/
def pos (s k : ℕ) : ℕ := 32 * min (min k 18) (s / 4) + 8 * min (k - 18) (s % 4)

/-- The first chunk starts at row 0. -/
theorem pos_zero (s : ℕ) : pos s 0 = 0 := by unfold pos; omega

/-- Later chunks start no earlier. -/
theorem pos_mono (s : ℕ) {j k : ℕ} (h : j ≤ k) : pos s j ≤ pos s k := by unfold pos; omega

/-- A chunk that is sent ends where the next begins. -/
theorem pos_succ {s k : ℕ} (h : act s k) (hs : s ≤ 72) (hk : k < 21) : pos s (k + 1) = pos s k + rowsOf k := by
  unfold act at h; unfold pos rowsOf
  split at h <;> rename_i h18
  · rw [if_pos h18]; omega
  · rw [if_neg h18]; omega

/-- A chunk that is not sent has no rows. -/
theorem pos_succ_not {s k : ℕ} (h : ¬act s k) : pos s (k + 1) = pos s k := by
  unfold act at h; unfold pos
  split at h <;> omega

/-- All the rows sent. -/
theorem pos_end {s : ℕ} (hs : s ≤ 72) : pos s 21 = 8 * s := by unfold pos; omega

/-- Every chunk starts inside the buffer or at its end. -/
theorem pos_le {s : ℕ} (hs : s ≤ 72) (k : ℕ) : pos s k ≤ 576 := by unfold pos; omega

/-- The chunks of 32 rows sit at the multiples of 32. -/
theorem pos_big {s k : ℕ} (h : act s k) (hs : s ≤ 72) (hk : k < 18) : pos s k = 32 * k := by
  unfold act at h; unfold pos; rw [if_pos hk] at h; omega

/-- The chunks of 8 rows follow the last chunk of 32. -/
theorem pos_small {s j : ℕ} (h : act s (18 + j)) (hs : s ≤ 72) : pos s (18 + j) = 32 * (s / 4) + 8 * j := by
  unfold act at h; unfold pos; rw [if_neg (by omega)] at h; omega

/-- The first nine chunks end within the buffer's first half. -/
theorem pos_nine (s : ℕ) : pos s 9 ≤ 288 := by unfold pos; omega

/-- A chunk of 32 rows is sent when there are that many groups of four. -/
theorem act_big {s k : ℕ} (hk : k < 18) : act s k ↔ k < s / 4 := by unfold act; rw [if_pos hk]

/-- A chunk of 8 rows is sent when that many groups remain. -/
theorem act_small {s j : ℕ} : act s (18 + j) ↔ j < s % 4 := by
  unfold act; rw [if_neg (by omega), Nat.add_sub_cancel_left]

/-! ## How many rows, from the number of zeros in each device's destinations -/

/-- The rows device c sends, of the z c rows it has with destination 0. -/
def nSend (z : Fin 8 → ℕ) (c : Fin 8) : ℕ := if yOf c = 0 then 1024 - z c else z c

/-- How far the rows sent are moved down, so that they land at the receiver's alignment. -/
def shiftOf (z : Fin 8 → ℕ) (c : Fin 8) : ℕ := if yOf c = 0 then 0 else (1024 - z c) % 8

/-- The groups of 8 rows that the rows sent take. -/
def grp (z : Fin 8 → ℕ) (c : Fin 8) : ℕ := (shiftOf z c + nSend z c + 7) / 8

/-- The output row at which the rows received start. -/
def startRow (z : Fin 8 → ℕ) (c : Fin 8) : ℕ := if yOf c = 0 then z c else 0

/-- What is asked of the numbers of zeros: the two devices of a pair have 1024 together, and no more than 576 rows move. -/
structure Even (z : Fin 8 → ℕ) : Prop where
  tot : ∀ c, z c + z (pr c) = 1024
  cap : ∀ c, nSend z c ≤ 576

variable {z : Fin 8 → ℕ}

/-- No device has more than 1024 zeros. -/
theorem Even.le (h : Even z) (c : Fin 8) : z c ≤ 1024 := by have := h.tot c; omega

/-- The two devices of a pair send equally many rows. -/
theorem Even.nSend_pr (h : Even z) (c : Fin 8) : nSend z (pr c) = nSend z c := by
  have h1 := h.tot c
  unfold nSend; rw [yOf_pr]
  rcases yOf_lt c with e | e <;> rw [e] <;> simp only [Nat.sub_zero, Nat.sub_self, if_true, one_ne_zero, if_false] <;> omega

/-- The rows that arrive start at the receiver's own alignment. -/
theorem Even.shift_pr (h : Even z) (c : Fin 8) : shiftOf z (pr c) = startRow z c % 8 := by
  have h1 := h.tot c
  unfold shiftOf startRow; rw [yOf_pr]
  rcases yOf_lt c with e | e <;> rw [e] <;> simp only [Nat.sub_zero, Nat.sub_self, if_true, one_ne_zero, if_false] <;> omega

/-- The rows sent fit the send buffer. -/
theorem Even.grp_le (h : Even z) (c : Fin 8) : grp z c ≤ 72 := by
  have h1 := h.tot c
  have h2 := h.cap c
  unfold grp shiftOf; unfold nSend at *
  rcases yOf_lt c with e | e <;> rw [e] at h2 ⊢ <;> simp only [if_true, one_ne_zero, if_false] at h2 ⊢ <;> omega

end Cert.Proof
-- ==== Proof.Cells.lean ====
/- The cells of the exchange (one barrier semaphore, 21 send and 21 receive semaphores a device), the rows of the two scratch buffers that each chunk takes, and the
   schedule: what each cell is paid, by whom, and what the payment hands over. -/
module

public import proofs.«01_k».proof.Proof.Chunks
public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Pipeline.TalkSites
public import Idealize.ShloMosaic.Lib.Tactic

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

/-! ## The semaphores -/

/-- The semaphore that chunk k's source completion credits, on the sender. -/
def sendSem (k : ℕ) : SemLoc sig := .dma ⟨(if k < 18 then 5 + k else k + 23) % 47, Nat.mod_lt _ (by decide)⟩
/-- The semaphore that chunk k's arrival credits, on the receiver. -/
def recvSem (k : ℕ) : SemLoc sig := .dma ⟨(if k < 18 then 23 + k else k + 26) % 47, Nat.mod_lt _ (by decide)⟩
/-- The barrier semaphore. -/
def barSem : SemLoc sig := .reg barrier0

/-- What a semaphore serves. -/
inductive Role where
  | bar
  | send (k : ℕ)
  | recv (k : ℕ)
  | other

/-- What a semaphore serves, read off its number. -/
def role : SemLoc sig → Role
  | .reg _ => .bar
  | .dma s => if s.val < 5 then .other else if s.val < 23 then .send (s.val - 5) else if s.val < 41 then .recv (s.val - 23)
    else if s.val < 44 then .send (s.val - 23) else .recv (s.val - 26)

/-- The barrier semaphore serves the barrier. -/
theorem role_bar : role barSem = .bar := rfl
/-- The send semaphore of chunk k serves the send of chunk k. -/
theorem role_send {k : ℕ} (h : k < 21) : role (sendSem k) = .send k := by
  unfold role sendSem
  simp only
  by_cases h18 : k < 18
  · simp only [if_pos h18]
    rw [if_neg (by omega), if_pos (by omega)]; congr 1; omega
  · simp only [if_neg h18]
    rw [if_neg (by omega), if_neg (by omega), if_neg (by omega), if_pos (by omega)]; congr 1; omega
/-- The receive semaphore of chunk k serves the arrival of chunk k. -/
theorem role_recv {k : ℕ} (h : k < 21) : role (recvSem k) = .recv k := by
  unfold role recvSem
  simp only
  by_cases h18 : k < 18
  · simp only [if_pos h18]
    rw [if_neg (by omega), if_neg (by omega), if_pos (by omega)]; congr 1; omega
  · simp only [if_neg h18]
    rw [if_neg (by omega), if_neg (by omega), if_neg (by omega), if_neg (by omega)]; congr 1; omega

/-- A device's cell at a semaphore. -/
abbrev cell (c : Dev nD) (sm : SemLoc sig) : GSem nD τ sig := ((c : Thread nD τ), sm)

/-! ## The rows of a scratch buffer -/

/-- The positions of a scratch buffer at rows from a to before b. -/
def rws (a b : ℕ) : Finset S576x512.Idx := Finset.univ.filter fun i => a ≤ (i 0).val ∧ (i 0).val < b

/-- A position is in a block of rows when its row is. -/
theorem mem_rws {a b : ℕ} {i : S576x512.Idx} : i ∈ rws a b ↔ a ≤ (i 0).val ∧ (i 0).val < b := by
  unfold rws; rw [Finset.mem_filter]; exact ⟨fun h => h.2, fun h => ⟨Finset.mem_univ _, h⟩⟩

/-- The 576 rows are the whole buffer. -/
theorem rws_all : rws 0 576 = Finset.univ := by
  ext i; rw [mem_rws]; exact ⟨fun _ => Finset.mem_univ _, fun _ => ⟨Nat.zero_le _, (i 0).isLt⟩⟩

/-- There is no row from a to before a. -/
theorem rws_self (a : ℕ) : rws a a = ∅ := by
  ext i; rw [mem_rws]; constructor
  · intro h; omega
  · intro h; exact absurd h (Finset.notMem_empty _)

/-- Two adjacent blocks of rows make one. -/
theorem rws_union {a b d : ℕ} (h : a ≤ b) (h' : b ≤ d) : rws a d = rws a b ∪ rws b d := by
  ext i; rw [Finset.mem_union, mem_rws, mem_rws, mem_rws]; omega

/-- Adjacent blocks of rows have no position in common. -/
theorem rws_disj (a b d : ℕ) : Disjoint (rws a b) (rws b d) := by
  rw [Finset.disjoint_left]; intro i h h'; rw [mem_rws] at h h'; omega

/-- A block of rows that starts no earlier and ends no later is part of the other. -/
theorem rws_sub {a b a' b' : ℕ} (h : a ≤ a') (h' : b' ≤ b) : rws a' b' ⊆ rws a b := by
  intro i hi; rw [mem_rws] at hi ⊢; omega

/-- A block of whole rows is the rows from its first to its last. -/
theorem rect_rws {off size : Fin 2 → ℕ} (inb : ∀ a, off a + size a ≤ S576x512.size a) (h1 : off 1 = 0) (h2 : size 1 = 512) :
    (Rect.unit (s := S576x512) off size inb).set = rws (off 0) (off 0 + size 0) := by
  ext i
  rw [Rect.mem_set_unit, mem_rws]
  constructor
  · exact fun h => h 0
  · intro h a
    match a with
    | 0 => exact h
    | 1 => have : (i 1).val < 512 := (i 1).isLt
           rw [h1, h2]; omega

variable {F : FTy → Type} [FloatOps F] {U : Type} [URA U]

local notation "𝕄" => MT nD τ sig ℕ (Elt F) ℕ U ℕ

/-- The contents of a scratch buffer. -/
abbrev Rows (F : FTy → Type) : Type := S576x512.Idx → Elt F .bf16

/-- Rows of device c's send buffer at contents f. -/
def sndP (c : Dev nD) (I : Finset S576x512.Idx) (f : Rows F) : sProp 𝕄 := ((c : Thread nD τ).loc cc0_scratch0) ↦[I]{fullShare} f
/-- Rows of device c's receive buffer at contents f. -/
def rcvP (c : Dev nD) (I : Finset S576x512.Idx) (f : Rows F) : sProp 𝕄 := ((c : Thread nD τ).loc cc0_scratch1) ↦[I]{fullShare} f

/-- A block of rows of the send buffer is its two parts. -/
theorem sndP_split (c : Dev nD) {a b d : ℕ} (h : a ≤ b) (h' : b ≤ d) (f : Rows F) :
    (sndP c (rws a d) f : sProp 𝕄) ⊣⊢ iprop(sndP c (rws a b) f ∗ sndP c (rws b d) f) := by
  rw [rws_union h h']; exact pointsTo_union (rws_disj a b d)

/-- A block of rows of the receive buffer is its two parts. -/
theorem rcvP_split (c : Dev nD) {a b d : ℕ} (h : a ≤ b) (h' : b ≤ d) (f : Rows F) :
    (rcvP c (rws a d) f : sProp 𝕄) ⊣⊢ iprop(rcvP c (rws a b) f ∗ rcvP c (rws b d) f) := by
  rw [rws_union h h']; exact pointsTo_union (rws_disj a b d)

/-- Of the contents of the send buffer, those at its rows matter. -/
theorem sndP_congr (c : Dev nD) {I : Finset S576x512.Idx} {f g : Rows F} (h : ∀ i ∈ I, f i = g i) :
    (sndP c I f : sProp 𝕄) = sndP c I g := pointsTo_congr h

/-- Of the contents of the receive buffer, those at its rows matter. -/
theorem rcvP_congr (c : Dev nD) {I : Finset S576x512.Idx} {f g : Rows F} (h : ∀ i ∈ I, f i = g i) :
    (rcvP c I f : sProp 𝕄) = rcvP c I g := pointsTo_congr h

/-- Two adjacent blocks of rows at two contents are one block at some contents. -/
theorem sndP_join (c : Dev nD) {a b d : ℕ} (h : a ≤ b) (h' : b ≤ d) (f g : Rows F) :
    iprop(sndP c (rws a b) f ∗ sndP c (rws b d) g) ⊢ (iprop(∃ f', sndP c (rws a d) f') : sProp 𝕄) := by
  rw [rws_union h h']
  refine (pointsTo_join (rws_disj a b d)).trans ?_
  iintro H
  iexists _
  unfold sndP
  iexact H

/-- The same of the receive buffer. -/
theorem rcvP_join (c : Dev nD) {a b d : ℕ} (h : a ≤ b) (h' : b ≤ d) (f g : Rows F) :
    iprop(rcvP c (rws a b) f ∗ rcvP c (rws b d) g) ⊢ (iprop(∃ f', rcvP c (rws a d) f') : sProp 𝕄) := by
  rw [rws_union h h']
  refine (pointsTo_join (rws_disj a b d)).trans ?_
  iintro H
  iexists _
  unfold rcvP
  iexact H

/-! ## The schedule -/

/-- The units that chunk k's copy credits at each end. -/
def unitsOf (k : ℕ) : ℕ := if k < 18 then View.dmaCredit ((Memref.whole cc0_scratch1).slice (Rect.unit (s := S576x512) ![0, 0] S32x512.size inb_S576x512_S32x512_0_0) (fun _ => rfl)).view
  else View.dmaCredit ((Memref.whole cc0_scratch1).slice (Rect.unit (s := S576x512) ![0, 0] S8x512.size inb_S576x512_S8x512_0_0) (fun _ => rfl)).view

/-- Every copy credits something. -/
theorem unitsOf_pos (k : ℕ) : 0 < unitsOf k := by
  unfold unitsOf; split
  · exact View.dmaCredit_pos _ (by decide)
  · exact View.dmaCredit_pos _ (by decide)

/-- The rows of chunk k of a device that sends s groups. -/
abbrev chunk (s k : ℕ) : Finset S576x512.Idx := rws (pos s k) (pos s (k + 1))

section Sched

variable (E : Emb (URounds (GSem nD τ sig) Unit) (MT nD τ sig ℕ (Elt F) ℕ U ℕ)) (s : Dev nD → ℕ) (G : Dev nD → Rows F)

/-- Paid to device c's barrier cell by its partner: the partner's receive buffer as far as c will fill it, and that the partner's receive cells are open. -/
def barPay (c : Dev nD) : sProp 𝕄 :=
  iprop((∃ g, rcvP (pr c) (rws 0 (pos (s c) 21)) g) ∗ bigSep (Finset.range 21) fun k : ℕ => (reached (D := Unit) E (cell (pr c) (recvSem k)) 0 : sProp 𝕄))

/-- One duty at the barrier cell and at the two cells of each chunk that is sent; a send cell's payment gives the rows of the chunk back, a receive cell's gives the rows with what was sent. -/
def Rd : Rounds.Schedule (GSem nD τ sig) Unit 𝕄 where
  duties g r := if r = 0 ∧ g.1.2 = .tc then
    match role g.2 with
    | .bar => ({()} : Finset Unit)
    | .send k => if act (s g.1.1) k then ({()} : Finset Unit) else ∅
    | .recv k => if act (s (pr g.1.1)) k then ({()} : Finset Unit) else ∅
    | .other => ∅
    else ∅
  amount g _ _ := match role g.2 with
    | .send k => unitsOf k
    | .recv k => unitsOf k
    | _ => 1
  payload g _ _ := match role g.2 with
    | .bar => barPay E s g.1.1
    | .send k => sndP g.1.1 (chunk (s g.1.1) k) (G g.1.1)
    | .recv k => rcvP g.1.1 (chunk (s (pr g.1.1)) k) (G (pr g.1.1))
    | .other => iprop(emp)
  amount_pos g _ _ _ := by
    split
    · exact unitsOf_pos _
    · exact unitsOf_pos _
    · exact Nat.one_pos

instance Rd_storable (g : GSem nD τ sig) (r : ℕ) (d : Unit) [E.LandsIn (upEmb : UEmb _ 𝕄)] : BI.Storable (upEmb : UEmb _ 𝕄) ((Rd E s G).payload g r d) := by
  show BI.Storable upEmb (match role g.2 with
    | .bar => barPay E s g.1.1
    | .send k => sndP g.1.1 (chunk (s g.1.1) k) (G g.1.1)
    | .recv k => rcvP g.1.1 (chunk (s (pr g.1.1)) k) (G (pr g.1.1))
    | .other => iprop(emp))
  unfold barPay sndP rcvP
  split <;> infer_instance

/-- The barrier cell has one duty. -/
theorem duties_bar (c : Dev nD) : (Rd E s G).duties (cell c barSem) 0 = {()} := rfl

/-- The send cell of a chunk that is sent has one duty. -/
theorem duties_send {c : Dev nD} {k : ℕ} (hk : k < 21) (h : act (s c) k) : (Rd E s G).duties (cell c (sendSem k)) 0 = {()} := by
  dsimp only [Rd]; rw [if_pos ⟨rfl, rfl⟩, role_send hk]; exact if_pos h

/-- The send cell of a chunk that is not sent has none, in any round. -/
theorem duties_send_not {c : Dev nD} {k : ℕ} (hk : k < 21) (h : ¬act (s c) k) (r : ℕ) : (Rd E s G).duties (cell c (sendSem k)) r = ∅ := by
  dsimp only [Rd]; split
  · rw [role_send hk]; exact if_neg h
  · rfl

/-- The receive cell of a chunk that the partner sends has one duty. -/
theorem duties_recv {c : Dev nD} {k : ℕ} (hk : k < 21) (h : act (s (pr c)) k) : (Rd E s G).duties (cell c (recvSem k)) 0 = {()} := by
  dsimp only [Rd]; rw [if_pos ⟨rfl, rfl⟩, role_recv hk]; exact if_pos h

/-- The receive cell of a chunk that the partner does not send has none, in any round. -/
theorem duties_recv_not {c : Dev nD} {k : ℕ} (hk : k < 21) (h : ¬act (s (pr c)) k) (r : ℕ) : (Rd E s G).duties (cell c (recvSem k)) r = ∅ := by
  dsimp only [Rd]; split
  · rw [role_recv hk]; exact if_neg h
  · rfl

/-- No cell has a duty after its first round. -/
theorem duties_later (g : GSem nD τ sig) (r : ℕ) (h : 1 ≤ r) : (Rd E s G).duties g r = ∅ := by
  dsimp only [Rd]; exact if_neg fun e => by omega

/-- The barrier is signalled once. -/
theorem amount_bar (c : Dev nD) (u : Unit) : (Rd E s G).amount (cell c barSem) 0 u = 1 := rfl
/-- What a send credits at its sender. -/
theorem amount_send {c : Dev nD} {k : ℕ} (hk : k < 21) (u : Unit) : (Rd E s G).amount (cell c (sendSem k)) 0 u = unitsOf k := by
  dsimp only [Rd]; rw [role_send hk]
/-- What an arrival credits at its receiver. -/
theorem amount_recv {c : Dev nD} {k : ℕ} (hk : k < 21) (u : Unit) : (Rd E s G).amount (cell c (recvSem k)) 0 u = unitsOf k := by
  dsimp only [Rd]; rw [role_recv hk]

/-- What the barrier signal hands over. -/
theorem payload_bar (c : Dev nD) (u : Unit) : (Rd E s G).payload (cell c barSem) 0 u = barPay E s c := rfl
/-- What a send's completion hands back: the rows of the chunk. -/
theorem payload_send {c : Dev nD} {k : ℕ} (hk : k < 21) (u : Unit) : (Rd E s G).payload (cell c (sendSem k)) 0 u = sndP c (chunk (s c) k) (G c) := by
  dsimp only [Rd]; rw [role_send hk]
/-- What an arrival hands over: the rows of the chunk, at what the partner sent. -/
theorem payload_recv {c : Dev nD} {k : ℕ} (hk : k < 21) (u : Unit) : (Rd E s G).payload (cell c (recvSem k)) 0 u = rcvP c (chunk (s (pr c)) k) (G (pr c)) := by
  dsimp only [Rd]; rw [role_recv hk]

/-- The barrier wait takes one unit. -/
theorem expect_bar (c : Dev nD) : (Rd E s G).expect (cell c barSem) 0 = 1 := by
  unfold Schedule.expect
  unfold Schedule.amountOf
  rw [duties_bar, Finset.sum_singleton, amount_bar]
/-- The wait for a send takes what the send credits. -/
theorem expect_send {c : Dev nD} {k : ℕ} (hk : k < 21) (h : act (s c) k) : (Rd E s G).expect (cell c (sendSem k)) 0 = unitsOf k := by
  unfold Schedule.expect
  unfold Schedule.amountOf
  rw [duties_send E s G hk h, Finset.sum_singleton, amount_send E s G hk]
/-- The wait for an arrival takes what the arrival credits. -/
theorem expect_recv {c : Dev nD} {k : ℕ} (hk : k < 21) (h : act (s (pr c)) k) : (Rd E s G).expect (cell c (recvSem k)) 0 = unitsOf k := by
  unfold Schedule.expect
  unfold Schedule.amountOf
  rw [duties_recv E s G hk h, Finset.sum_singleton, amount_recv E s G hk]

/-- The barrier wait gains what the signal hands over. -/
theorem rest_bar (c : Dev nD) : bigSep ((Rd E s G).duties (cell c barSem) 0 \ ∅) (fun u => (Rd E s G).payload (cell c barSem) 0 u) = barPay E s c := by
  rw [duties_bar, Finset.sdiff_empty, bigSep_singleton, payload_bar]
/-- The wait for a send gains the rows sent. -/
theorem rest_send {c : Dev nD} {k : ℕ} (hk : k < 21) (h : act (s c) k) :
    bigSep ((Rd E s G).duties (cell c (sendSem k)) 0 \ ∅) (fun u => (Rd E s G).payload (cell c (sendSem k)) 0 u) = sndP c (chunk (s c) k) (G c) := by
  rw [duties_send E s G hk h, Finset.sdiff_empty, bigSep_singleton, payload_send E s G hk]
/-- The wait for an arrival gains the rows that arrived. -/
theorem rest_recv {c : Dev nD} {k : ℕ} (hk : k < 21) (h : act (s (pr c)) k) :
    bigSep ((Rd E s G).duties (cell c (recvSem k)) 0 \ ∅) (fun u => (Rd E s G).payload (cell c (recvSem k)) 0 u) = rcvP c (chunk (s (pr c)) k) (G (pr c)) := by
  rw [duties_recv E s G hk h, Finset.sdiff_empty, bigSep_singleton, payload_recv E s G hk]

end Sched

end Cert.Proof
-- ==== Proof.Sends.lean ====
/- One send: while a device sends its chunks, what it holds before chunk k becomes what it holds before chunk k + 1, whether the chunk is sent or skipped. -/
module

public import proofs.«01_k».proof.Proof.Cells

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (L lv)

/-! ## Families over the chunks -/

section Chain
variable {M : Type} [URA M]

/-- The first of the chunks from k on. -/
theorem bigSep_from {k : ℕ} (hk : k < 21) (Φ : ℕ → sProp M) : bigSep (Finset.Ico k 21) Φ = iprop(Φ k ∗ bigSep (Finset.Ico (k + 1) 21) Φ) := by
  rw [show Finset.Ico k 21 = insert k (Finset.Ico (k + 1) 21) by ext i; simp only [Finset.mem_insert, Finset.mem_Ico]; omega]
  exact BI.bigSep_insert (by simp only [Finset.mem_Ico]; omega)

/-- The last of the chunks before k + 1. -/
theorem bigSep_upto (k : ℕ) (Φ : ℕ → sProp M) : bigSep (Finset.range (k + 1)) Φ = iprop(Φ k ∗ bigSep (Finset.range k) Φ) := by
  rw [Finset.range_add_one]; exact BI.bigSep_insert Finset.notMem_range_self

end Chain

/-! ## What is owed -/

/-- The index of the barrier. -/
abbrev barIx : ℕ := 30
/-- The index of the arrivals. -/
abbrev rcvIx : ℕ := 31
/-- The index of the source completions. -/
abbrev sndIx : ℕ := 0
/-- The bound on all indices. -/
abbrev topIx : ℕ := 32

/-- The arrivals that device c owes its partner for the last n of the 21 chunks. -/
def payLast (s : Dev nD → ℕ) (c : Dev nD) : ℕ → List (Pay nD τ sig)
  | 0 => []
  | n + 1 => if act (s c) (20 - n) then (cell (pr c) (recvSem (20 - n)), rcvIx, unitsOf (20 - n)) :: payLast s c n else payLast s c n

/-- The arrivals owed for the chunks from k on. -/
def payFrom (s : Dev nD → ℕ) (c : Dev nD) (k : ℕ) : List (Pay nD τ sig) := payLast s c (21 - k)

/-- Of a chunk that is sent the arrival is owed. -/
theorem payFrom_act {s : Dev nD → ℕ} {c : Dev nD} {k : ℕ} (hk : k < 21) (h : act (s c) k) :
    payFrom s c k = (cell (pr c) (recvSem k), rcvIx, unitsOf k) :: payFrom s c (k + 1) := by
  unfold payFrom
  rw [show 21 - k = (20 - k) + 1 by omega, payLast, show 20 - (20 - k) = k by omega, if_pos h, show 21 - (k + 1) = 20 - k by omega]

/-- Of a chunk that is not sent nothing is owed. -/
theorem payFrom_not {s : Dev nD → ℕ} {c : Dev nD} {k : ℕ} (hk : k < 21) (h : ¬act (s c) k) : payFrom s c k = payFrom s c (k + 1) := by
  unfold payFrom
  rw [show 21 - k = (20 - k) + 1 by omega, payLast, show 20 - (20 - k) = k by omega, if_neg h, show 21 - (k + 1) = 20 - k by omega]

variable {F : FTy → Type} [FloatOps F] {U : Type} [URA U]

local notation "𝕄" => MT nD τ sig ℕ (Elt F) ℕ U ℕ

/-- No loop of the kernel needs a variant. -/
abbrev 𝒱₀ : Variants := Variants.none

/-- The kernel's weakest precondition on device c. -/
abbrev wpk {α : Type} (c : Dev nD) (p : Prog (TpuEff nD τ sig (Elt F) Λ₀ .tc) α) (Q : α → sProp 𝕄) : sProp 𝕄 :=
  wp frame (wpE (defs₀ (F := F)) 𝒱₀ c none) Set.univ p Q

section Sched

variable (E : Emb (URounds (GSem nD τ sig) Unit) (MT nD τ sig ℕ (Elt F) ℕ U ℕ)) (s : Dev nD → ℕ) (G : Dev nD → Rows F)

/-- The cells that device c's run touches, each under its invariant; and the levels. -/
def Ctx (κ : GSem nD τ sig → ℕ) : sProp 𝕄 :=
  iprop((bigSep Finset.univ fun c : Dev nD => cellInv E (Rd E s G) (κ (cell c barSem)) (cell c barSem))
    ∗ (bigSep Finset.univ fun c : Dev nD => bigSep (Finset.range 21) fun k : ℕ => cellInv E (Rd E s G) (κ (cell c (sendSem k))) (cell c (sendSem k)))
    ∗ (bigSep Finset.univ fun c : Dev nD => bigSep (Finset.range 21) fun k : ℕ => cellInv E (Rd E s G) (κ (cell c (recvSem k))) (cell c (recvSem k)))
    ∗ levAts (L topIx) lv)

instance Ctx_persistent (κ : GSem nD τ sig → ℕ) : BI.Persistent (Ctx E s G κ) := by unfold Ctx; infer_instance

/-- A barrier cell's invariant. -/
theorem Ctx_bar (κ : GSem nD τ sig → ℕ) (c : Dev nD) : Ctx E s G κ ⊢ cellInv E (Rd E s G) (κ (cell c barSem)) (cell c barSem) := by
  unfold Ctx
  iintro ⟨H, -, -, -⟩
  iapply (show _ ⊢ _ from bigSep_elim (Φ := fun c : Dev nD => cellInv E (Rd E s G) (κ (cell c barSem)) (cell c barSem)) (Finset.mem_univ c))
  iexact H

/-- A send cell's invariant. -/
theorem Ctx_send (κ : GSem nD τ sig → ℕ) (c : Dev nD) {k : ℕ} (hk : k < 21) : Ctx E s G κ ⊢ cellInv E (Rd E s G) (κ (cell c (sendSem k))) (cell c (sendSem k)) := by
  unfold Ctx
  iintro ⟨-, H, -, -⟩
  iapply (show _ ⊢ _ from (bigSep_elim (Φ := fun c : Dev nD => bigSep (Finset.range 21) fun k : ℕ => cellInv E (Rd E s G) (κ (cell c (sendSem k))) (cell c (sendSem k))) (Finset.mem_univ c)).trans
    (bigSep_elim (Φ := fun k : ℕ => cellInv E (Rd E s G) (κ (cell c (sendSem k))) (cell c (sendSem k))) (Finset.mem_range.mpr hk)))
  iexact H

/-- A receive cell's invariant. -/
theorem Ctx_recv (κ : GSem nD τ sig → ℕ) (c : Dev nD) {k : ℕ} (hk : k < 21) : Ctx E s G κ ⊢ cellInv E (Rd E s G) (κ (cell c (recvSem k))) (cell c (recvSem k)) := by
  unfold Ctx
  iintro ⟨-, -, H, -⟩
  iapply (show _ ⊢ _ from (bigSep_elim (Φ := fun c : Dev nD => bigSep (Finset.range 21) fun k : ℕ => cellInv E (Rd E s G) (κ (cell c (recvSem k))) (cell c (recvSem k))) (Finset.mem_univ c)).trans
    (bigSep_elim (Φ := fun k : ℕ => cellInv E (Rd E s G) (κ (cell c (recvSem k))) (cell c (recvSem k))) (Finset.mem_range.mpr hk)))
  iexact H

/-- The levels of the indices. -/
theorem Ctx_lev (κ : GSem nD τ sig → ℕ) : Ctx E s G κ ⊢ (levAts (L topIx) lv : sProp 𝕄) := by
  unfold Ctx
  iintro ⟨-, -, -, H⟩
  iexact H

/-- The tokens of chunk k's two duties, when it is sent. -/
def sendToks (c : Dev nD) (k : ℕ) : sProp 𝕄 :=
  if act (s c) k then iprop(dutyTok E (cell c (sendSem k)) 0 () ∗ dutyTok E (cell (pr c) (recvSem k)) 0 ()) else iprop(emp)

/-- The credit that chunk k's wait spends, when it was sent. -/
def sentCred (c : Dev nD) (k : ℕ) : sProp 𝕄 := if act (s c) k then cred (tallyAt (cell c (sendSem k)) sndIx (unitsOf k)) else iprop(emp)

/-- That the send cells of c and the receive cells of its partner are open. -/
def opens (c : Dev nD) : sProp 𝕄 :=
  iprop((bigSep (Finset.range 21) fun k : ℕ => (reached (D := Unit) E (cell c (sendSem k)) 0 : sProp 𝕄))
    ∗ bigSep (Finset.range 21) fun k : ℕ => (reached (D := Unit) E (cell (pr c) (recvSem k)) 0 : sProp 𝕄))

instance opens_persistent (c : Dev nD) : BI.Persistent (opens (F := F) (U := U) E c) := by unfold opens; infer_instance

/-- The device's own send cell is open. -/
theorem opens_send (c : Dev nD) {k : ℕ} (hk : k < 21) : opens E c ⊢ (reached (D := Unit) E (cell c (sendSem k)) 0 : sProp 𝕄) := by
  unfold opens
  iintro ⟨H, -⟩
  iapply (show _ ⊢ _ from bigSep_elim (Φ := fun k : ℕ => (reached (D := Unit) E (cell c (sendSem k)) 0 : sProp 𝕄)) (Finset.mem_range.mpr hk))
  iexact H

/-- The partner's receive cell is open. -/
theorem opens_recv (c : Dev nD) {k : ℕ} (hk : k < 21) : opens E c ⊢ (reached (D := Unit) E (cell (pr c) (recvSem k)) 0 : sProp 𝕄) := by
  unfold opens
  iintro ⟨-, H⟩
  iapply (show _ ⊢ _ from bigSep_elim (Φ := fun k : ℕ => (reached (D := Unit) E (cell (pr c) (recvSem k)) 0 : sProp 𝕄)) (Finset.mem_range.mpr hk))
  iexact H

/-- What device c holds before it sends chunk k: its send buffer from that chunk's first row on at contents f, its partner's receive buffer likewise, the tokens of the
    chunks to come, the credits of those sent, what it owes, and what else it holds (R). -/
def SendSt (κ : GSem nD τ sig → ℕ) (c : Dev nD) (k : ℕ) (f g : Rows F) (W : Waits sig ℕ) (R : sProp 𝕄) : sProp 𝕄 :=
  iprop(Ctx E s G κ ∗ opens E c ∗ sndP c (rws (pos (s c) k) 576) f ∗ rcvP (pr c) (rws (pos (s c) k) (pos (s c) 21)) g
    ∗ bigSep (Finset.Ico k 21) (sendToks E s c) ∗ bigSep (Finset.range k) (sentCred s c)
    ∗ owes (c : Thread nD τ) (tallyL (payFrom s c k)) W ∗ R)

/-- A chunk that is not sent changes nothing. -/
theorem SendSt_skip {κ : GSem nD τ sig → ℕ} {c : Dev nD} {k : ℕ} (hk : k < 21) (h : ¬act (s c) k) (f g : Rows F) (W : Waits sig ℕ) (R : sProp 𝕄) :
    SendSt E s G κ c k f g W R ⊢ SendSt E s G κ c (k + 1) f g W R := by
  unfold SendSt
  rw [bigSep_from hk, bigSep_upto, pos_succ_not h, payFrom_not hk h, sendToks, sentCred, if_neg h, if_neg h]
  iintro ⟨#H1, #H2, Hs, Hr, ⟨-, Ht⟩, Hc, HO, HR⟩
  isplitr; · iexact H1
  isplitr; · iexact H2
  isplitl [Hs]; · iexact Hs
  isplitl [Hr]; · iexact Hr
  isplitl [Ht]; · iexact Ht
  isplitl [Hc]
  · isplitr; · iempintro
    iexact Hc
  isplitl [HO]; · iexact HO
  iexact HR

/-- A block of rows of the send buffer as a memref. -/
abbrev sndM (off sz : Fin 2 → ℕ) (inb : ∀ a, off a + sz a ≤ S576x512.size a) : Memref sig .tc .vmem (Rect.unit (s := S576x512) off sz inb).shape .bf16 :=
  (Memref.whole cc0_scratch0).slice (Rect.unit (s := S576x512) off sz inb) (fun _ => rfl)
/-- A block of rows of the receive buffer as a memref. -/
abbrev rcvM (off sz : Fin 2 → ℕ) (inb : ∀ a, off a + sz a ≤ S576x512.size a) : Memref sig .tc .vmem (Rect.unit (s := S576x512) off sz inb).shape .bf16 :=
  (Memref.whole cc0_scratch1).slice (Rect.unit (s := S576x512) off sz inb) (fun _ => rfl)

/-- The positions of a block of whole rows of the send buffer. -/
theorem sndM_set (off sz : Fin 2 → ℕ) (inb : ∀ a, off a + sz a ≤ S576x512.size a) (h1 : off 1 = 0) (h2 : sz 1 = 512) :
    (sndM off sz inb).view.set = rws (off 0) (off 0 + sz 0) :=
  (View.set_slice_whole cc0_scratch0 (Rect.unit (s := S576x512) off sz inb)).trans (rect_rws inb h1 h2)
/-- The positions of a block of whole rows of the receive buffer. -/
theorem rcvM_set (off sz : Fin 2 → ℕ) (inb : ∀ a, off a + sz a ≤ S576x512.size a) (h1 : off 1 = 0) (h2 : sz 1 = 512) :
    (rcvM off sz inb).view.set = rws (off 0) (off 0 + sz 0) :=
  (View.set_slice_whole cc0_scratch1 (Rect.unit (s := S576x512) off sz inb)).trans (rect_rws inb h1 h2)

omit [FloatOps F] in
/-- What lands is what was sent, position by position. -/
theorem landed (off sz : Fin 2 → ℕ) (inb : ∀ a, off a + sz a ≤ S576x512.size a) (fd fs : Rows F) :
    ∀ i ∈ (rcvM off sz inb).view.set, (rcvM off sz inb).view.write (Elt F) fd ((sndM off sz inb).view.read (Elt F) fs) Finset.univ i = fs i := by
  intro i hi
  obtain ⟨x, -, rfl⟩ := Finset.mem_map.mp hi
  rw [View.write_emb_of_mem _ _ (Finset.mem_univ x)]
  rfl

/-- Chunk k is sent. -/
theorem send_core [E.LandsIn (upEmb : UEmb _ (MT nD τ sig ℕ (Elt F) ℕ U ℕ))] {κ : GSem nD τ sig → ℕ} {c : Dev nD} {k : ℕ} (hk : k < 21) (hs : s c ≤ 72) (ha : act (s c) k)
    {off sz : Fin 2 → ℕ} {inb : ∀ a, off a + sz a ≤ S576x512.size a} (h0 : off 0 = pos (s c) k) (h1 : off 1 = 0) (h2 : sz 0 = rowsOf k) (h3 : sz 1 = 512)
    {d : Dev nD} (hd : d = pr c) {sS sR : DmaSem sig} (hS : SemLoc.dma sS = sendSem k) (hR : SemLoc.dma sR = recvSem k)
    (hN : (rcvM off sz inb).view.dmaCredit = unitsOf k)
    {f g : Rows F} {W : Waits sig ℕ} {R : sProp 𝕄} (hf : ∀ i ∈ chunk (s c) k, f i = G c i)
    {hsc} {hw1} {hw2} {ht} {α : Type} {rest : Prog (TpuEff nD τ sig (Elt F) Λ₀ .tc) α} {Q : α → sProp 𝕄}
    (h : SendSt E s G κ c (k + 1) f g W R ⊢ wpk c rest Q) :
    SendSt E s G κ c k f g W R
      ⊢ wpk c (Prog.lift (.enqueueDma (sndM off sz inb) (.remote (Dev.tc d) (rcvM off sz inb) (.dma sS) hsc) (.dma sR) hw1 hw2 ht) >>= fun _ => rest) Q := by
  subst hd
  have hend : pos (s c) (k + 1) = off 0 + sz 0 := by rw [h0, h2, pos_succ ha hs hk]
  have hch : chunk (s c) k = rws (off 0) (off 0 + sz 0) := by unfold chunk; rw [hend, h0]
  change _ ⊢ wp frame (wpE (defs₀ (F := F)) 𝒱₀ c none) Set.univ (.op (.enqueueDma (sndM off sz inb) (.remote (Dev.tc (pr c)) (rcvM off sz inb) (.dma sS) hsc) (.dma sR) hw1 hw2 ht) fun _ => rest) Q
  have hle : pos (s c) k ≤ pos (s c) (k + 1) := pos_mono _ (Nat.le_succ k)
  have e1 := sndP_split (U := U) c hle (pos_le hs (k + 1)) f
  have e2 := rcvP_split (U := U) (pr c) hle (pos_mono (s c) (show k + 1 ≤ 21 from hk)) g
  have hpay1 : ((sndM off sz inb).view.loc (c : Thread nD τ) ↦[(sndM off sz inb).view.set]{fullShare} f : sProp 𝕄) ⊢ (Rd E s G).payload ((c : Thread nD τ), .dma sS) 0 () := by
    rw [hS, payload_send E s G hk, sndM_set off sz inb h1 h3, hch]
    rw [hch] at hf
    exact Entails.of_eq (sndP_congr c hf)
  have hpay2 : ((rcvM off sz inb).view.loc (pr c : Thread nD τ) ↦[(rcvM off sz inb).view.set]{fullShare}
      ((rcvM off sz inb).view.write (Elt F) g ((sndM off sz inb).view.read (Elt F) f) Finset.univ) : sProp 𝕄) ⊢ (Rd E s G).payload ((pr c : Thread nD τ), .dma sR) 0 () := by
    rw [hR, payload_recv E s G hk, pr_pr, hch]
    have hl := landed off sz inb g f
    rw [rcvM_set off sz inb h1 h3] at hl ⊢
    rw [hch] at hf
    exact Entails.of_eq (rcvP_congr (pr c) fun i hi => (hl i hi).trans (hf i hi))
  have hO : tallyL (payFrom s c k) = tallyL (payFrom s c (k + 1)) + tallyAt ((pr c : Thread nD τ), SemLoc.dma sR) rcvIx (unitsOf k) := by
    rw [payFrom_act hk ha, hR]; exact add_comm _ _
  have q1 : sndP (U := U) c (rws (pos (s c) k) (pos (s c) (k + 1))) f ⊢ ((sndM off sz inb).view.loc (c : Thread nD τ) ↦[(sndM off sz inb).view.set]{fullShare} f : sProp 𝕄) := by
    rw [sndM_set off sz inb h1 h3, ← hch]; exact .rfl
  have q2 : rcvP (U := U) (pr c) (rws (pos (s c) k) (pos (s c) (k + 1))) g ⊢ ((rcvM off sz inb).view.loc (pr c : Thread nD τ) ↦[(rcvM off sz inb).view.set]{fullShare} g : sProp 𝕄) := by
    rw [rcvM_set off sz inb h1 h3, ← hch]; exact .rfl
  unfold SendSt at h ⊢
  rw [bigSep_from hk, sendToks, if_pos ha]
  iintro ⟨#HX, #HP, Hs, Hr, ⟨⟨Ht1, Ht2⟩, Ht⟩, Hc, HO, HR⟩
  ihave Hs' := e1.1 $$ Hs
  icases Hs' with ⟨Hs1, Hs⟩
  ihave Hr' := e2.1 $$ Hr
  icases Hr' with ⟨Hr1, Hr⟩
  ihave #HI1 := (Ctx_send E s G κ c hk) $$ HX
  ihave #HI2 := (Ctx_recv E s G κ (pr c) hk) $$ HX
  ihave #HR1 := (opens_send E c hk) $$ HP
  ihave #HR2 := (opens_recv E c hk) $$ HP
  iapply (Rounds.wp_send_pointsTo 𝒱₀ E (Rd E s G) (c : Thread nD τ) none (c' := (pr c : Thread nD τ)) (src := sndM off sz inb) (dst := rcvM off sz inb)
      (sS := .dma sS) (sem := .dma sR) (q := fullShare) (fs := f) (fd := g) (κ₁ := κ (cell c (sendSem k))) (κ₂ := κ (cell (pr c) (recvSem k)))
      (r₁ := 0) (r₂ := 0) (d₁ := ()) (d₂ := ())
      (by rw [hS, duties_send E s G hk ha]; exact Finset.mem_singleton_self _)
      (by rw [hR, duties_recv E s G hk (by rw [pr_pr]; exact ha)]; exact Finset.mem_singleton_self _)
      rcvIx sndIx (unitsOf k) hN (by rw [hS]; exact amount_send E s G hk ()) (by rw [hR]; exact amount_recv E s G hk ())
      (tallyL (payFrom s c (k + 1))) hO (W := W) hpay1 hpay2) $$ [Hs1 Hr1 HO Ht1 Ht2]
  · rw [hS, hR]
    isplitr; · iexact HI1
    isplitr; · iexact HI2
    isplitl [Hs1]
    · iapply q1; iexact Hs1
    isplitl [Hr1]
    · iapply q2; iexact Hr1
    isplitl [HO]; · iexact HO
    isplitl [Ht1]; · iexact Ht1
    isplitr; · iexact HR1
    isplitl [Ht2]; · iexact Ht2
    iexact HR2
  iintro ⟨Hcr, HO⟩
  iapply h
  rw [bigSep_upto, sentCred, if_pos ha]
  isplitr; · iexact HX
  isplitr; · iexact HP
  isplitl [Hs]; · iexact Hs
  isplitl [Hr]; · iexact Hr
  isplitl [Ht]; · iexact Ht
  isplitl [Hcr Hc]
  · isplitl [Hcr]
    · rw [← hS]; iexact Hcr
    iexact Hc
  isplitl [HO]; · iexact HO
  iexact HR

/-- A send of 32 rows as the kernel has it, under its condition. -/
theorem send_step [E.LandsIn (upEmb : UEmb _ (MT nD τ sig ℕ (Elt F) ℕ U ℕ))] {κ : GSem nD τ sig → ℕ} {c : Dev nD} {k : ℕ} (hk : k < 21) (hs : s c ≤ 72)
    {b : BitVec 1} (hb : b = 1#1 ↔ act (s c) k)
    {off sz : Fin 2 → ℕ} {inb : ∀ a, off a + sz a ≤ S576x512.size a} (h0 : act (s c) k → off 0 = pos (s c) k) (h1 : off 1 = 0) (h2 : sz 0 = rowsOf k) (h3 : sz 1 = 512)
    {d : Dev nD} (hd : d = pr c) {sS sR : DmaSem sig} (hS : SemLoc.dma sS = sendSem k) (hR : SemLoc.dma sR = recvSem k)
    (hN : (rcvM off sz inb).view.dmaCredit = unitsOf k)
    {f g : Rows F} {W : Waits sig ℕ} {R : sProp 𝕄} (hf : ∀ i ∈ chunk (s c) k, f i = G c i)
    {hsc} {hw1} {hw2} {ht} {α : Type} {rest : Prog (TpuEff nD τ sig (Elt F) Λ₀ .tc) α} {Q : α → sProp 𝕄}
    (h : SendSt E s G κ c (k + 1) f g W R ⊢ wpk c rest Q) :
    SendSt E s G κ c k f g W R ⊢ wpk c (if b = 1#1 then
      (Prog.lift (.enqueueDma (sndM off sz inb) (.remote (Dev.tc d) (rcvM off sz inb) (.dma sS) hsc) (.dma sR) hw1 hw2 ht) >>= fun _ => rest) else rest) Q := by
  split
  · rename_i hb1
    exact send_core E s G hk hs (hb.mp hb1) (h0 (hb.mp hb1)) h1 h2 h3 hd hS hR hN hf h
  · rename_i hb1
    exact (SendSt_skip E s G hk (fun e => hb1 (hb.mpr e)) f g W R).trans h

/-- A send of 8 rows as the kernel has it: its rows are in bounds only under its condition. -/
theorem send_step' [E.LandsIn (upEmb : UEmb _ (MT nD τ sig ℕ (Elt F) ℕ U ℕ))] {κ : GSem nD τ sig → ℕ} {c : Dev nD} {k : ℕ} (hk : k < 21) (hs : s c ≤ 72)
    {b : BitVec 1} (hb : b = 1#1 ↔ act (s c) k)
    {off sz : Fin 2 → ℕ} {inb : b = 1#1 → ∀ a, off a + sz a ≤ S576x512.size a} (h0 : act (s c) k → off 0 = pos (s c) k) (h1 : off 1 = 0) (h2 : sz 0 = rowsOf k) (h3 : sz 1 = 512)
    {d : Dev nD} (hd : d = pr c) {sS sR : DmaSem sig} (hS : SemLoc.dma sS = sendSem k) (hR : SemLoc.dma sR = recvSem k)
    (hN : ∀ h : b = 1#1, (rcvM off sz (inb h)).view.dmaCredit = unitsOf k)
    {f g : Rows F} {W : Waits sig ℕ} {R : sProp 𝕄} (hf : ∀ i ∈ chunk (s c) k, f i = G c i)
    {hsc : (h : b = 1#1) → (rcvM off sz (inb h)).view.ref.isScScratch = false}
    {hw1 : (h : b = 1#1) → (sndM off sz (inb h)).view.WordExact}
    {hw2 : (h : b = 1#1) → (DmaTarget.remote (Dev.tc d : Thread nD τ) (rcvM off sz (inb h)) (.dma sS) (hsc h)).view.WordExact}
    {ht : (h : b = 1#1) → DmaTarget.Typed Space.vmem (.dma sR) (DmaTarget.remote (Dev.tc d : Thread nD τ) (rcvM off sz (inb h)) (.dma sS) (hsc h))}
    {α : Type} {rest : Prog (TpuEff nD τ sig (Elt F) Λ₀ .tc) α} {Q : α → sProp 𝕄}
    (h : SendSt E s G κ c (k + 1) f g W R ⊢ wpk c rest Q) :
    SendSt E s G κ c k f g W R ⊢ wpk c (if h : b = 1#1 then
      (Prog.lift (.enqueueDma (sndM off sz (inb h)) (.remote (Dev.tc d) (rcvM off sz (inb h)) (.dma sS) (hsc h)) (.dma sR) (hw1 h) (hw2 h) (ht h)) >>= fun _ => rest) else rest) Q := by
  split
  · rename_i hb1
    exact send_core E s G hk hs (hb.mp hb1) (h0 (hb.mp hb1)) h1 h2 h3 hd hS hR (hN hb1) hf h
  · rename_i hb1
    exact (SendSt_skip E s G hk (fun e => hb1 (hb.mpr e)) f g W R).trans h

end Sched

end Cert.Proof
-- ==== Proof.Blend.lean ====
/- One blend: the kernel goes through the rows received, chunk by chunk, and puts those that are its own into the output block; what the block holds before chunk k's
   blend becomes what it holds before the next. -/
module

public import proofs.«01_k».proof.Proof.Sends

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig ℕ (Elt F) ℕ U ℕ

/-- The contents of the output block. -/
abbrev Outs (F : FTy → Type) : Type := S1024x512.Idx → Elt F .f32

/-- An element received, as an element of the output. -/
def extE (x : Elt F .bf16) : Elt F .f32 := FloatOps.extf .f32 bitsLt_bf16_f32 x

/-- Row m, column j of a scratch buffer. -/
def rowAt (m : ℕ) (j : Fin 512) : S576x512.Idx := fun a => match a with
  | ⟨0, _⟩ => ⟨m % 576, Nat.mod_lt _ (by decide)⟩
  | ⟨1, _⟩ => j
  | ⟨_ + 2, h⟩ => absurd h (by show ¬(_ + 2 < 2); omega)

/-- The output block once the first p rows received have been blended: row A + q takes row q received when r ≤ q < r + n, and is as before otherwise. -/
def blended (A r n p : ℕ) (v : Outs F) (f : Rows F) : Outs F := fun i =>
  if A ≤ (i 0).val ∧ (i 0).val < A + p ∧ r ≤ (i 0).val - A ∧ (i 0).val - A < r + n then extE (f (rowAt ((i 0).val - A) ((i 1).cast rfl))) else v i

/-- Before any row is blended the block is as it was. -/
theorem blended_zero (A r n : ℕ) (v : Outs F) (f : Rows F) : blended A r n 0 v f = v :=
  funext fun i => if_neg fun h => by omega

/-- The output block of device c at contents v. -/
def outP (c : Dev nD) (v : Outs F) : sProp 𝕄 := ((c : Thread nD τ).loc cc0_stg4_0 : Loc nD τ sig) ↦{fullShare} v

/-- What device c holds before chunk k's blend. -/
def BlendSt (s A r n : ℕ) (v : Outs F) (f : Rows F) (c : Dev nD) (k : ℕ) (R : sProp 𝕄) : sProp 𝕄 :=
  iprop(outP c (blended A r n (pos s k) v f) ∗ rcvP c (rws 0 (pos s 21)) f ∗ R)

/-- Writing the blend of a chunk's rows. -/
theorem blended_write {s k A r n : ℕ} (hk : k < 21) (hs : s ≤ 72) (ha : act s k) (v : Outs F) (f : Rows F)
    {roff ooff sz : Fin 2 → ℕ} {rinb : ∀ a, roff a + sz a ≤ S576x512.size a} {oinb : ∀ a, ooff a + sz a ≤ S1024x512.size a}
    (hr0 : roff 0 = pos s k) (hr1 : roff 1 = 0) (ho0 : ooff 0 = A + pos s k) (ho1 : ooff 1 = 0) (hz0 : sz 0 = rowsOf k) (hz1 : sz 1 = 512)
    (w : (⟨2, sz⟩ : Shape).Idx → Elt F .f32)
    (hw : ∀ j : (⟨2, sz⟩ : Shape).Idx, w j = if r ≤ pos s k + (j 0).val ∧ pos s k + (j 0).val < r + n then extE (((Memref.whole cc0_scratch1).access (Rect.unit (s := S576x512) roff sz rinb)).read (Elt F) f j)
      else ((Memref.whole cc0_stg4_0).access (Rect.unit (s := S1024x512) ooff sz oinb)).read (Elt F) (blended A r n (pos s k) v f) j) :
    ((Memref.whole cc0_stg4_0).access (Rect.unit (s := S1024x512) ooff sz oinb)).write (Elt F) (blended A r n (pos s k) v f) w Finset.univ
      = blended A r n (pos s (k + 1)) v f := by
  have hp := pos_succ ha hs hk
  have hle := pos_le hs (k + 1)
  funext i
  by_cases hi : i ∈ ((Memref.whole cc0_stg4_0).access (Rect.unit (s := S1024x512) ooff sz oinb)).setOn Finset.univ
  · obtain ⟨j, -, rfl⟩ := Finset.mem_map.mp hi
    rw [View.write_emb_of_mem _ _ (Finset.mem_univ j)]
    have hj0 : (j 0).val < rowsOf k := by rw [← hz0]; exact (j 0).isLt
    have e0 : ((((Memref.whole cc0_stg4_0).access (Rect.unit (s := S1024x512) ooff sz oinb)).emb j) 0).val = A + pos s k + (j 0).val := by
      show ooff 0 + 1 * (j 0).val = _; rw [ho0, Nat.one_mul]
    have e1 : ((((Memref.whole cc0_stg4_0).access (Rect.unit (s := S1024x512) ooff sz oinb)).emb j) 1).val = (j 1).val := by
      show ooff 1 + 1 * (j 1).val = _; rw [ho1, Nat.one_mul, Nat.zero_add]
    refine (hw j).trans ?_
    unfold blended
    rw [e0]
    by_cases hc : r ≤ pos s k + (j 0).val ∧ pos s k + (j 0).val < r + n
    · rw [if_pos hc, if_pos (by omega)]
      refine congrArg extE (congrArg f ?_)
      funext a
      match a with
      | ⟨0, _⟩ =>
        apply Fin.ext
        show roff 0 + 1 * (j 0).val = (A + pos s k + (j 0).val - A) % 576
        rw [hr0, Nat.mod_eq_of_lt (by omega)]; omega
      | ⟨1, _⟩ =>
        apply Fin.ext
        show roff 1 + 1 * (j 1).val = _
        rw [hr1]; exact (by omega : 0 + 1 * (j 1).val = (j 1).val).trans e1.symm
    · rw [if_neg hc]
      refine Eq.trans ?_ (if_neg (by omega)).symm
      exact if_neg (by rw [e0]; omega)
  · rw [View.write_of_not_mem _ _ _ hi]
    have hout : ¬(A + pos s k ≤ (i 0).val ∧ (i 0).val < A + pos s k + rowsOf k) := fun h => hi (by
      have hset : ((Memref.whole cc0_stg4_0).access (Rect.unit (s := S1024x512) ooff sz oinb)).setOn Finset.univ = (Rect.unit (s := S1024x512) ooff sz oinb).set :=
        View.set_slice_whole cc0_stg4_0 _
      rw [hset, Rect.mem_set_unit]
      intro a
      match a with
      | ⟨0, _⟩ => exact ⟨by rw [show ooff ⟨0, _⟩ = ooff 0 from rfl, ho0]; exact h.1, by rw [show ooff ⟨0, _⟩ = ooff 0 from rfl, show sz ⟨0, _⟩ = sz 0 from rfl, ho0, hz0]; exact h.2⟩
      | ⟨1, _⟩ => exact ⟨by rw [show ooff ⟨1, _⟩ = ooff 1 from rfl, ho1]; exact Nat.zero_le _, by rw [show ooff ⟨1, _⟩ = ooff 1 from rfl, show sz ⟨1, _⟩ = sz 1 from rfl, ho1, hz1, Nat.zero_add]; exact (i 1).isLt⟩)
    unfold blended
    by_cases hc : A ≤ (i 0).val ∧ (i 0).val < A + pos s k ∧ r ≤ (i 0).val - A ∧ (i 0).val - A < r + n
    · rw [if_pos hc, if_pos (by omega)]
    · rw [if_neg hc, if_neg (by omega)]

/-- Chunk k's blend as the kernel has it, under its condition. -/
theorem blend_step {s k A r n : ℕ} (hk : k < 21) (hs : s ≤ 72) {b : BitVec 1} (hb : b = 1#1 ↔ act s k) {v : Outs F} {f : Rows F} {c : Dev nD}
    {roff ooff sz : Fin 2 → ℕ} {rinb : b = 1#1 → ∀ a, roff a + sz a ≤ S576x512.size a} {oinb : b = 1#1 → ∀ a, ooff a + sz a ≤ S1024x512.size a}
    (hr0 : act s k → roff 0 = pos s k) (hr1 : roff 1 = 0) (ho0 : act s k → ooff 0 = A + pos s k) (ho1 : ooff 1 = 0) (hz0 : sz 0 = rowsOf k) (hz1 : sz 1 = 512)
    {w : ((⟨2, sz⟩ : Shape).Idx → Elt F .bf16) → ((⟨2, sz⟩ : Shape).Idx → Elt F .f32) → (⟨2, sz⟩ : Shape).Idx → Elt F .f32}
    (hw : act s k → ∀ u u' (j : (⟨2, sz⟩ : Shape).Idx), w u u' j = if r ≤ pos s k + (j 0).val ∧ pos s k + (j 0).val < r + n then extE (u j) else u' j)
    {hl1 : (h : b = 1#1) → (Memref.whole cc0_scratch1).view.LoadsAt (Rect.unit (s := S576x512) roff sz (rinb h)).toLoadRect}
    {hl2 hl3 : (h : b = 1#1) → (Memref.whole cc0_stg4_0).view.LoadsAt (Rect.unit (s := S1024x512) ooff sz (oinb h)).toLoadRect}
    {hst : (h : b = 1#1) → ((Memref.whole cc0_stg4_0).access (Rect.unit (s := S1024x512) ooff sz (oinb h))).Stores Finset.univ}
    {hu : (h : b = 1#1) → (Finset.univ : Finset (⟨2, sz⟩ : Shape).Idx) = Finset.univ ∨ ∀ a, (Rect.unit (s := S1024x512) ooff sz (oinb h)).stride a = 1}
    {R : sProp 𝕄} {α : Type} {rest : Prog (TpuEff nD τ sig (Elt F) Λ₀ .tc) α} {Q : α → sProp 𝕄}
    (h : BlendSt s A r n v f c (k + 1) R ⊢ wpk c rest Q) :
    BlendSt s A r n v f c k R ⊢ wpk c (if h : b = 1#1 then
        (Prog.lift (.load (Memref.whole cc0_scratch1) (Rect.unit (s := S576x512) roff sz (rinb h)).toLoadRect (hl1 h)) >>= fun u =>
          Prog.lift (.load (Memref.whole cc0_stg4_0) (Rect.unit (s := S1024x512) ooff sz (oinb h)).toLoadRect (hl2 h)) >>= fun u' =>
          Prog.lift (.load (Memref.whole cc0_stg4_0) (Rect.unit (s := S1024x512) ooff sz (oinb h)).toLoadRect (hl3 h)) >>= fun _ =>
          Prog.lift (.store (Memref.whole cc0_stg4_0) (Rect.unit (s := S1024x512) ooff sz (oinb h)) (w u u') Finset.univ (hst h) (hu h)) >>= fun _ => rest) else rest) Q := by
  split
  · rename_i hb1
    have ha := hb.mp hb1
    have hwr := blended_write hk hs ha v f (rinb := rinb hb1) (oinb := oinb hb1) (hr0 ha) hr1 (ho0 ha) ho1 hz0 hz1
      (w (((Memref.whole cc0_scratch1).access (Rect.unit (s := S576x512) roff sz (rinb hb1))).read (Elt F) f)
        (((Memref.whole cc0_stg4_0).access (Rect.unit (s := S1024x512) ooff sz (oinb hb1))).read (Elt F) (blended A r n (pos s k) v f))) (fun j => hw ha _ _ j)
    have hsub : ((Memref.whole cc0_scratch1).access (Rect.unit (s := S576x512) roff sz (rinb hb1))).set ⊆ rws 0 (pos s 21) := by
      rw [show ((Memref.whole cc0_scratch1).access (Rect.unit (s := S576x512) roff sz (rinb hb1))).set = (Rect.unit (s := S576x512) roff sz (rinb hb1)).set from View.set_slice_whole cc0_scratch1 _,
        rect_rws (rinb hb1) hr1 hz1, hr0 ha, hz0, ← pos_succ ha hs hk]
      exact rws_sub (Nat.zero_le _) (pos_mono s hk)
    unfold BlendSt outP rcvP at h ⊢
    iintro ⟨Ho, Hr, HR⟩
    iapply (wp_load_rect (defs := defs₀ (F := F)) 𝒱₀ (c : Thread nD τ) none Set.univ (m := Memref.whole cc0_scratch1) (r := Rect.unit (s := S576x512) roff sz (rinb hb1)) (hl := hl1 hb1) (S := rws 0 (pos s 21)) hsub) $$ Hr
    iintro Hr
    iapply (wp_load_rect (defs := defs₀ (F := F)) 𝒱₀ (c : Thread nD τ) none Set.univ (m := Memref.whole cc0_stg4_0) (r := Rect.unit (s := S1024x512) ooff sz (oinb hb1)) (hl := hl2 hb1) (S := Finset.univ) (Finset.subset_univ _)) $$ Ho
    iintro Ho
    iapply (wp_load_rect (defs := defs₀ (F := F)) 𝒱₀ (c : Thread nD τ) none Set.univ (m := Memref.whole cc0_stg4_0) (r := Rect.unit (s := S1024x512) ooff sz (oinb hb1)) (hl := hl3 hb1) (S := Finset.univ) (Finset.subset_univ _)) $$ Ho
    iintro Ho
    iapply (wp_store (defs := defs₀ (F := F)) 𝒱₀ (c : Thread nD τ) none Set.univ (m := Memref.whole cc0_stg4_0) (r := Rect.unit (s := S1024x512) ooff sz (oinb hb1)) (hx := hst hb1) (hm := hu hb1) (S := Finset.univ) (Finset.subset_univ _)) $$ Ho
    rw [hwr]
    iintro Ho
    iapply h
    isplitl [Ho]; · iexact Ho
    isplitl [Hr]; · iexact Hr
    iexact HR
  · rename_i hb1
    have hp : pos s (k + 1) = pos s k := pos_succ_not fun e => hb1 (hb.mpr e)
    unfold BlendSt at h ⊢
    rw [hp] at h
    exact h

end Cert.Proof
-- ==== Proof.Words.lean ====
/- The words the kernel computes from its device number and the number it reads: each is the word of a natural number, and its conditions say which chunks move. -/
module

public import proofs.«01_k».proof.KernelIdeal
public import proofs.«01_k».proof.Proof.Chunks

@[expose] public section

namespace Cert.Proof

open Cert.KernelIdeal Idealize.ShloMosaic

/-- The quotient rounded down, as the kernel computes it from the one rounded to zero. -/
def fdiv (x y : BitVec 32) : BitVec 32 :=
  let q := Scalar.divsi x y
  let sx := Scalar.subi (Scalar.extui (Scalar.cmpi .sgt x 0#32)) (Scalar.extui (Scalar.cmpi .slt x 0#32) : BitVec 32)
  let sy := Scalar.subi (Scalar.extui (Scalar.cmpi .sgt y 0#32)) (Scalar.extui (Scalar.cmpi .slt y 0#32) : BitVec 32)
  Scalar.select (Scalar.andi (Scalar.cmpi .ne sx sy) (Scalar.cmpi .ne (Scalar.remsi x y) 0#32)) (Scalar.subi q 1#32) q

/-- The remainder that goes with it. -/
def fmod (x y : BitVec 32) : BitVec 32 :=
  let m := Scalar.select (Scalar.cmpi .eq y 0#32) 1#32 y
  let r := Scalar.remsi x m
  Scalar.select (Scalar.andi (Scalar.xori (Scalar.cmpi .slt r 0#32) (Scalar.cmpi .slt m 0#32)) (Scalar.cmpi .ne r 0#32)) (Scalar.addi r m) r

/-- Whether the device is at position 0. -/
def yw (c : Dev nD) : BitVec 1 := Scalar.cmpi .eq (Scalar.remsi (Scalar.divsi (Dev.word c) 2#32) 2#32) 0#32

/-- The number of rows to send. -/
def nW (c : Dev nD) (v : BitVec 32) : BitVec 32 := Scalar.select (yw c) (Scalar.subi 1024#32 v) v

/-- The output row where the rows received start. -/
def startW (c : Dev nD) (v : BitVec 32) : BitVec 32 := Scalar.select (yw c) v 0#32

/-- How far the rows sent are moved down. -/
def shiftW (c : Dev nD) (v : BitVec 32) : BitVec 32 := Scalar.select (yw c) 0#32 (fmod (Scalar.subi 1024#32 v) 8#32)

/-- The rows sent, up to the next multiple of 8. -/
def upOut (c : Dev nD) (v : BitVec 32) : BitVec 32 :=
  Scalar.muli (fdiv (Scalar.addi (Scalar.addi (shiftW c v) (nW c v)) 7#32) 8#32) 8#32

/-- The chunks of 32 rows to send. -/
def bigOut (c : Dev nD) (v : BitVec 32) : BitVec 32 := fdiv (upOut c v) 32#32
/-- The chunks of 8 rows to send. -/
def smallOut (c : Dev nD) (v : BitVec 32) : BitVec 32 := fdiv (fmod (upOut c v) 32#32) 8#32

/-- The place of the first row received in its group of 8. -/
def fixW (c : Dev nD) (v : BitVec 32) : BitVec 32 := fmod (startW c v) 8#32

/-- The rows received, up to the next multiple of 8. -/
def upIn (c : Dev nD) (v : BitVec 32) : BitVec 32 :=
  Scalar.muli (fdiv (Scalar.addi (Scalar.addi (fixW c v) (nW c v)) 7#32) 8#32) 8#32

/-- The chunks of 32 rows to receive. -/
def bigIn (c : Dev nD) (v : BitVec 32) : BitVec 32 := fdiv (upIn c v) 32#32
/-- The chunks of 8 rows to receive. -/
def smallIn (c : Dev nD) (v : BitVec 32) : BitVec 32 := fdiv (fmod (upIn c v) 32#32) 8#32

/-- The group of 8 output rows where the rows received start. -/
def baseW (c : Dev nD) (v : BitVec 32) : BitVec 32 := Scalar.muli (fdiv (startW c v) 8#32) 8#32

/-- The condition of chunk k: that there are more than k. -/
def gtW (w k : BitVec 32) : BitVec 1 := Scalar.cmpi .ne (Scalar.extui (Scalar.cmpi .sgt w k) : BitVec 32) 0#32

/-! ## On the words of natural numbers -/

/-- Division by 8 is the natural numbers'. -/
theorem fdiv_8 : ∀ a : Fin 2048, fdiv (BitVec.ofNat 32 a) 8#32 = BitVec.ofNat 32 (a / 8) := by decide +kernel
/-- Division by 32 is the natural numbers'. -/
theorem fdiv_32 : ∀ a : Fin 2048, fdiv (BitVec.ofNat 32 a) 32#32 = BitVec.ofNat 32 (a / 32) := by decide +kernel
/-- The remainder by 8 is the natural numbers'. -/
theorem fmod_8 : ∀ a : Fin 2048, fmod (BitVec.ofNat 32 a) 8#32 = BitVec.ofNat 32 (a % 8) := by decide +kernel
/-- The remainder by 32 is the natural numbers'. -/
theorem fmod_32 : ∀ a : Fin 2048, fmod (BitVec.ofNat 32 a) 32#32 = BitVec.ofNat 32 (a % 32) := by decide +kernel
/-- What is left of 1024. -/
theorem subi_1024 : ∀ a : Fin 1025, Scalar.subi 1024#32 (BitVec.ofNat 32 a) = BitVec.ofNat 32 (1024 - a) := by decide +kernel
/-- The condition of chunk k says that there are more than k chunks. -/
theorem gtW_iff : ∀ (m : Fin 80) (k : Fin 18), gtW (BitVec.ofNat 32 m) (BitVec.ofNat 32 k) = 1#1 ↔ k.val < m.val := by decide +kernel
/-- The bit of the device's position. -/
theorem yw_eq : ∀ c : Dev nD, yw c = if yOf c = 0 then 1#1 else 0#1 := by decide +kernel

/-- The product of two words of numbers is the word of the product. -/
theorem muli_nat (a b : ℕ) : Scalar.muli (BitVec.ofNat 32 a) (BitVec.ofNat 32 b) = BitVec.ofNat 32 (a * b) := (BitVec.ofNat_mul a b).symm
/-- The sum of two words of numbers is the word of the sum. -/
theorem addi_nat (a b : ℕ) : Scalar.addi (BitVec.ofNat 32 a) (BitVec.ofNat 32 b) = BitVec.ofNat 32 (a + b) := (BitVec.ofNat_add a b).symm

variable {z : Dev nD → ℕ} (h : Even z) (c : Dev nD)
include h

/-- The number of rows to send. -/
theorem nW_eq : nW c (BitVec.ofNat 32 (z c)) = BitVec.ofNat 32 (nSend z c) := by
  have hz := h.le c
  have e : Scalar.subi 1024#32 (BitVec.ofNat 32 (z c)) = _ := subi_1024 ⟨z c, by omega⟩
  unfold nW nSend; rw [yw_eq, e]; split <;> rfl

omit h in
/-- The output row where the rows received start. -/
theorem startW_eq : startW c (BitVec.ofNat 32 (z c)) = BitVec.ofNat 32 (startRow z c) := by
  unfold startW startRow; rw [yw_eq]; split <;> rfl

/-- How far the rows sent are moved down. -/
theorem shiftW_eq : shiftW c (BitVec.ofNat 32 (z c)) = BitVec.ofNat 32 (shiftOf z c) := by
  have hz := h.le c
  have e : Scalar.subi 1024#32 (BitVec.ofNat 32 (z c)) = _ := subi_1024 ⟨z c, by omega⟩
  have e2 : fmod (BitVec.ofNat 32 (1024 - z c)) 8#32 = _ := fmod_8 ⟨1024 - z c, by omega⟩
  unfold shiftW shiftOf; rw [yw_eq, e, e2]; split <;> rfl

omit h in
/-- They are moved down within a group of 8. -/
theorem shiftOf_lt : shiftOf z c < 8 := by unfold shiftOf; split <;> omega

/-- The rows received start inside the output or at its end. -/
theorem startRow_le : startRow z c ≤ 1024 := by have := h.le c; unfold startRow; split <;> omega

/-- The rows sent, up to the next multiple of 8. -/
theorem upOut_eq : upOut c (BitVec.ofNat 32 (z c)) = BitVec.ofNat 32 (grp z c * 8) := by
  have h1 := h.cap c
  have h2 := shiftOf_lt (z := z) c
  have e : fdiv (BitVec.ofNat 32 (shiftOf z c + nSend z c + 7)) 8#32 = _ := fdiv_8 ⟨shiftOf z c + nSend z c + 7, by omega⟩
  unfold upOut; rw [shiftW_eq h, nW_eq h, addi_nat]
  rw [show (7#32) = BitVec.ofNat 32 7 from rfl, addi_nat, e]
  exact muli_nat _ 8

/-- The number of chunks of 32 rows to send. -/
theorem bigOut_eq : bigOut c (BitVec.ofNat 32 (z c)) = BitVec.ofNat 32 (grp z c / 4) := by
  have h1 := h.grp_le c
  have e : fdiv (BitVec.ofNat 32 (grp z c * 8)) 32#32 = _ := fdiv_32 ⟨grp z c * 8, by omega⟩
  unfold bigOut; rw [upOut_eq h, e]; congr 1; show _ * 8 / 32 = _; omega

/-- The number of chunks of 8 rows to send. -/
theorem smallOut_eq : smallOut c (BitVec.ofNat 32 (z c)) = BitVec.ofNat 32 (grp z c % 4) := by
  have h1 := h.grp_le c
  have e : fmod (BitVec.ofNat 32 (grp z c * 8)) 32#32 = _ := fmod_32 ⟨grp z c * 8, by omega⟩
  have e2 : fdiv (BitVec.ofNat 32 (grp z c * 8 % 32)) 8#32 = _ := fdiv_8 ⟨grp z c * 8 % 32, by omega⟩
  unfold smallOut; rw [upOut_eq h, e, e2]; congr 1; show _ * 8 % 32 / 8 = _; omega

/-- The place of the first row received in its group of 8. -/
theorem fixW_eq : fixW c (BitVec.ofNat 32 (z c)) = BitVec.ofNat 32 (startRow z c % 8) := by
  have h1 := startRow_le h c
  have e : fmod (BitVec.ofNat 32 (startRow z c)) 8#32 = _ := fmod_8 ⟨startRow z c, by omega⟩
  unfold fixW; rw [startW_eq, e]

/-- The group of 8 output rows where the rows received start. -/
theorem baseW_eq : baseW c (BitVec.ofNat 32 (z c)) = BitVec.ofNat 32 (startRow z c / 8 * 8) := by
  have h1 := startRow_le h c
  have e : fdiv (BitVec.ofNat 32 (startRow z c)) 8#32 = _ := fdiv_8 ⟨startRow z c, by omega⟩
  unfold baseW; rw [startW_eq, e]; exact muli_nat _ 8

/-- The groups that the partner sends, from the device's own numbers. -/
theorem grp_pr : grp z (pr c) = (startRow z c % 8 + nSend z c + 7) / 8 := by
  unfold grp; rw [h.shift_pr, h.nSend_pr]

/-- The rows received, up to the next multiple of 8. -/
theorem upIn_eq : upIn c (BitVec.ofNat 32 (z c)) = BitVec.ofNat 32 (grp z (pr c) * 8) := by
  have h1 := h.cap c
  have e : fdiv (BitVec.ofNat 32 (startRow z c % 8 + nSend z c + 7)) 8#32 = _ := fdiv_8 ⟨startRow z c % 8 + nSend z c + 7, by omega⟩
  unfold upIn; rw [fixW_eq h, nW_eq h, addi_nat]
  rw [show (7#32) = BitVec.ofNat 32 7 from rfl, addi_nat, e, grp_pr h]
  exact muli_nat _ 8

/-- The number of chunks of 32 rows to receive. -/
theorem bigIn_eq : bigIn c (BitVec.ofNat 32 (z c)) = BitVec.ofNat 32 (grp z (pr c) / 4) := by
  have h1 := h.grp_le (pr c)
  have e : fdiv (BitVec.ofNat 32 (grp z (pr c) * 8)) 32#32 = _ := fdiv_32 ⟨grp z (pr c) * 8, by omega⟩
  unfold bigIn; rw [upIn_eq h, e]; congr 1; show _ * 8 / 32 = _; omega

/-- The number of chunks of 8 rows to receive. -/
theorem smallIn_eq : smallIn c (BitVec.ofNat 32 (z c)) = BitVec.ofNat 32 (grp z (pr c) % 4) := by
  have h1 := h.grp_le (pr c)
  have e : fmod (BitVec.ofNat 32 (grp z (pr c) * 8)) 32#32 = _ := fmod_32 ⟨grp z (pr c) * 8, by omega⟩
  have e2 : fdiv (BitVec.ofNat 32 (grp z (pr c) * 8 % 32)) 8#32 = _ := fdiv_8 ⟨grp z (pr c) * 8 % 32, by omega⟩
  unfold smallIn; rw [upIn_eq h, e, e2]; congr 1; show _ * 8 % 32 / 8 = _; omega

/-! ## The conditions -/

/-- The rows that arrive end inside the output. -/
theorem in_le : startRow z c / 8 * 8 + 8 * grp z (pr c) ≤ 1024 := by
  have h1 := h.tot c
  rw [grp_pr h]; unfold startRow nSend
  rcases yOf_lt c with e | e <;> rw [e] <;> simp only [if_true, one_ne_zero, if_false] <;> omega

/-- The condition of a chunk of 32 rows to send says that it is sent. -/
theorem bigOut_act (k : Fin 18) : gtW (bigOut c (BitVec.ofNat 32 (z c))) (BitVec.ofNat 32 k) = 1#1 ↔ act (grp z c) k := by
  have h1 := h.grp_le c
  rw [bigOut_eq h, act_big k.isLt]; exact gtW_iff ⟨grp z c / 4, by omega⟩ k

/-- The condition of a chunk of 8 rows to send says that it is sent. -/
theorem smallOut_act (j : Fin 3) : gtW (smallOut c (BitVec.ofNat 32 (z c))) (BitVec.ofNat 32 j) = 1#1 ↔ act (grp z c) (18 + j) := by
  rw [smallOut_eq h, act_small]; exact gtW_iff ⟨grp z c % 4, by omega⟩ ⟨j, by omega⟩

/-- The condition of a chunk of 32 rows to receive says that the partner sends it. -/
theorem bigIn_act (k : Fin 18) : gtW (bigIn c (BitVec.ofNat 32 (z c))) (BitVec.ofNat 32 k) = 1#1 ↔ act (grp z (pr c)) k := by
  have h1 := h.grp_le (pr c)
  rw [bigIn_eq h, act_big k.isLt]; exact gtW_iff ⟨grp z (pr c) / 4, by omega⟩ k

/-- The condition of a chunk of 8 rows to receive says that the partner sends it. -/
theorem smallIn_act (j : Fin 3) : gtW (smallIn c (BitVec.ofNat 32 (z c))) (BitVec.ofNat 32 j) = 1#1 ↔ act (grp z (pr c)) (18 + j) := by
  rw [smallIn_eq h, act_small]; exact gtW_iff ⟨grp z (pr c) % 4, by omega⟩ ⟨j, by omega⟩

/-! ## The rows of the chunks -/

/-- Where chunk j of 8 rows starts at the sender. -/
def outRowW (c : Dev nD) (v : BitVec 32) (k : BitVec 32) : BitVec 32 := Scalar.addi (Scalar.muli (bigOut c v) 32#32) k
/-- Where chunk j of 8 rows starts in the buffer received. -/
def inRowW (c : Dev nD) (v : BitVec 32) (k : BitVec 32) : BitVec 32 := Scalar.addi (Scalar.muli (bigIn c v) 32#32) k

/-- Where a chunk of 8 rows starts at the sender: after all those of 32. -/
theorem outRowW_eq (j : ℕ) (hj : j < 3) : outRowW c (BitVec.ofNat 32 (z c)) (BitVec.ofNat 32 (8 * j)) = BitVec.ofNat 32 (32 * (grp z c / 4) + 8 * j) := by
  unfold outRowW; rw [bigOut_eq h]
  rw [show (32#32) = BitVec.ofNat 32 32 from rfl, muli_nat, addi_nat, Nat.mul_comm]

/-- Where a chunk of 8 rows starts in the buffer received. -/
theorem inRowW_eq (j : ℕ) (hj : j < 3) : inRowW c (BitVec.ofNat 32 (z c)) (BitVec.ofNat 32 (8 * j)) = BitVec.ofNat 32 (32 * (grp z (pr c) / 4) + 8 * j) := by
  unfold inRowW; rw [bigIn_eq h]
  rw [show (32#32) = BitVec.ofNat 32 32 from rfl, muli_nat, addi_nat, Nat.mul_comm]

/-- The row of a chunk of 8 rows at the sender. -/
theorem outRowW_nat (j : ℕ) (hj : j < 3) : (outRowW c (BitVec.ofNat 32 (z c)) (BitVec.ofNat 32 (8 * j))).toNat = 32 * (grp z c / 4) + 8 * j := by
  have h1 := h.grp_le c
  rw [outRowW_eq h c j hj, BitVec.toNat_ofNat, Nat.mod_eq_of_lt (by omega)]

/-- The row of a chunk of 8 rows in the buffer received. -/
theorem inRowW_nat (j : ℕ) (hj : j < 3) : (inRowW c (BitVec.ofNat 32 (z c)) (BitVec.ofNat 32 (8 * j))).toNat = 32 * (grp z (pr c) / 4) + 8 * j := by
  have h1 := h.grp_le (pr c)
  rw [inRowW_eq h c j hj, BitVec.toNat_ofNat, Nat.mod_eq_of_lt (by omega)]

/-- The output row where the blends start. -/
theorem baseW_nat : (baseW c (BitVec.ofNat 32 (z c))).toNat = startRow z c / 8 * 8 := by
  have h1 := startRow_le h c
  rw [baseW_eq h, BitVec.toNat_ofNat, Nat.mod_eq_of_lt (by omega)]

/-- The output row of chunk k of 32 rows. -/
theorem bigRow_nat (k : ℕ) (hk : k < 18) : (Scalar.addi (baseW c (BitVec.ofNat 32 (z c))) (BitVec.ofNat 32 (32 * k))).toNat = startRow z c / 8 * 8 + 32 * k := by
  have h1 := startRow_le h c
  rw [baseW_eq h, addi_nat, BitVec.toNat_ofNat, Nat.mod_eq_of_lt (by omega)]

/-- The output row of chunk j of 8 rows. -/
theorem smallRow_nat (j : ℕ) (hj : j < 3) : (Scalar.addi (baseW c (BitVec.ofNat 32 (z c))) (inRowW c (BitVec.ofNat 32 (z c)) (BitVec.ofNat 32 (8 * j)))).toNat = startRow z c / 8 * 8 + (32 * (grp z (pr c) / 4) + 8 * j) := by
  have h1 := startRow_le h c
  have h2 := h.grp_le (pr c)
  rw [baseW_eq h, inRowW_eq h c j hj, addi_nat, BitVec.toNat_ofNat, Nat.mod_eq_of_lt (by omega)]

end Cert.Proof
-- ==== Proof.Checks.lean ====
/- The check the kernel makes of the number it reads, and the device it sends to. -/
module

public import proofs.«01_k».proof.Proof.Words

@[expose] public section

namespace Cert.Proof

open Cert.KernelIdeal Idealize.ShloMosaic

variable {z : Dev nD → ℕ} (h : Even z) (c : Dev nD)
include h

/-- Chunk j of 8 rows at the sender: its row is a multiple of 8, inside the buffer, and whole words are moved. -/
theorem out_chk (j : Fin 3) (hc : gtW (smallOut c (BitVec.ofNat 32 (z c))) (BitVec.ofNat 32 j) = 1#1) :
    8 ∣ (outRowW c (BitVec.ofNat 32 (z c)) (BitVec.ofNat 32 (8 * j))).toNat ∧
    (∀ a, (![(outRowW c (BitVec.ofNat 32 (z c)) (BitVec.ofNat 32 (8 * j))).toNat, 0] : Fin 2 → ℕ) a + S8x512.size a ≤ S576x512.size a) ∧
    (∀ hinb, (Rect.unit (s := S576x512) (![(outRowW c (BitVec.ofNat 32 (z c)) (BitVec.ofNat 32 (8 * j))).toNat, 0] : Fin 2 → ℕ) S8x512.size hinb).WholeWords (EltTy.packing .bf16)) := by
  have h1 := h.grp_le c
  have h2 := act_small.mp ((smallOut_act h c j).mp hc)
  have e := outRowW_nat h c j j.isLt
  rw [e]
  refine ⟨by omega, fun a => ?_, fun hinb => .inl (.inr ⟨le_refl _, rfl, .inl ⟨?_, ?_⟩⟩)⟩
  · fin_cases a
    · show 32 * (grp z c / 4) + 8 * j.val + 8 ≤ 576; omega
    · exact le_refl _
  · show 2 ∣ 32 * (grp z c / 4) + 8 * j.val; omega
  · show 2 ∣ 8; omega

/-- Chunk k of 32 rows at the receiver. -/
theorem big_chk (k : Fin 18) (hc : gtW (bigIn c (BitVec.ofNat 32 (z c))) (BitVec.ofNat 32 k) = 1#1) :
    8 ∣ (Scalar.addi (baseW c (BitVec.ofNat 32 (z c))) (BitVec.ofNat 32 (32 * k))).toNat ∧
    (∀ a, (![(Scalar.addi (baseW c (BitVec.ofNat 32 (z c))) (BitVec.ofNat 32 (32 * k))).toNat, 0] : Fin 2 → ℕ) a + S32x512.size a ≤ S1024x512.size a) := by
  have h1 := in_le h c
  have h2 := (act_big k.isLt).mp ((bigIn_act h c k).mp hc)
  rw [bigRow_nat h c k k.isLt]
  refine ⟨by omega, fun a => ?_⟩
  fin_cases a
  · show startRow z c / 8 * 8 + 32 * k.val + 32 ≤ 1024; omega
  · exact le_refl _

/-- Chunk j of 8 rows at the receiver. -/
theorem in_chk (j : Fin 3) (hc : gtW (smallIn c (BitVec.ofNat 32 (z c))) (BitVec.ofNat 32 j) = 1#1) :
    8 ∣ (Scalar.addi (baseW c (BitVec.ofNat 32 (z c))) (inRowW c (BitVec.ofNat 32 (z c)) (BitVec.ofNat 32 (8 * j)))).toNat ∧
    (∀ a, (![(inRowW c (BitVec.ofNat 32 (z c)) (BitVec.ofNat 32 (8 * j))).toNat, 0] : Fin 2 → ℕ) a + S8x512.size a ≤ S576x512.size a) ∧
    (∀ a, (![(Scalar.addi (baseW c (BitVec.ofNat 32 (z c))) (inRowW c (BitVec.ofNat 32 (z c)) (BitVec.ofNat 32 (8 * j)))).toNat, 0] : Fin 2 → ℕ) a + S8x512.size a ≤ S1024x512.size a) := by
  have h0 := h.grp_le (pr c)
  have h1 := in_le h c
  have h2 := act_small.mp ((smallIn_act h c j).mp hc)
  rw [smallRow_nat h c j j.isLt, inRowW_nat h c j j.isLt]
  refine ⟨by omega, fun a => ?_, fun a => ?_⟩
  · fin_cases a
    · show 32 * (grp z (pr c) / 4) + 8 * j.val + 8 ≤ 576; omega
    · exact le_refl _
  · fin_cases a
    · show startRow z c / 8 * 8 + (32 * (grp z (pr c) / 4) + 8 * j.val) + 8 ≤ 1024; omega
    · exact le_refl _

/-- The check's first half: the sends of 8 rows, and the first eleven arrivals of 32 rows. -/
theorem chk_0 : k0_chk1_0 c (BitVec.ofNat 32 (z c)) :=
  ⟨fun e => (out_chk h c 0 e).1, fun e => (out_chk h c 0 e).2.1, fun e => (out_chk h c 0 e).2.2,
   fun e => (out_chk h c 1 e).1, fun e => (out_chk h c 1 e).2.1, fun e => (out_chk h c 1 e).2.2,
   fun e => (out_chk h c 2 e).1, fun e => (out_chk h c 2 e).2.1, fun e => (out_chk h c 2 e).2.2,
   (baseW_nat h c).symm ▸ Nat.dvd_mul_left 8 _,
   fun e => (big_chk h c 0 e).1, fun e => (big_chk h c 0 e).2, fun e => (big_chk h c 1 e).1, fun e => (big_chk h c 1 e).2,
   fun e => (big_chk h c 2 e).1, fun e => (big_chk h c 2 e).2, fun e => (big_chk h c 3 e).1, fun e => (big_chk h c 3 e).2,
   fun e => (big_chk h c 4 e).1, fun e => (big_chk h c 4 e).2, fun e => (big_chk h c 5 e).1, fun e => (big_chk h c 5 e).2,
   fun e => (big_chk h c 6 e).1, fun e => (big_chk h c 6 e).2, fun e => (big_chk h c 7 e).1, fun e => (big_chk h c 7 e).2,
   fun e => (big_chk h c 8 e).1, fun e => (big_chk h c 8 e).2, fun e => (big_chk h c 9 e).1, fun e => (big_chk h c 9 e).2,
   fun e => (big_chk h c 10 e).1, fun e => (big_chk h c 10 e).2⟩

/-- The check's second half: the other arrivals of 32 rows, and those of 8 rows. -/
theorem chk_1 : k0_chk1_1 c (BitVec.ofNat 32 (z c)) :=
  ⟨fun e => (big_chk h c 11 e).1, fun e => (big_chk h c 11 e).2, fun e => (big_chk h c 12 e).1, fun e => (big_chk h c 12 e).2,
   fun e => (big_chk h c 13 e).1, fun e => (big_chk h c 13 e).2, fun e => (big_chk h c 14 e).1, fun e => (big_chk h c 14 e).2,
   fun e => (big_chk h c 15 e).1, fun e => (big_chk h c 15 e).2, fun e => (big_chk h c 16 e).1, fun e => (big_chk h c 16 e).2,
   fun e => (big_chk h c 17 e).1, fun e => (big_chk h c 17 e).2,
   fun e => (in_chk h c 0 e).1, fun e => (in_chk h c 0 e).2.1, fun e => (in_chk h c 0 e).2.2,
   fun e => (in_chk h c 1 e).1, fun e => (in_chk h c 1 e).2.1, fun e => (in_chk h c 1 e).2.2,
   fun e => (in_chk h c 2 e).1, fun e => (in_chk h c 2 e).2.1, fun e => (in_chk h c 2 e).2.2⟩

/-- The check holds of the number of zeros. -/
theorem chk : k0_chk1 c (BitVec.ofNat 32 (z c)) := ⟨chk_0 h c, chk_1 h c⟩

omit h in
/-- The device each transfer and the signal go to is the other one of the pair. -/
theorem devs_eq : k0_dev1 c = (pr c).val ∧ k0_dev2 c = (pr c).val ∧ k0_dev3 c = (pr c).val ∧ k0_dev4 c = (pr c).val ∧ k0_dev5 c = (pr c).val ∧
    k0_dev6 c = (pr c).val ∧ k0_dev7 c = (pr c).val ∧ k0_dev8 c = (pr c).val ∧ k0_dev9 c = (pr c).val ∧ k0_dev10 c = (pr c).val ∧
    k0_dev11 c = (pr c).val ∧ k0_dev12 c = (pr c).val ∧ k0_dev13 c = (pr c).val ∧ k0_dev14 c = (pr c).val ∧ k0_dev15 c = (pr c).val ∧
    k0_dev16 c = (pr c).val ∧ k0_dev17 c = (pr c).val ∧ k0_dev18 c = (pr c).val ∧ k0_dev19 c = (pr c).val ∧ k0_dev20 c = (pr c).val ∧
    k0_dev21 c = (pr c).val ∧ k0_dev22 c = (pr c).val := by revert c; decide +kernel

omit h in
/-- As a device. -/
theorem dev_of {n : ℕ} (e : n = (pr c).val) (hn : n < nD) : (⟨n, hn⟩ : Dev nD) = pr c := Fin.ext e

end Cert.Proof
-- ==== Proof.BlendValue.lean ====
/- What a blend stores: the rows received where the row is one of those sent, else the rows there before. -/
module

public import proofs.«01_k».proof.Proof.Blend
public import proofs.«01_k».proof.Proof.Checks
public import Idealize.ShloMosaic.Lib.WordCmp

@[expose] public section

noncomputable section

namespace Cert.Proof

open Cert.KernelIdeal Cert.KernelIdeal.Gen
open Idealize.ShloMosaic
open Idealize.ShloMosaic.TcCoe
open Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (L lv)

variable {F : FTy → Type} [FloatOps F]

/-- The blend of one block, as the kernel computes it. -/
def blendV {s : Shape} (io : IVec s 32) (p r n : BitVec 32) (u : Vec F s .bf16) (u' : Vec F s .f32) : FVec F s .f32 :=
  select (andi (cmpi .sge (addi io (broadcast s p)) (broadcast s r)) (cmpi .slt (addi io (broadcast s p)) (broadcast s (Scalar.addi r n))))
    (extf .f32 u bitsLt_bf16_f32) u'

/-- Two bits are both one when each is. -/
theorem andi_one : ∀ a b : BitVec 1, IntOp.andi a b = 1#1 ↔ a = 1#1 ∧ b = 1#1 := by decide

/-- At a position in row q of the block, the blend takes what was received exactly when row p + q is one of those sent. -/
theorem blendV_at {s : Shape} (io : IVec s 32) {p r n q : ℕ} (u : Vec F s .bf16) (u' : Vec F s .f32) (j : s.Idx) (hio : io j = BitVec.ofNat 32 q)
    (h1 : q + p < 2 ^ 31) (h2 : r + n < 2 ^ 31) :
    blendV io (BitVec.ofNat 32 p) (BitVec.ofNat 32 r) (BitVec.ofNat 32 n) u u' j = if r ≤ p + q ∧ p + q < r + n then extE (u j) else u' j := by
  have e1 : addi io (broadcast s (BitVec.ofNat 32 p)) j = BitVec.ofNat 32 (q + p) := by
    show IntOp.addi (io j) (BitVec.ofNat 32 p) = _; rw [hio]; exact addi_nat q p
  have e2 : Scalar.addi (BitVec.ofNat 32 r) (BitVec.ofNat 32 n) = BitVec.ofNat 32 (r + n) := addi_nat r n
  have hc : (IntOp.andi (IntOp.cmpi .sge (BitVec.ofNat 32 (q + p)) (BitVec.ofNat 32 r)) (IntOp.cmpi .slt (BitVec.ofNat 32 (q + p)) (BitVec.ofNat 32 (r + n))) = 1#1)
      ↔ (r ≤ p + q ∧ p + q < r + n) := by
    rw [andi_one, cmpi_sge_ofNat_eq_one_iff h1 (by omega : r < 2 ^ 31), cmpi_slt_ofNat_eq_one_iff h1 h2, Nat.add_comm q p]
  show (if IntOp.andi (IntOp.cmpi .sge (addi io (broadcast s (BitVec.ofNat 32 p)) j) (BitVec.ofNat 32 r))
    (IntOp.cmpi .slt (addi io (broadcast s (BitVec.ofNat 32 p)) j) (Scalar.addi (BitVec.ofNat 32 r) (BitVec.ofNat 32 n))) = 1#1 then _ else _) = _
  rw [e1, e2]
  exact if_congr hc rfl rfl

end Cert.Proof
-- ==== Proof.Waits.lean ====
/- One wait: while a device waits for its chunks - for what arrives, and for what it sent to have left - what it holds before chunk k's wait becomes what it holds
   before the next, whether that chunk is waited for or not. -/
module

public import proofs.«01_k».proof.Proof.Sends

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (L lv)

variable {F : FTy → Type} [FloatOps F] {U : Type} [URA U]

local notation "𝕄" => MT nD τ sig ℕ (Elt F) ℕ U ℕ

section Sched

variable (E : Emb (URounds (GSem nD τ sig) Unit) (MT nD τ sig ℕ (Elt F) ℕ U ℕ)) (s : Dev nD → ℕ) (G : Dev nD → Rows F)

/-- A row of waits of device c: the semaphores, whether each wait happens, and what the waits so far have given back. -/
structure Side (c : Dev nD) where
  sm : ℕ → SemLoc sig
  ix : ℕ
  A : ℕ → Prop
  dec : DecidablePred A
  B : ℕ → sProp 𝕄
  inv : ∀ κ k, k < 21 → Ctx E s G κ ⊢ cellInv E (Rd E s G) (κ (cell c (sm k))) (cell c (sm k))
  expect : ∀ k, k < 21 → A k → (Rd E s G).expect (cell c (sm k)) 0 = unitsOf k
  none : ∀ k, k < 21 → ¬A k → ∀ r, (Rd E s G).duties (cell c (sm k)) r = ∅
  gain : ∀ k, k < 21 → A k → iprop(bigSep ((Rd E s G).duties (cell c (sm k)) 0 \ ∅) (fun u => (Rd E s G).payload (cell c (sm k)) 0 u) ∗ B k) ⊢ B (k + 1)
  skip : ∀ k, k < 21 → ¬A k → B k ⊢ B (k + 1)

attribute [instance] Side.dec

variable {E s G}

/-- Before chunk k's wait: its cell's position, and the credit that the wait spends. -/
def Side.todo {c : Dev nD} (S : Side E s G c) (k : ℕ) : sProp 𝕄 :=
  iprop(atPos (D := Unit) E (cell c (S.sm k)) 0 ∅ 0 ∗ if S.A k then cred (tallyAt (cell c (S.sm k)) S.ix (unitsOf k)) else iprop(emp))
/-- After it: the position. -/
def Side.done {c : Dev nD} (S : Side E s G c) (k : ℕ) : sProp 𝕄 := atPos (D := Unit) E (cell c (S.sm k)) (if S.A k then 1 else 0) ∅ 0

/-- What device c holds before chunk k's wait. -/
def WaitSt {c : Dev nD} (S : Side E s G c) (κ : GSem nD τ sig → ℕ) (k : ℕ) (R : sProp 𝕄) : sProp 𝕄 :=
  iprop(Ctx E s G κ ∗ bigSep (Finset.Ico k 21) S.todo ∗ bigSep (Finset.range k) S.done ∗ S.B k ∗ (∃ W, owes (c : Thread nD τ) 0 W) ∗ R)

/-- A wait that does not happen changes nothing but the count. -/
theorem WaitSt_skip {c : Dev nD} (S : Side E s G c) {κ : GSem nD τ sig → ℕ} {k : ℕ} (hk : k < 21) (h : ¬S.A k) (R : sProp 𝕄) :
    WaitSt S κ k R ⊢ WaitSt S κ (k + 1) R := by
  have hsk := S.skip k hk h
  unfold WaitSt
  rw [bigSep_from hk, bigSep_upto]
  unfold Side.todo Side.done
  rw [if_neg h, if_neg h]
  iintro ⟨#H1, ⟨⟨Ha, -⟩, Ht⟩, Hd, HB, HO, HR⟩
  isplitr; · iexact H1
  isplitl [Ht]; · iexact Ht
  isplitl [Ha Hd]
  · isplitl [Ha]; · iexact Ha
    iexact Hd
  isplitl [HB]; · iapply hsk; iexact HB
  isplitl [HO]; · iexact HO
  iexact HR

/-- Chunk k is waited for. -/
theorem wait_core {c : Dev nD} (S : Side E s G c) {κ : GSem nD τ sig → ℕ} {k : ℕ} (hk : k < 21) (ha : S.A k)
    {sp sp' : Space} {sh sh' : Shape} {e e' : EltTy} {κ' : Kind} {sem : DmaSem sig} {src : Memref sig .tc sp' sh' e'} {dst : Memref sig κ' sp sh e} {hw1} {hw2}
    (hS : SemLoc.dma sem = S.sm k) (hN : dst.view.dmaCredit = unitsOf k) {R : sProp 𝕄}
    {α : Type} {rest : Prog (TpuEff nD τ sig (Elt F) Λ₀ .tc) α} {Q : α → sProp 𝕄}
    (h : WaitSt S κ (k + 1) R ⊢ wpk c rest Q) :
    WaitSt S κ k R ⊢ wpk c (Prog.lift (.waitDma2 sem src dst hw1 hw2) >>= fun _ => rest) Q := by
  change _ ⊢ wp frame (wpE (defs₀ (F := F)) 𝒱₀ c none) Set.univ (.op (.waitDma2 sem src dst hw1 hw2) fun _ => rest) Q
  have hexp := S.expect k hk ha
  have hinv := S.inv κ k hk
  have hgain := S.gain k hk ha
  rw [← hS] at hexp hinv hgain
  unfold WaitSt at h ⊢
  rw [bigSep_from hk]
  iintro ⟨#HX, ⟨Ht0, Ht⟩, Hd, HB, ⟨%W, HO⟩, HR⟩
  ihave Ht0' := (Entails.of_eq (show S.todo k = iprop(atPos (D := Unit) E (cell c (.dma sem)) 0 ∅ 0 ∗ cred (tallyAt (cell c (.dma sem)) S.ix (unitsOf k))) by
    unfold Side.todo; rw [if_pos ha, hS])) $$ Ht0
  icases Ht0' with ⟨Ha, Hc⟩
  ihave #HI := hinv $$ HX
  iapply (Rounds.wp_wait_rest_token 𝒱₀ E (Rd E s G) (c : Thread nD τ) none (κ := κ (cell c (.dma sem)))
      (wpE_waitDma2_eq 𝒱₀ (c : Thread nD τ) none Set.univ) (Set.mem_univ _) S.ix (O := 0) (W := W) (R := 0) (m := 0) (T := ∅)
      ((Nat.zero_add _).trans (hN.trans hexp.symm))) $$ [Hc HO Ha]
  · isplitr; · iexact HI
    isplitl [Hc]; · rw [hN]; iexact Hc
    isplitl [HO]; · iexact HO
    isplitr; · rw [MayWait_zero]; iempintro
    iexact Ha
  iintro ⟨HO, Ha, -, Hpay⟩
  iapply h
  rw [bigSep_upto]
  isplitr; · iexact HX
  isplitl [Ht]; · iexact Ht
  isplitl [Ha Hd]
  · isplitl [Ha]
    · unfold Side.done; rw [if_pos ha, ← hS]; iexact Ha
    iexact Hd
  isplitl [HB Hpay]
  · iapply hgain
    isplitl [Hpay]; · iexact Hpay
    iexact HB
  isplitl [HO]; · iexists _; iexact HO
  iexact HR

/-- The wait as the kernel has it, under its condition. -/
theorem wait_step {c : Dev nD} (S : Side E s G c) {κ : GSem nD τ sig → ℕ} {k : ℕ} (hk : k < 21) {b : BitVec 1} (hb : b = 1#1 ↔ S.A k)
    {sp sp' : Space} {sh sh' : Shape} {e e' : EltTy} {κ' : Kind} {sem : DmaSem sig} {src : Memref sig .tc sp' sh' e'} {dst : Memref sig κ' sp sh e} {hw1} {hw2}
    (hS : SemLoc.dma sem = S.sm k) (hN : dst.view.dmaCredit = unitsOf k) {R : sProp 𝕄}
    {α : Type} {rest : Prog (TpuEff nD τ sig (Elt F) Λ₀ .tc) α} {Q : α → sProp 𝕄}
    (h : WaitSt S κ (k + 1) R ⊢ wpk c rest Q) :
    WaitSt S κ k R ⊢ wpk c (if b = 1#1 then (Prog.lift (.waitDma2 sem src dst hw1 hw2) >>= fun _ => rest) else rest) Q := by
  split
  · exact wait_core S hk (hb.mp ‹_›) hS hN h
  · exact (WaitSt_skip S hk (fun e => ‹¬(b = 1#1)› (hb.mpr e)) R).trans h

variable (E s G)

/-- The waits for what arrives: they fill the receive buffer. -/
def recvSide (c : Dev nD) : Side E s G c where
  sm := recvSem
  ix := rcvIx
  A := act (s (pr c))
  dec := inferInstance
  B k := rcvP c (rws 0 (pos (s (pr c)) k)) (G (pr c))
  inv κ _ hk := Ctx_recv E s G κ c hk
  expect _ hk h := expect_recv E s G hk h
  none _ hk h := duties_recv_not E s G hk h
  gain k hk h := by
    rw [rest_recv E s G hk h]
    iintro ⟨H1, H2⟩
    iapply (rcvP_split c (Nat.zero_le _) (pos_mono (s (pr c)) (Nat.le_succ k)) (G (pr c))).2
    isplitl [H2]; · iexact H2
    iexact H1
  skip k _ h := by rw [pos_succ_not h]

/-- The waits for what was sent: they give the send buffer back. -/
def sendSide (c : Dev nD) : Side E s G c where
  sm := sendSem
  ix := sndIx
  A := act (s c)
  dec := inferInstance
  B k := sndP c (rws 0 (pos (s c) k)) (G c)
  inv κ _ hk := Ctx_send E s G κ c hk
  expect _ hk h := expect_send E s G hk h
  none _ hk h := duties_send_not E s G hk h
  gain k hk h := by
    rw [rest_send E s G hk h]
    iintro ⟨H1, H2⟩
    iapply (sndP_split c (Nat.zero_le _) (pos_mono (s c) (Nat.le_succ k)) (G c)).2
    isplitl [H2]; · iexact H2
    iexact H1
  skip k _ h := by rw [pos_succ_not h]

/-- Once every wait is past, each of the cells is closed and its counter is zero. -/
theorem Side.close [E.LandsIn (upEmb : UEmb _ (MT nD τ sig ℕ (Elt F) ℕ U ℕ))] {c : Dev nD} (S : Side E s G c) (κ : GSem nD τ sig → ℕ) :
    iprop(Ctx E s G κ ∗ bigSep (Finset.range 21) S.done) ⊢ iprop(|={Set.univ}=> bigSep (Finset.range 21) fun k : ℕ => semVal (cell c (S.sm k)) 0) := by
  have h1 : ∀ k ∈ Finset.range 21, iprop(Ctx E s G κ ∗ S.done k) ⊢ iprop(|={Set.univ}=> (semVal (cell c (S.sm k)) 0 : sProp 𝕄)) := fun k hk => by
    have hk := Finset.mem_range.mp hk
    have hinv := S.inv κ k hk
    unfold Side.done
    iintro ⟨#HX, Ha⟩
    ihave #HI := hinv $$ HX
    iapply (Rounds.cell_close E (Rd E s G) (κ := κ (cell c (S.sm k))) (Set.mem_univ _) id (R := if S.A k then 1 else 0)
      (fun r hr => if h : S.A k then duties_later E s G _ r (by rw [if_pos h] at hr; exact hr) else S.none k hk h r))
    isplitr; · iexact HI
    iexact Ha
  exact (BI.bigSep_with_persistent h1).trans (bigSep_fupd _ _)

end Sched

end Cert.Proof
-- ==== Proof.BlendParts.lean ====
/- The blends of the chunks received, part by part of the kernel. -/
module

public import proofs.«01_k».proof.Proof.BlendValue
public import proofs.«01_k».proof.Proof.Waits
public import Idealize.ShloMosaic.Lib.Pipeline.Value

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (L lv)

variable {F : FTy → Type} [FloatOps F] {U : Type} [URA U]

local notation "𝕄" => MT nD τ sig ℕ (Elt F) ℕ U ℕ

variable {z : Dev nD → ℕ}

/-- The number the kernel reads. -/
abbrev word (z : Dev nD → ℕ) (c : Dev nD) : BitVec 32 := BitVec.ofNat 32 (z c)

/-- What device c holds before chunk k's blend, of an output block that was v. -/
def BSt (z : Dev nD → ℕ) (v : Outs F) (f : Rows F) (c : Dev nD) (k : ℕ) (R : sProp 𝕄) : sProp 𝕄 :=
  BlendSt (grp z (pr c)) (startRow z c / 8 * 8) (startRow z c % 8) (nSend z c) v f c k R

/-- The rows received end at a number that a word holds with its sign. -/
theorem blend_lt (hz : Even z) (c : Dev nD) : startRow z c % 8 + nSend z c < 2 ^ 31 := by
  have := hz.cap c; omega

/-- The row of a block that a position is in, as the kernel counts it. -/
theorem iota_32 (j : S32x512.Idx) : iota .tc S32x512 32 [0] iota_S32x512_d0_w32 j = BitVec.ofNat 32 (j 0).val := by
  show BitVec.ofNat 32 (0 * S32x512.size 0 + (j 0).val) = _
  rw [Nat.zero_mul, Nat.zero_add]
/-- The same in a block of 8 rows. -/
theorem iota_8 (j : S8x512.Idx) : iota .tc S8x512 32 [0] iota_S8x512_d0_w32 j = BitVec.ofNat 32 (j 0).val := by
  show BitVec.ofNat 32 (0 * S8x512.size 0 + (j 0).val) = _
  rw [Nat.zero_mul, Nat.zero_add]

/-- The blend of chunk k of 32 rows. -/
theorem big_blend (hz : Even z) {c : Dev nD} (k : Fin 18) {b : BitVec 1} (hb : b = gtW (bigIn c (word z c)) (BitVec.ofNat 32 k)) {v : Outs F} {f : Rows F}
    {roff ooff : Fin 2 → ℕ} {rinb : b = 1#1 → ∀ a, roff a + S32x512.size a ≤ S576x512.size a} {oinb : b = 1#1 → ∀ a, ooff a + S32x512.size a ≤ S1024x512.size a}
    (hr : roff = ![32 * k.val, 0]) (ho : ooff = ![(Scalar.addi (baseW c (word z c)) (BitVec.ofNat 32 (32 * k))).toNat, 0])
    {w : Vec F S32x512 .bf16 → Vec F S32x512 .f32 → Vec F S32x512 .f32}
    (hw : ∀ u u', w u u' = blendV (iota .tc S32x512 32 [0] iota_S32x512_d0_w32) (BitVec.ofNat 32 (32 * k)) (fixW c (word z c)) (nW c (word z c)) u u')
    {hl1 : (h : b = 1#1) → (Memref.whole cc0_scratch1).view.LoadsAt (Rect.unit (s := S576x512) roff S32x512.size (rinb h)).toLoadRect}
    {hl2 hl3 : (h : b = 1#1) → (Memref.whole cc0_stg4_0).view.LoadsAt (Rect.unit (s := S1024x512) ooff S32x512.size (oinb h)).toLoadRect}
    {hst : (h : b = 1#1) → ((Memref.whole cc0_stg4_0).access (Rect.unit (s := S1024x512) ooff S32x512.size (oinb h))).Stores Finset.univ}
    {hu : (h : b = 1#1) → (Finset.univ : Finset S32x512.Idx) = Finset.univ ∨ ∀ a, (Rect.unit (s := S1024x512) ooff S32x512.size (oinb h)).stride a = 1}
    {R : sProp 𝕄} {α : Type} {rest : Prog (TpuEff nD τ sig (Elt F) Λ₀ .tc) α} {Q : α → sProp 𝕄}
    (h : BSt z v f c (k.val + 1) R ⊢ wpk c rest Q) :
    BSt z v f c k.val R ⊢ wpk c (if h : b = 1#1 then
        (Prog.lift (.load (Memref.whole cc0_scratch1) (Rect.unit (s := S576x512) roff S32x512.size (rinb h)).toLoadRect (hl1 h)) >>= fun u =>
          Prog.lift (.load (Memref.whole cc0_stg4_0) (Rect.unit (s := S1024x512) ooff S32x512.size (oinb h)).toLoadRect (hl2 h)) >>= fun u' =>
          Prog.lift (.load (Memref.whole cc0_stg4_0) (Rect.unit (s := S1024x512) ooff S32x512.size (oinb h)).toLoadRect (hl3 h)) >>= fun _ =>
          Prog.lift (.store (Memref.whole cc0_stg4_0) (Rect.unit (s := S1024x512) ooff S32x512.size (oinb h)) (w u u') Finset.univ (hst h) (hu h)) >>= fun _ => rest) else rest) Q := by
  have hk := k.isLt
  have hg := hz.grp_le (pr c)
  refine blend_step (s := grp z (pr c)) (k := k.val) (A := startRow z c / 8 * 8) (r := startRow z c % 8) (n := nSend z c) (sz := S32x512.size) (by omega) hg
    (by rw [hb]; exact bigIn_act hz c k) (fun ha => by rw [hr, pos_big ha hg hk]; rfl) (by rw [hr]; rfl)
    (fun ha => by rw [ho, pos_big ha hg hk]; exact bigRow_nat hz c k hk) (by rw [ho]; rfl) (by unfold rowsOf; rw [if_pos hk]; rfl) rfl ?_ h
  intro ha u u' j
  have hj : (j 0).val < 32 := (j 0).isLt
  rw [hw u u', pos_big ha hg hk, fixW_eq hz, nW_eq hz]
  exact blendV_at _ u u' j (iota_32 j) (by omega) (blend_lt hz c)

/-- The blend of chunk j of 8 rows. -/
theorem small_blend (hz : Even z) {c : Dev nD} (k : Fin 3) {b : BitVec 1} (hb : b = gtW (smallIn c (word z c)) (BitVec.ofNat 32 k)) {v : Outs F} {f : Rows F}
    {roff ooff : Fin 2 → ℕ} {rinb : b = 1#1 → ∀ a, roff a + S8x512.size a ≤ S576x512.size a} {oinb : b = 1#1 → ∀ a, ooff a + S8x512.size a ≤ S1024x512.size a}
    (hr : roff = ![(inRowW c (word z c) (BitVec.ofNat 32 (8 * k))).toNat, 0])
    (ho : ooff = ![(Scalar.addi (baseW c (word z c)) (inRowW c (word z c) (BitVec.ofNat 32 (8 * k)))).toNat, 0])
    {w : Vec F S8x512 .bf16 → Vec F S8x512 .f32 → Vec F S8x512 .f32}
    (hw : ∀ u u', w u u' = blendV (iota .tc S8x512 32 [0] iota_S8x512_d0_w32) (inRowW c (word z c) (BitVec.ofNat 32 (8 * k))) (fixW c (word z c)) (nW c (word z c)) u u')
    {hl1 : (h : b = 1#1) → (Memref.whole cc0_scratch1).view.LoadsAt (Rect.unit (s := S576x512) roff S8x512.size (rinb h)).toLoadRect}
    {hl2 hl3 : (h : b = 1#1) → (Memref.whole cc0_stg4_0).view.LoadsAt (Rect.unit (s := S1024x512) ooff S8x512.size (oinb h)).toLoadRect}
    {hst : (h : b = 1#1) → ((Memref.whole cc0_stg4_0).access (Rect.unit (s := S1024x512) ooff S8x512.size (oinb h))).Stores Finset.univ}
    {hu : (h : b = 1#1) → (Finset.univ : Finset S8x512.Idx) = Finset.univ ∨ ∀ a, (Rect.unit (s := S1024x512) ooff S8x512.size (oinb h)).stride a = 1}
    {R : sProp 𝕄} {α : Type} {rest : Prog (TpuEff nD τ sig (Elt F) Λ₀ .tc) α} {Q : α → sProp 𝕄}
    (h : BSt z v f c (18 + k.val + 1) R ⊢ wpk c rest Q) :
    BSt z v f c (18 + k.val) R ⊢ wpk c (if h : b = 1#1 then
        (Prog.lift (.load (Memref.whole cc0_scratch1) (Rect.unit (s := S576x512) roff S8x512.size (rinb h)).toLoadRect (hl1 h)) >>= fun u =>
          Prog.lift (.load (Memref.whole cc0_stg4_0) (Rect.unit (s := S1024x512) ooff S8x512.size (oinb h)).toLoadRect (hl2 h)) >>= fun u' =>
          Prog.lift (.load (Memref.whole cc0_stg4_0) (Rect.unit (s := S1024x512) ooff S8x512.size (oinb h)).toLoadRect (hl3 h)) >>= fun _ =>
          Prog.lift (.store (Memref.whole cc0_stg4_0) (Rect.unit (s := S1024x512) ooff S8x512.size (oinb h)) (w u u') Finset.univ (hst h) (hu h)) >>= fun _ => rest) else rest) Q := by
  have hk := k.isLt
  have hg := hz.grp_le (pr c)
  refine blend_step (s := grp z (pr c)) (k := 18 + k.val) (A := startRow z c / 8 * 8) (r := startRow z c % 8) (n := nSend z c) (sz := S8x512.size) (by omega) hg
    (by rw [hb]; exact smallIn_act hz c k) (fun ha => by rw [hr, pos_small ha hg]; exact inRowW_nat hz c k hk) (by rw [hr]; rfl)
    (fun ha => by rw [ho, pos_small ha hg]; exact smallRow_nat hz c k hk) (by rw [ho]; rfl) (by unfold rowsOf; rw [if_neg (by omega)]; rfl) rfl ?_ h
  intro ha u u' j
  have hj : (j 0).val < 8 := (j 0).isLt
  rw [hw u u', pos_small ha hg, fixW_eq hz, nW_eq hz, inRowW_eq hz c k hk]
  exact blendV_at _ u u' j (iota_8 j) (by omega) (blend_lt hz c)

/-- Giving a value back. -/
theorem wpk_ret {α : Type} {c : Dev nD} {P : sProp 𝕄} {x : α} {Q : α → sProp 𝕄} (h : P ⊢ Q x) : P ⊢ wpk c (pure x) Q := by
  show P ⊢ wp frame (wpE (defs₀ (F := F)) 𝒱₀ c none) Set.univ (.ret x) Q
  rw [wp_ret]
  exact h.trans fupd_intro

/-- The first eight blends of 32 rows. -/
theorem part11 (hz : Even z) {c : Dev nD} {v : Outs F} {f : Rows F} {hw1 : k0_chk1 c (word z c)} {R : sProp 𝕄}
    {Q : (Σ' (_ : BitVec 32) (_ : IVec S32x512 32) (_ : IVec S8x512 32), BitVec 32) → sProp 𝕄}
    {a b d : _} (he : Scalar.muli (Scalar.select (Scalar.andi b d) (Scalar.subi a 1#32) a) 8#32 = baseW c (word z c))
    (h : BSt z v f c 8 R ⊢ Q ⟨baseW c (word z c), iota .tc S32x512 32 [0] iota_S32x512_d0_w32, iota .tc S8x512 32 [0] iota_S8x512_d0_w32, Scalar.extui (Scalar.cmpi .sgt (bigIn c (word z c)) 8#32)⟩) :
    BSt z v f c 0 R ⊢ wpk c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (word z c) hw1 (nW c (word z c)) (fixW c (word z c)) (bigIn c (word z c)) a b d) Q := by
  rw [k0_part11_eq_skeleton]; unfold k0_part11_skel
  refine big_blend hz 0 rfl rfl rfl (fun u u' => congrArg (fun x => select _ _ x) (shapeCast_self u' _)) ?_
  refine big_blend hz 1 rfl rfl rfl (fun u u' => congrArg (fun x => select _ _ x) (shapeCast_self u' _)) ?_
  refine big_blend hz 2 rfl rfl rfl (fun u u' => congrArg (fun x => select _ _ x) (shapeCast_self u' _)) ?_
  refine big_blend hz 3 rfl rfl rfl (fun u u' => congrArg (fun x => select _ _ x) (shapeCast_self u' _)) ?_
  refine big_blend hz 4 rfl rfl rfl (fun u u' => congrArg (fun x => select _ _ x) (shapeCast_self u' _)) ?_
  refine big_blend hz 5 rfl rfl rfl (fun u u' => congrArg (fun x => select _ _ x) (shapeCast_self u' _)) ?_
  refine big_blend hz 6 rfl rfl rfl (fun u u' => congrArg (fun x => select _ _ x) (shapeCast_self u' _)) ?_
  refine big_blend hz 7 rfl rfl rfl (fun u u' => congrArg (fun x => select _ _ x) (shapeCast_self u' _)) ?_
  exact wpk_ret (he ▸ h)

/-- The other ten blends of 32 rows. -/
theorem part12 (hz : Even z) {c : Dev nD} {v : Outs F} {f : Rows F} {hw1 : k0_chk1 c (word z c)} {R : sProp 𝕄} {Q : BitVec 32 → sProp 𝕄}
    (h : BSt z v f c 18 R ⊢ Q (Scalar.extui (Scalar.cmpi .sgt (smallIn c (word z c)) 0#32))) :
    BSt z v f c 8 R ⊢ wpk c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (word z c) hw1 (nW c (word z c)) (fixW c (word z c)) (bigIn c (word z c)) (smallIn c (word z c)) (baseW c (word z c))
      (iota .tc S32x512 32 [0] iota_S32x512_d0_w32) (Scalar.extui (Scalar.cmpi .sgt (bigIn c (word z c)) 8#32))) Q := by
  rw [k0_part12_eq_skeleton]; unfold k0_part12_skel
  refine big_blend hz 8 rfl rfl rfl (fun u u' => congrArg (fun x => select _ _ x) (shapeCast_self u' _)) ?_
  refine big_blend hz 9 rfl rfl rfl (fun u u' => congrArg (fun x => select _ _ x) (shapeCast_self u' _)) ?_
  refine big_blend hz 10 rfl rfl rfl (fun u u' => congrArg (fun x => select _ _ x) (shapeCast_self u' _)) ?_
  refine big_blend hz 11 rfl rfl rfl (fun u u' => congrArg (fun x => select _ _ x) (shapeCast_self u' _)) ?_
  refine big_blend hz 12 rfl rfl rfl (fun u u' => congrArg (fun x => select _ _ x) (shapeCast_self u' _)) ?_
  refine big_blend hz 13 rfl rfl rfl (fun u u' => congrArg (fun x => select _ _ x) (shapeCast_self u' _)) ?_
  refine big_blend hz 14 rfl rfl rfl (fun u u' => congrArg (fun x => select _ _ x) (shapeCast_self u' _)) ?_
  refine big_blend hz 15 rfl rfl rfl (fun u u' => congrArg (fun x => select _ _ x) (shapeCast_self u' _)) ?_
  refine big_blend hz 16 rfl rfl rfl (fun u u' => congrArg (fun x => select _ _ x) (shapeCast_self u' _)) ?_
  refine big_blend hz 17 rfl rfl rfl (fun u u' => congrArg (fun x => select _ _ x) (shapeCast_self u' _)) ?_
  exact wpk_ret h

section Sched

variable (E : Emb (URounds (GSem nD τ sig) Unit) (MT nD τ sig ℕ (Elt F) ℕ U ℕ)) (G : Dev nD → Rows F)

/-- The three blends of 8 rows, and then the waits for the first seven sends. -/
theorem part13 (hz : Even z) {κ : GSem nD τ sig → ℕ} {c : Dev nD} {v : Outs F} {f : Rows F} {hw1 : k0_chk1 c (word z c)} {R R2 : sProp 𝕄} {Q : BitVec 32 → sProp 𝕄}
    (hmid : BSt z v f c 21 R ⊢ WaitSt (sendSide E (grp z) G c) κ 0 R2)
    (h : WaitSt (sendSide E (grp z) G c) κ 7 R2 ⊢ Q (Scalar.extui (Scalar.cmpi .sgt (bigOut c (word z c)) 7#32))) :
    BSt z v f c 18 R ⊢ wpk c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (word z c) hw1 (nW c (word z c)) (bigOut c (word z c)) (fixW c (word z c)) (bigIn c (word z c)) (smallIn c (word z c)) (baseW c (word z c))
      (iota .tc S8x512 32 [0] iota_S8x512_d0_w32) (Scalar.extui (Scalar.cmpi .sgt (smallIn c (word z c)) 0#32))) Q := by
  rw [k0_part13_eq_skeleton]; unfold k0_part13_skel
  refine small_blend hz 0 rfl rfl rfl (fun u u' => congrArg (fun x => select _ _ x) (shapeCast_self u' _)) ?_
  refine small_blend hz 1 rfl rfl rfl (fun u u' => congrArg (fun x => select _ _ x) (shapeCast_self u' _)) ?_
  refine small_blend hz 2 rfl rfl rfl (fun u u' => congrArg (fun x => select _ _ x) (shapeCast_self u' _)) ?_
  refine hmid.trans ?_
  refine wait_step (sendSide E (grp z) G c) (k := 0) (by decide) (bigOut_act hz c 0) (by rfl) (by rfl) ?_
  refine wait_step (sendSide E (grp z) G c) (k := 1) (by decide) (bigOut_act hz c 1) (by rfl) (by rfl) ?_
  refine wait_step (sendSide E (grp z) G c) (k := 2) (by decide) (bigOut_act hz c 2) (by rfl) (by rfl) ?_
  refine wait_step (sendSide E (grp z) G c) (k := 3) (by decide) (bigOut_act hz c 3) (by rfl) (by rfl) ?_
  refine wait_step (sendSide E (grp z) G c) (k := 4) (by decide) (bigOut_act hz c 4) (by rfl) (by rfl) ?_
  refine wait_step (sendSide E (grp z) G c) (k := 5) (by decide) (bigOut_act hz c 5) (by rfl) (by rfl) ?_
  refine wait_step (sendSide E (grp z) G c) (k := 6) (by decide) (bigOut_act hz c 6) (by rfl) (by rfl) ?_
  exact wpk_ret h

/-- The waits for the next ten sends. -/
theorem part14 (hz : Even z) {κ : GSem nD τ sig → ℕ} {c : Dev nD} {R : sProp 𝕄} {Q : BitVec 32 → sProp 𝕄}
    (h : WaitSt (sendSide E (grp z) G c) κ 17 R ⊢ Q (Scalar.extui (Scalar.cmpi .sgt (bigOut c (word z c)) 17#32))) :
    WaitSt (sendSide E (grp z) G c) κ 7 R
      ⊢ wpk c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 (bigOut c (word z c)) (Scalar.extui (Scalar.cmpi .sgt (bigOut c (word z c)) 7#32))) Q := by
  rw [k0_part14_eq_skeleton]; unfold k0_part14_skel
  refine wait_step (sendSide E (grp z) G c) (k := 7) (by decide) (bigOut_act hz c 7) (by rfl) (by rfl) ?_
  refine wait_step (sendSide E (grp z) G c) (k := 8) (by decide) (bigOut_act hz c 8) (by rfl) (by rfl) ?_
  refine wait_step (sendSide E (grp z) G c) (k := 9) (by decide) (bigOut_act hz c 9) (by rfl) (by rfl) ?_
  refine wait_step (sendSide E (grp z) G c) (k := 10) (by decide) (bigOut_act hz c 10) (by rfl) (by rfl) ?_
  refine wait_step (sendSide E (grp z) G c) (k := 11) (by decide) (bigOut_act hz c 11) (by rfl) (by rfl) ?_
  refine wait_step (sendSide E (grp z) G c) (k := 12) (by decide) (bigOut_act hz c 12) (by rfl) (by rfl) ?_
  refine wait_step (sendSide E (grp z) G c) (k := 13) (by decide) (bigOut_act hz c 13) (by rfl) (by rfl) ?_
  refine wait_step (sendSide E (grp z) G c) (k := 14) (by decide) (bigOut_act hz c 14) (by rfl) (by rfl) ?_
  refine wait_step (sendSide E (grp z) G c) (k := 15) (by decide) (bigOut_act hz c 15) (by rfl) (by rfl) ?_
  refine wait_step (sendSide E (grp z) G c) (k := 16) (by decide) (bigOut_act hz c 16) (by rfl) (by rfl) ?_
  exact wpk_ret h

/-- The waits for the arrivals of chunks 4 to 13. -/
theorem part9 (hz : Even z) {κ : GSem nD τ sig → ℕ} {c : Dev nD} {v2 v8 v9 : BitVec 32} {R : sProp 𝕄} {Q : BitVec 1 → sProp 𝕄}
    (h : WaitSt (recvSide E (grp z) G c) κ 14 R ⊢ Q (Scalar.cmpi .sgt (bigIn c (word z c)) 14#32)) :
    WaitSt (recvSide E (grp z) G c) κ 4 R
      ⊢ wpk c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v2 v8 v9 (bigIn c (word z c)) (Scalar.cmpi .sgt (bigIn c (word z c)) 4#32)) Q := by
  rw [k0_part9_eq_skeleton]; unfold k0_part9_skel
  refine wait_step (recvSide E (grp z) G c) (k := 4) (by decide) (bigIn_act hz c 4) (by rfl) (by rfl) ?_
  refine wait_step (recvSide E (grp z) G c) (k := 5) (by decide) (bigIn_act hz c 5) (by rfl) (by rfl) ?_
  refine wait_step (recvSide E (grp z) G c) (k := 6) (by decide) (bigIn_act hz c 6) (by rfl) (by rfl) ?_
  refine wait_step (recvSide E (grp z) G c) (k := 7) (by decide) (bigIn_act hz c 7) (by rfl) (by rfl) ?_
  refine wait_step (recvSide E (grp z) G c) (k := 8) (by decide) (bigIn_act hz c 8) (by rfl) (by rfl) ?_
  refine wait_step (recvSide E (grp z) G c) (k := 9) (by decide) (bigIn_act hz c 9) (by rfl) (by rfl) ?_
  refine wait_step (recvSide E (grp z) G c) (k := 10) (by decide) (bigIn_act hz c 10) (by rfl) (by rfl) ?_
  refine wait_step (recvSide E (grp z) G c) (k := 11) (by decide) (bigIn_act hz c 11) (by rfl) (by rfl) ?_
  refine wait_step (recvSide E (grp z) G c) (k := 12) (by decide) (bigIn_act hz c 12) (by rfl) (by rfl) ?_
  refine wait_step (recvSide E (grp z) G c) (k := 13) (by decide) (bigIn_act hz c 13) (by rfl) (by rfl) ?_
  exact wpk_ret h

/-- The waits for the last seven arrivals, and the words from which the output row of the first blend is computed. -/
theorem part10 (hz : Even z) {κ : GSem nD τ sig → ℕ} {c : Dev nD} {v2 v8 v9 v14 : BitVec 32} {R : sProp 𝕄}
    {Q : (Σ' (_ : BitVec 32) (_ : BitVec 1), BitVec 1) → sProp 𝕄}
    (h : WaitSt (recvSide E (grp z) G c) κ 21 R ⊢ Q ⟨Scalar.divsi v14 8#32, Scalar.cmpi .ne (Scalar.subi (Scalar.extui (Scalar.cmpi .sgt v14 0#32)) (Scalar.extui (Scalar.cmpi .slt v14 0#32)))
        (Scalar.subi (Scalar.extui (Scalar.cmpi .sgt 8#32 0#32)) (Scalar.extui (Scalar.cmpi .slt 8#32 0#32))), Scalar.cmpi .ne (Scalar.remsi v14 8#32) 0#32⟩) :
    WaitSt (recvSide E (grp z) G c) κ 14 R
      ⊢ wpk c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v2 v8 v9 v14 (bigIn c (word z c)) (smallIn c (word z c)) (Scalar.cmpi .sgt (bigIn c (word z c)) 14#32)) Q := by
  rw [k0_part10_eq_skeleton]; unfold k0_part10_skel
  refine wait_step (recvSide E (grp z) G c) (k := 14) (by decide) (bigIn_act hz c 14) (by rfl) (by rfl) ?_
  refine wait_step (recvSide E (grp z) G c) (k := 15) (by decide) (bigIn_act hz c 15) (by rfl) (by rfl) ?_
  refine wait_step (recvSide E (grp z) G c) (k := 16) (by decide) (bigIn_act hz c 16) (by rfl) (by rfl) ?_
  refine wait_step (recvSide E (grp z) G c) (k := 17) (by decide) (bigIn_act hz c 17) (by rfl) (by rfl) ?_
  refine wait_step (recvSide E (grp z) G c) (k := 18) (by decide) (smallIn_act hz c 0) (by rfl) (by rfl) ?_
  refine wait_step (recvSide E (grp z) G c) (k := 19) (by decide) (smallIn_act hz c 1) (by rfl) (by rfl) ?_
  refine wait_step (recvSide E (grp z) G c) (k := 20) (by decide) (smallIn_act hz c 2) (by rfl) (by rfl) ?_
  exact wpk_ret h

end Sched

end Cert.Proof
-- ==== Proof.WordParts.lean ====
/- The first parts of the kernel: the device reads its number and the number of zeros, checks it, and reckons how many chunks it sends and receives. -/
module

public import proofs.«01_k».proof.Proof.BlendParts
public import proofs.«01_k».proof.Proof.Checks

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (L lv)

variable {F : FTy → Type} [FloatOps F] {U : Type} [URA U]

local notation "𝕄" => MT nD τ sig ℕ (Elt F) ℕ U ℕ

variable {z : Dev nD → ℕ}

/-- The word of scalar memory that holds the number of zeros. -/
def zP (c : Dev nD) (v : Vec F S1 .i32) : sProp 𝕄 := ((c : Thread nD τ).loc cc0_stg0_0 : Loc nD τ sig) ↦{fullShare} v

/-- A part of the kernel, and then the rest. -/
theorem wpk_bind {α β : Type} {c : Dev nD} {P : sProp 𝕄} {p : Prog (TpuEff nD τ sig (Elt F) Λ₀ .tc) α} {k : α → Prog (TpuEff nD τ sig (Elt F) Λ₀ .tc) β} {Q : β → sProp 𝕄}
    (h : P ⊢ wpk c p (fun x => wpk c (k x) Q)) : P ⊢ wpk c (p >>= k) Q := by
  show P ⊢ wp frame (wpE (defs₀ (F := F)) 𝒱₀ c none) Set.univ (p >>= k) Q
  rw [wp_bind]
  exact h

/-- Ending with a view shift. -/
theorem wpk_end {α : Type} {c : Dev nD} {P : sProp 𝕄} {x : α} {Q : α → sProp 𝕄} (h : P ⊢ iprop(|={Set.univ}=> Q x)) : P ⊢ wpk c (pure x) Q := by
  show P ⊢ wp frame (wpE (defs₀ (F := F)) 𝒱₀ c none) Set.univ (.ret x) Q
  rw [wp_ret]
  exact h

/-- The sign of a word, as a quotient rounded down reckons it. -/
abbrev sgnW (x : BitVec 32) : BitVec 32 :=
  Scalar.subi (Scalar.extui (Scalar.cmpi .sgt x 0#32)) (Scalar.extui (Scalar.cmpi .slt x 0#32))

/-- The rows to send with what they are moved down by, and 7 more. -/
abbrev outW (c : Dev nD) (v : BitVec 32) : BitVec 32 := Scalar.addi (Scalar.addi (shiftW c v) (nW c v)) 7#32
/-- The rows to receive with where they start in a group of 8, and 7 more. -/
abbrev inW (c : Dev nD) (v : BitVec 32) : BitVec 32 := Scalar.addi (Scalar.addi (fixW c v) (nW c v)) 7#32

/-- The device reads its number. -/
theorem dev_step {α : Type} {c : Dev nD} {P : sProp 𝕄} {k : Dev nD → Prog (TpuEff nD τ sig (Elt F) Λ₀ .tc) α} {Q : α → sProp 𝕄}
    (h : P ⊢ wpk c (k c) Q) : P ⊢ wpk c (Prog.lift .deviceId >>= k) Q := by
  show P ⊢ wp frame (wpE (defs₀ (F := F)) 𝒱₀ c none) Set.univ (.op .deviceId k) Q
  rw [wp_deviceId]
  exact h

/-- A check that holds. -/
theorem check_step {α : Type} {c : Dev nD} {P : sProp 𝕄} {p : Prop} {d : Decidable p} (hp : p) {k : PLift p → Prog (TpuEff nD τ sig (Elt F) Λ₀ .tc) α} {Q : α → sProp 𝕄}
    (h : P ⊢ wpk c (k ⟨hp⟩) Q) : P ⊢ wpk c (Prog.lift (TpuEff.assume p d) >>= k) Q :=
  h.trans (show _ ⊢ wp frame (wpE (defs₀ (F := F)) 𝒱₀ c none) Set.univ (.op (.assume p d) k) Q from wp_assume 𝒱₀ (c : Thread nD τ) none Set.univ hp)

/-- The number of zeros is read. -/
theorem word_step {α : Type} {c : Dev nD} {v : Vec F S1 .i32} {w : BitVec 32} (hv : ∀ i, v i = w) {R : sProp 𝕄} {k : Elt F .i32 → Prog (TpuEff nD τ sig (Elt F) Λ₀ .tc) α} {Q : α → sProp 𝕄}
    (h : iprop(zP c v ∗ R) ⊢ wpk c (k w) Q) :
    iprop(zP c v ∗ R) ⊢ wpk c (smemLoad (Memref.whole cc0_stg0_0) (Rect.unit (s := S1) ![0] S1.size inb_S1_S1_0) numel1_S1 rfl >>= k) Q := by
  refine wpk_bind ?_
  have hr : ∀ x, ((Memref.whole cc0_stg0_0).access (Rect.unit (s := S1) ![0] S1.size inb_S1_S1_0)).read (Elt F) v x = w := fun _ => hv _
  unfold zP at h ⊢
  iintro ⟨Hz, HR⟩
  iapply (wp_smemLoadElt (defs := defs₀ (F := F)) 𝒱₀ (c : Thread nD τ) none Set.univ (m := Memref.whole cc0_stg0_0)
    (r := Rect.unit (s := S1) ![0] S1.size inb_S1_S1_0) (S := Finset.univ) (f := v) (Finset.subset_univ _)) $$ Hz
  iintro Hz
  rw [hr, wp_ret]
  iapply (show wpk c (k w) Q ⊢ iprop(|={Set.univ}=> wpk c (k w) Q) from fupd_intro)
  iapply h
  isplitl [Hz]; · iexact Hz
  iexact HR

/-- The number of zeros is read and checked. -/
theorem part1 (hz : Even z) {c : Dev nD} {v : Vec F S1 .i32} (hv : ∀ i, v i = word z c) {R : sProp 𝕄}
    {Q : (Σ' (d0 : Dev nD) (_ : BitVec 32) (_ : BitVec 32) (_ : BitVec 32) (v11 : Elt F .i32) (_ : k0_chk1 d0 v11) (_ : BitVec 32) (_ : BitVec 32) (_ : BitVec 32) (_ : BitVec 32) (_ : BitVec 32), BitVec 32) → sProp 𝕄}
    (h : iprop(zP c v ∗ R) ⊢ Q ⟨c, Scalar.remsi (Scalar.divsi (Dev.word c) 4#32) 2#32, Scalar.remsi (Scalar.divsi (Dev.word c) 1#32) 2#32,
      Scalar.subi 1#32 (Scalar.remsi (Scalar.divsi (Dev.word c) 2#32) 2#32), word z c, chk hz c, nW c (word z c), startW c (word z c), outW c (word z c), 8#32,
      Scalar.divsi (outW c (word z c)) 8#32, sgnW (outW c (word z c))⟩) :
    iprop(zP c v ∗ R) ⊢ wpk c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5) Q := by
  rw [k0_part1_eq_skeleton]; unfold k0_part1_skel
  refine dev_step ?_
  refine word_step hv ?_
  refine check_step (chk hz c) ?_
  exact wpk_ret h

/-- The chunks of 32 rows to send. -/
theorem part2 {c : Dev nD} {a : BitVec 32} {P : sProp 𝕄} {Q : (Σ' (_ : BitVec 32) (_ : BitVec 32) (_ : BitVec 32) (_ : BitVec 32), BitVec 32) → sProp 𝕄}
    (h : P ⊢ Q ⟨fdiv (Scalar.muli (fdiv a 8#32) 8#32) 32#32, fmod (Scalar.muli (fdiv a 8#32) 8#32) 32#32, 8#32, Scalar.divsi (fmod (Scalar.muli (fdiv a 8#32) 8#32) 32#32) 8#32, 0#32⟩) :
    P ⊢ wpk c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 a 8#32 (Scalar.divsi a 8#32) (sgnW a)) Q := by
  rw [k0_part2_eq_skeleton]; unfold k0_part2_skel
  exact wpk_ret h

/-- The chunks of 8 rows to send, and where the rows received start in a group of 8. -/
theorem part3 {c : Dev nD} {n s b : BitVec 32} {P : sProp 𝕄} {Q : (Σ' (_ : BitVec 32) (_ : BitVec 32) (_ : BitVec 32) (_ : BitVec 1), BitVec 1) → sProp 𝕄}
    (h : P ⊢ Q ⟨fdiv b 8#32, fmod s 8#32, Scalar.divsi (Scalar.addi (Scalar.addi (fmod s 8#32) n) 7#32) 8#32,
      Scalar.cmpi .ne (sgnW (Scalar.addi (Scalar.addi (fmod s 8#32) n) 7#32)) (sgnW 8#32), Scalar.cmpi .ne (Scalar.remsi (Scalar.addi (Scalar.addi (fmod s 8#32) n) 7#32) 8#32) 0#32⟩) :
    P ⊢ wpk c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 n s b 8#32 (Scalar.divsi b 8#32) 0#32) Q := by
  rw [k0_part3_eq_skeleton]; unfold k0_part3_skel
  exact wpk_ret h

/-- The chunks of 32 rows to receive. -/
theorem part4 {c : Dev nD} {a : BitVec 32} {P : sProp 𝕄} {Q : (Σ' (_ : BitVec 32) (_ : BitVec 32) (_ : BitVec 32) (_ : BitVec 32) (_ : BitVec 32) (_ : BitVec 32), BitVec 1) → sProp 𝕄}
    (h : P ⊢ Q ⟨fdiv (Scalar.muli (fdiv a 8#32) 8#32) 32#32, fmod (Scalar.muli (fdiv a 8#32) 8#32) 32#32, 8#32, Scalar.divsi (fmod (Scalar.muli (fdiv a 8#32) 8#32) 32#32) 8#32,
      sgnW (fmod (Scalar.muli (fdiv a 8#32) 8#32) 32#32), Scalar.extui (Scalar.cmpi .sgt 8#32 0#32), Scalar.cmpi .slt 8#32 0#32⟩) :
    P ⊢ wpk c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 (Scalar.divsi a 8#32) (Scalar.cmpi .ne (sgnW a) (sgnW 8#32)) (Scalar.cmpi .ne (Scalar.remsi a 8#32) 0#32)) Q := by
  rw [k0_part4_eq_skeleton]; unfold k0_part4_skel
  exact wpk_ret h

end Cert.Proof
-- ==== Proof.Handshake.lean ====
/- The handshake before the sends: a device tells its partner that it is there, and hands over its receive buffer as far as the partner will fill it; and waits to be told
   the same. -/
module

public import proofs.«01_k».proof.Proof.Sends

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (L lv)

variable {F : FTy → Type} [FloatOps F] {U : Type} [URA U]

local notation "𝕄" => MT nD τ sig ℕ (Elt F) ℕ U ℕ

section Sched

variable (E : Emb (URounds (GSem nD τ sig) Unit) (MT nD τ sig ℕ (Elt F) ℕ U ℕ)) (s : Dev nD → ℕ) (G : Dev nD → Rows F)

/-- All that device c owes its partner. -/
def dueL (s : Dev nD → ℕ) (c : Dev nD) : List (Pay nD τ sig) := (cell (pr c) barSem, barIx, 1) :: payFrom s c 0

/-- Every arrival owed is owed to a TensorCore's cell, at an index above the barrier's. -/
theorem payFrom_mem {s : Dev nD → ℕ} {c : Dev nD} {k : ℕ} : ∀ x ∈ payFrom s c k, x.1.1.2 = .tc ∧ barIx < x.2.1 ∧ x.2.1 < topIx := by
  unfold payFrom
  generalize 21 - k = n
  induction n with
  | zero => intro x hx; exact absurd hx (List.not_mem_nil)
  | succ n ih =>
    intro x hx
    unfold payLast at hx
    split at hx
    · rcases List.mem_cons.mp hx with rfl | h
      · exact ⟨rfl, (by decide : barIx < rcvIx), (by decide : rcvIx < topIx)⟩
      · exact ih x h
    · exact ih x hx

/-- That the send cells of device c are open. -/
def sendOpen (c : Dev nD) : sProp 𝕄 := bigSep (Finset.range 21) fun k : ℕ => (reached (D := Unit) E (cell c (sendSem k)) 0 : sProp 𝕄)
/-- That its receive cells are. -/
def recvOpen (c : Dev nD) : sProp 𝕄 := bigSep (Finset.range 21) fun k : ℕ => (reached (D := Unit) E (cell c (recvSem k)) 0 : sProp 𝕄)

instance sendOpen_persistent (c : Dev nD) : BI.Persistent (sendOpen (F := F) (U := U) E c) := by unfold sendOpen; infer_instance
instance recvOpen_persistent (c : Dev nD) : BI.Persistent (recvOpen (F := F) (U := U) E c) := by unfold recvOpen; infer_instance

/-- What device c holds between its signal and its wait. -/
def MidSt (κ : GSem nD τ sig → ℕ) (c : Dev nD) (f : Rows F) (W : Waits sig ℕ) (R : sProp 𝕄) : sProp 𝕄 :=
  iprop(Ctx E s G κ ∗ sendOpen E c ∗ atPos (D := Unit) E (cell c barSem) 0 ∅ 0 ∗ cred (tallyAt (cell c barSem) barIx 1) ∗ bigSep (Finset.Ico 0 21) (sendToks E s c)
    ∗ sndP c (rws 0 576) f ∗ owes (c : Thread nD τ) (tallyL (payFrom s c 0)) W ∗ R)

/-- What device c holds before its signal. -/
def StartSt (κ : GSem nD τ sig → ℕ) (c : Dev nD) (f g : Rows F) (W : Waits sig ℕ) (R : sProp 𝕄) : sProp 𝕄 :=
  iprop(Ctx E s G κ ∗ sendOpen E c ∗ recvOpen E c ∗ reached (D := Unit) E (cell (pr c) barSem) 0 ∗ dutyTok E (cell (pr c) barSem) 0 ()
    ∗ rcvP c (rws 0 (pos (s (pr c)) 21)) g ∗ atPos (D := Unit) E (cell c barSem) 0 ∅ 0 ∗ cred (tallyAt (cell c barSem) barIx 1) ∗ bigSep (Finset.Ico 0 21) (sendToks E s c)
    ∗ sndP c (rws 0 576) f ∗ owes (c : Thread nD τ) (tallyL (dueL s c)) W ∗ R)

/-- The signal. -/
theorem signal_step {κ : GSem nD τ sig → ℕ} {c d : Dev nD} (hd : d = pr c) {sem : Sem sig} (hs : sem = barrier0) {f g : Rows F} {W : Waits sig ℕ} {R : sProp 𝕄}
    {α : Type} {rest : Prog (TpuEff nD τ sig (Elt F) Λ₀ .tc) α} {Q : α → sProp 𝕄}
    (h : MidSt E s G κ c f W R ⊢ wpk c rest Q) :
    StartSt E s G κ c f g W R ⊢ wpk c (semSignalWord d sem 1#32 >>= fun _ => rest) Q := by
  subst hd hs
  change _ ⊢ wp frame (wpE (defs₀ (F := F)) 𝒱₀ c none) Set.univ (.op (.semSignal (pr c, .tc) barrier0 (1#32).toInt) fun _ => rest) Q
  have hO : tallyL (dueL s c) = tallyL (payFrom s c 0) + tallyAt ((pr c : Thread nD τ), SemLoc.reg barrier0) barIx 1 := by
    unfold dueL; exact add_comm _ _
  unfold StartSt MidSt at *
  iintro ⟨#HX, #HS, #HRo, #HB, Ht, Hr, Ha, Hc, Htk, Hs, HO, HR⟩
  ihave #HI := (Ctx_bar E s G κ (pr c)) $$ HX
  iapply (Rounds.wp_signal 𝒱₀ E (Rd E s G) (c : Thread nD τ) none (dst := (pr c : Thread nD τ)) (sem := barrier0) (r := 0) (d := ()) (κ := κ (cell (pr c) barSem))
      (Finset.mem_singleton_self ()) (amount_bar E s G (pr c) ()) barIx (tallyL (payFrom s c 0)) hO) $$ [HO Ht Hr]
  · isplitr; · iexact HI
    isplitl [HO]; · iexact HO
    isplitl [Ht]; · iexact Ht
    isplitl [Hr]
    · iapply (show barPay E s (pr c) ⊢ (Rd E s G).payload ((pr c : Thread nD τ), SemLoc.reg barrier0) 0 () from .rfl)
      unfold barPay; unfold recvOpen; rw [pr_pr]
      isplitl [Hr]; · iexists g; iexact Hr
      iexact HRo
    · iexact HB
  iintro HO
  iapply h
  isplitr; · iexact HX
  isplitr; · iexact HS
  isplitl [Ha]; · iexact Ha
  isplitl [Hc]; · iexact Hc
  isplitl [Htk]; · iexact Htk
  isplitl [Hs]; · iexact Hs
  isplitl [HO]; · iexact HO
  iexact HR

/-- The wait. -/
theorem barrier_step {κ : GSem nD τ sig → ℕ} {c : Dev nD} {sem : Sem sig} (hs : sem = barrier0) {f : Rows F} {W : Waits sig ℕ} {R : sProp 𝕄}
    {α : Type} {rest : Prog (TpuEff nD τ sig (Elt F) Λ₀ .tc) α} {Q : α → sProp 𝕄}
    (h : ∀ g W', SendSt E s G κ c 0 f g W' iprop(atPos (D := Unit) E (cell c barSem) 1 ∅ 0 ∗ R) ⊢ wpk c rest Q) :
    MidSt E s G κ c f W R ⊢ wpk c (semWaitWord sem 1#32 >>= fun _ => rest) Q := by
  subst hs
  change _ ⊢ wp frame (wpE (defs₀ (F := F)) 𝒱₀ c none) Set.univ (.op (.semWait barrier0 (1#32).toInt) fun _ => rest) Q
  have hw := mayWait_addL (Val := Elt F) (U := U) (N := topIx) (e := topIx) (i := barIx) (by decide) (le_refl _) (O := fun _ => 0) (SiteBlocks.above_zero _ _) c (.reg barrier0) (payFrom s c 0) payFrom_mem
  rw [addL_eq, zero_add] at hw
  unfold MidSt
  unfold SendSt at h
  iintro ⟨#HX, #HS, Ha, Hc, Htk, Hs, HO, HR⟩
  ihave #HI := (Ctx_bar E s G κ c) $$ HX
  ihave #HL := (Ctx_lev E s G κ) $$ HX
  iapply (Rounds.wp_wait_rest_token 𝒱₀ E (Rd E s G) (c : Thread nD τ) none (κ := κ (cell c barSem))
      (wpE_semWait_eq 𝒱₀ (c : Thread nD τ) none Set.univ) (Set.mem_univ _) barIx (O := tallyL (payFrom s c 0)) (W := W) (R := 0) (m := 0) (T := ∅)
      ((Nat.zero_add 1).trans (expect_bar E s G c).symm)) $$ [Hc HO Ha]
  · isplitr; · iexact HI
    isplitl [Hc]; · iexact Hc
    isplitl [HO]; · iexact HO
    isplitr; · iapply hw; iexact HL
    iexact Ha
  iintro ⟨HO, Ha, -, Hpay⟩
  ihave Hp := (show bigSep ((Rd E s G).duties ((c : Thread nD τ), SemLoc.reg barrier0) 0 \ ∅) (fun u => (Rd E s G).payload ((c : Thread nD τ), SemLoc.reg barrier0) 0 u) ⊢ barPay E s c
    from Entails.of_eq (rest_bar E s G c)) $$ Hpay
  unfold barPay
  icases Hp with ⟨⟨%g, Hr⟩, #HRo⟩
  iapply (h g _)
  rw [pos_zero, Finset.range_zero, bigSep_empty]
  isplitr; · iexact HX
  isplitr
  · unfold opens sendOpen
    isplitr; · iexact HS
    iexact HRo
  isplitl [Hs]; · iexact Hs
  isplitl [Hr]; · iexact Hr
  isplitl [Htk]; · iexact Htk
  isplitr; · iempintro
  isplitl [HO]; · iexact HO
  isplitl [Ha]; · iexact Ha
  iexact HR

end Sched

end Cert.Proof
-- ==== Proof.SendSteps.lean ====
/- The steps of the sends: a whole block is read, the output block and a half of the send buffer are written, and the chunks of each kind are sent. -/
module

public import proofs.«01_k».proof.Proof.Handshake
public import proofs.«01_k».proof.Proof.Checks
public import proofs.«01_k».proof.Proof.BlendParts

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (L lv)

variable {F : FTy → Type} [FloatOps F] {U : Type} [URA U]

local notation "𝕄" => MT nD τ sig ℕ (Elt F) ℕ U ℕ

variable {z : Dev nD → ℕ}

/-! ## The blocks read -/

/-- Where the rows stay, as the kernel reads it. -/
def keepP (c : Dev nD) (v : Vec F S1x1024 .i32) : sProp 𝕄 := ((c : Thread nD τ).loc cc0_stg1_0 : Loc nD τ sig) ↦{fullShare} v
/-- Where they go in the send buffer. -/
def goP (c : Dev nD) (v : Vec F S1x1024 .i32) : sProp 𝕄 := ((c : Thread nD τ).loc cc0_stg2_0 : Loc nD τ sig) ↦{fullShare} v
/-- The rows. -/
def rowsP (c : Dev nD) (v : Vec F S1024x512 .f32) : sProp 𝕄 := ((c : Thread nD τ).loc cc0_stg3_0 : Loc nD τ sig) ↦{fullShare} v

/-- The offsets of a whole block are zero. -/
theorem zeros_eq : (![0, 0] : Fin 2 → ℕ) = fun _ => 0 := by decide

/-- A whole block is read, by whatever holds it. -/
theorem load_step {i : Fin (sig.nNear .tc .vmem)} {hκ : sig.names .tc .vmem i = true} {off : Fin (sig.tyNear .tc .vmem i).shape.rank → ℕ} (h0 : off = fun _ => 0)
    {inb : ∀ a, off a + (sig.tyNear .tc .vmem i).shape.size a ≤ (sig.tyNear .tc .vmem i).shape.size a}
    {c : Dev nD} {v : (sig.tyNear .tc .vmem i).Contents (Elt F)} {P : sProp 𝕄}
    (hP : P ⊢ iprop((((c : Thread nD τ).loc ⟨.vmem, i, hκ⟩ : Loc nD τ sig) ↦{fullShare} v) ∗ ((((c : Thread nD τ).loc ⟨.vmem, i, hκ⟩ : Loc nD τ sig) ↦{fullShare} v) -∗ P)))
    {hl : (Memref.whole (⟨.vmem, i, hκ⟩ : Ref sig .tc)).view.LoadsAt (Rect.unit off (sig.tyNear .tc .vmem i).shape.size inb).toLoadRect}
    {α : Type} {rest : (sig.tyNear .tc .vmem i).Contents (Elt F) → Prog (TpuEff nD τ sig (Elt F) Λ₀ .tc) α} {Q : α → sProp 𝕄} (h : P ⊢ wpk c (rest v) Q) :
    P ⊢ wpk c (Prog.lift (.load (Memref.whole (⟨.vmem, i, hκ⟩ : Ref sig .tc)) (Rect.unit off (sig.tyNear .tc .vmem i).shape.size inb).toLoadRect hl) >>= rest) Q := by
  have hv := Memref.read_access_unit_zero (Elt F) (⟨.vmem, i, hκ⟩ : Ref sig .tc) h0 inb v
  change _ ⊢ wp frame (wpE (defs₀ (F := F)) 𝒱₀ c none) Set.univ (.op (.load (Memref.whole (⟨.vmem, i, hκ⟩ : Ref sig .tc)) (Rect.unit off (sig.tyNear .tc .vmem i).shape.size inb).toLoadRect hl) rest) Q
  iintro H
  ihave H' := hP $$ H
  icases H' with ⟨H, Hk⟩
  iapply (wp_load_rect (defs := defs₀ (F := F)) 𝒱₀ (c : Thread nD τ) none Set.univ (m := Memref.whole (⟨.vmem, i, hκ⟩ : Ref sig .tc))
    (r := Rect.unit off (sig.tyNear .tc .vmem i).shape.size inb) (hl := hl) (S := Finset.univ) (Finset.subset_univ _)) $$ H
  rw [hv]
  iintro H
  iapply h
  iapply Hk
  iexact H

/-- The same of one of the three blocks. -/
theorem load_keep {inb : ∀ a, (![0, 0] : Fin 2 → ℕ) a + S1x1024.size a ≤ S1x1024.size a} {c : Dev nD} {v : Vec F S1x1024 .i32} {P : sProp 𝕄} (hP : P ⊢ iprop(keepP c v ∗ (keepP c v -∗ P)))
    {hl : (Memref.whole cc0_stg1_0).view.LoadsAt (Rect.unit (s := S1x1024) ![0, 0] S1x1024.size inb).toLoadRect}
    {α : Type} {rest : Vec F S1x1024 .i32 → Prog (TpuEff nD τ sig (Elt F) Λ₀ .tc) α} {Q : α → sProp 𝕄} (h : P ⊢ wpk c (rest v) Q) :
    P ⊢ wpk c (Prog.lift (.load (Memref.whole cc0_stg1_0) (Rect.unit (s := S1x1024) ![0, 0] S1x1024.size inb).toLoadRect hl) >>= rest) Q :=
  load_step (i := 0) (hκ := rfl) zeros_eq (inb := inb) (v := v) hP (hl := hl) h

/-- The same of one of the three blocks. -/
theorem load_go {inb : ∀ a, (![0, 0] : Fin 2 → ℕ) a + S1x1024.size a ≤ S1x1024.size a} {c : Dev nD} {v : Vec F S1x1024 .i32} {P : sProp 𝕄} (hP : P ⊢ iprop(goP c v ∗ (goP c v -∗ P)))
    {hl : (Memref.whole cc0_stg2_0).view.LoadsAt (Rect.unit (s := S1x1024) ![0, 0] S1x1024.size inb).toLoadRect}
    {α : Type} {rest : Vec F S1x1024 .i32 → Prog (TpuEff nD τ sig (Elt F) Λ₀ .tc) α} {Q : α → sProp 𝕄} (h : P ⊢ wpk c (rest v) Q) :
    P ⊢ wpk c (Prog.lift (.load (Memref.whole cc0_stg2_0) (Rect.unit (s := S1x1024) ![0, 0] S1x1024.size inb).toLoadRect hl) >>= rest) Q :=
  load_step (i := 1) (hκ := rfl) zeros_eq (inb := inb) (v := v) hP (hl := hl) h

/-- The same of one of the three blocks. -/
theorem load_rows {inb : ∀ a, (![0, 0] : Fin 2 → ℕ) a + S1024x512.size a ≤ S1024x512.size a} {c : Dev nD} {v : Vec F S1024x512 .f32} {P : sProp 𝕄} (hP : P ⊢ iprop(rowsP c v ∗ (rowsP c v -∗ P)))
    {hl : (Memref.whole cc0_stg3_0).view.LoadsAt (Rect.unit (s := S1024x512) ![0, 0] S1024x512.size inb).toLoadRect}
    {α : Type} {rest : Vec F S1024x512 .f32 → Prog (TpuEff nD τ sig (Elt F) Λ₀ .tc) α} {Q : α → sProp 𝕄} (h : P ⊢ wpk c (rest v) Q) :
    P ⊢ wpk c (Prog.lift (.load (Memref.whole cc0_stg3_0) (Rect.unit (s := S1024x512) ![0, 0] S1024x512.size inb).toLoadRect hl) >>= rest) Q :=
  load_step (i := 2) (hκ := rfl) zeros_eq (inb := inb) (v := v) hP (hl := hl) h

/-- The output block is read, and written over. -/
theorem out_step {inb : ∀ a, (![0, 0] : Fin 2 → ℕ) a + S1024x512.size a ≤ S1024x512.size a} {c : Dev nD} {P : sProp 𝕄} {w : Outs F}
    {hl : (Memref.whole cc0_stg4_0).view.LoadsAt (Rect.unit (s := S1024x512) ![0, 0] S1024x512.size inb).toLoadRect}
    {hst : ((Memref.whole cc0_stg4_0).access (Rect.unit (s := S1024x512) ![0, 0] S1024x512.size inb)).Stores Finset.univ}
    {hu : (Finset.univ : Finset S1024x512.Idx) = Finset.univ ∨ ∀ a, (Rect.unit (s := S1024x512) ![0, 0] S1024x512.size inb).stride a = 1}
    {α : Type} {rest : Prog (TpuEff nD τ sig (Elt F) Λ₀ .tc) α} {Q : α → sProp 𝕄} (h : iprop(outP c w ∗ P) ⊢ wpk c rest Q) :
    iprop((∃ v, outP c v) ∗ P) ⊢ wpk c (Prog.lift (.load (Memref.whole cc0_stg4_0) (Rect.unit (s := S1024x512) ![0, 0] S1024x512.size inb).toLoadRect hl) >>= fun _ =>
      Prog.lift (.store (Memref.whole cc0_stg4_0) (Rect.unit (s := S1024x512) ![0, 0] S1024x512.size inb) w Finset.univ hst hu) >>= fun _ => rest) Q := by
  unfold outP at h ⊢
  iintro ⟨⟨%v, Ho⟩, HP⟩
  have hwr : ((Memref.whole cc0_stg4_0).access (Rect.unit (s := S1024x512) ![0, 0] S1024x512.size inb)).write (Elt F) v w Finset.univ = w :=
    Memref.write_access_unit_zero_univ (Elt F) cc0_stg4_0 zeros_eq inb v w
  iapply (wp_load_rect (defs := defs₀ (F := F)) 𝒱₀ (c : Thread nD τ) none Set.univ (m := Memref.whole cc0_stg4_0) (r := Rect.unit (s := S1024x512) ![0, 0] S1024x512.size inb) (hl := hl) (S := Finset.univ) (Finset.subset_univ _)) $$ Ho
  iintro Ho
  iapply (wp_store (defs := defs₀ (F := F)) 𝒱₀ (c : Thread nD τ) none Set.univ (m := Memref.whole cc0_stg4_0) (r := Rect.unit (s := S1024x512) ![0, 0] S1024x512.size inb) (hx := hst) (hm := hu) (S := Finset.univ) (Finset.subset_univ _)) $$ Ho
  rw [hwr]
  iintro Ho
  iapply h
  isplitl [Ho]; · iexact Ho
  iexact HP

/-! ## The send buffer -/

/-- The position in a half of the send buffer. -/
def rowIn (i : S576x512.Idx) : S288x512.Idx := fun a => match a with
  | ⟨0, _⟩ => ⟨(i 0).val % 288, Nat.mod_lt _ (by decide)⟩
  | ⟨1, _⟩ => (i 1).cast rfl
  | ⟨_ + 2, h⟩ => absurd h (by show ¬(_ + 2 < 2); omega)

/-- The send buffer once both halves are written. -/
def halves (A B : S288x512.Idx → Elt F .bf16) : Rows F := fun i => if (i 0).val < 288 then A (rowIn i) else B (rowIn i)

/-- A half of the send buffer is read, and written over: from row o on. -/
theorem half_step {o : ℕ} (ho : o % 288 = 0) {off : Fin 2 → ℕ} (hoff : off = ![o, 0]) {inb : ∀ a, off a + S288x512.size a ≤ S576x512.size a} {c : Dev nD} {p : ℕ} (hp : p ≤ o) {f : Rows F} {P : sProp 𝕄} {w : S288x512.Idx → Elt F .bf16}
    {hl : (Memref.whole cc0_scratch0).view.LoadsAt (Rect.unit (s := S576x512) off S288x512.size inb).toLoadRect}
    {hst : ((Memref.whole cc0_scratch0).access (Rect.unit (s := S576x512) off S288x512.size inb)).Stores Finset.univ}
    {hu : (Finset.univ : Finset S288x512.Idx) = Finset.univ ∨ ∀ a, (Rect.unit (s := S576x512) off S288x512.size inb).stride a = 1}
    {α : Type} {rest : Prog (TpuEff nD τ sig (Elt F) Λ₀ .tc) α} {Q : α → sProp 𝕄}
    (h : iprop(sndP c (rws p 576) (fun i => if o ≤ (i 0).val ∧ (i 0).val < o + 288 then w (rowIn i) else f i) ∗ P) ⊢ wpk c rest Q) :
    iprop(sndP c (rws p 576) f ∗ P) ⊢ wpk c (Prog.lift (.load (Memref.whole cc0_scratch0) (Rect.unit (s := S576x512) off S288x512.size inb).toLoadRect hl) >>= fun _ =>
      Prog.lift (.store (Memref.whole cc0_scratch0) (Rect.unit (s := S576x512) off S288x512.size inb) w Finset.univ hst hu) >>= fun _ => rest) Q := by
  subst hoff
  have hset : ((Memref.whole cc0_scratch0).access (Rect.unit (s := S576x512) ![o, 0] S288x512.size inb)).set = rws o (o + 288) :=
    (View.set_slice_whole cc0_scratch0 _).trans (rect_rws inb rfl rfl)
  have hset' : ((Memref.whole cc0_scratch0).access (Rect.unit (s := S576x512) ![o, 0] S288x512.size inb)).setOn Finset.univ = rws o (o + 288) := hset
  have hi0 := inb 0
  have hi0 : o + 288 ≤ 576 := hi0
  have hsub : ((Memref.whole cc0_scratch0).access (Rect.unit (s := S576x512) ![o, 0] S288x512.size inb)).set ⊆ rws p 576 := hset ▸ rws_sub hp hi0
  have hwr : ((Memref.whole cc0_scratch0).access (Rect.unit (s := S576x512) ![o, 0] S288x512.size inb)).write (Elt F) f w Finset.univ
      = fun i => if o ≤ (i 0).val ∧ (i 0).val < o + 288 then w (rowIn i) else f i := by
    funext i
    by_cases hi : i ∈ ((Memref.whole cc0_scratch0).access (Rect.unit (s := S576x512) ![o, 0] S288x512.size inb)).setOn Finset.univ
    · have hi' := mem_rws.mp (hset' ▸ hi)
      obtain ⟨j, -, rfl⟩ := Finset.mem_map.mp hi
      rw [View.write_emb_of_mem _ _ (Finset.mem_univ j), if_pos hi']
      have hj0 : (j 0).val < 288 := (j 0).isLt
      refine congrArg w ?_
      funext a
      match a with
      | ⟨0, _⟩ =>
        apply Fin.ext
        show (j 0).val = (o + 1 * (j 0).val) % 288
        omega
      | ⟨1, _⟩ =>
        apply Fin.ext
        show (j 1).val = 0 + 1 * (j 1).val
        omega
    · rw [View.write_of_not_mem _ _ _ hi, if_neg]
      exact fun h => hi (hset' ▸ mem_rws.mpr h)
  unfold sndP at h ⊢
  iintro ⟨Ho, HP⟩
  iapply (wp_load_rect (defs := defs₀ (F := F)) 𝒱₀ (c : Thread nD τ) none Set.univ (m := Memref.whole cc0_scratch0) (r := Rect.unit (s := S576x512) ![o, 0] S288x512.size inb) (hl := hl) (S := rws p 576) hsub) $$ Ho
  iintro Ho
  iapply (wp_store (defs := defs₀ (F := F)) 𝒱₀ (c : Thread nD τ) none Set.univ (m := Memref.whole cc0_scratch0) (r := Rect.unit (s := S576x512) ![o, 0] S288x512.size inb) (hx := hst) (hm := hu) (S := rws p 576) hsub) $$ Ho
  rw [hwr]
  iintro Ho
  iapply h
  isplitl [Ho]; · iexact Ho
  iexact HP

section Sched

variable (E : Emb (URounds (GSem nD τ sig) Unit) (MT nD τ sig ℕ (Elt F) ℕ U ℕ)) (G : Dev nD → Rows F)

/-- A chunk of 32 rows is sent. -/
theorem big_send [E.LandsIn (upEmb : UEmb _ (MT nD τ sig ℕ (Elt F) ℕ U ℕ))] (hz : Even z) {κ : GSem nD τ sig → ℕ} {c : Dev nD} (k : Fin 18)
    {b : BitVec 1} (hb : b = gtW (bigOut c (word z c)) (BitVec.ofNat 32 k)) {off : Fin 2 → ℕ} {inb : ∀ a, off a + S32x512.size a ≤ S576x512.size a} (ho : off = ![32 * k.val, 0])
    {d : Dev nD} (hd : d = pr c) {sS sR : DmaSem sig} (hS : SemLoc.dma sS = sendSem k) (hR : SemLoc.dma sR = recvSem k)
    {f g : Rows F} {W : Waits sig ℕ} {R : sProp 𝕄} (hf : ∀ i ∈ chunk (grp z c) k, f i = G c i)
    {hsc} {hw1} {hw2} {ht} {α : Type} {rest : Prog (TpuEff nD τ sig (Elt F) Λ₀ .tc) α} {Q : α → sProp 𝕄}
    (h : SendSt E (grp z) G κ c (k + 1) f g W R ⊢ wpk c rest Q) :
    SendSt E (grp z) G κ c k f g W R ⊢ wpk c (if b = 1#1 then
      (Prog.lift (.enqueueDma (sndM off S32x512.size inb) (.remote (Dev.tc d) (rcvM off S32x512.size inb) (.dma sS) hsc) (.dma sR) hw1 hw2 ht) >>= fun _ => rest) else rest) Q := by
  have hk := k.isLt
  refine send_step E (grp z) G (k := k.val) (by omega) (hz.grp_le c) (by rw [hb]; exact bigOut_act hz c k) (fun ha => by rw [ho, pos_big ha (hz.grp_le c) hk]; rfl)
    (by rw [ho]; rfl) (by unfold rowsOf; rw [if_pos hk]; rfl) rfl hd hS hR (by unfold unitsOf; rw [if_pos hk]; rfl) hf h

/-- A chunk of 8 rows is sent. -/
theorem small_send [E.LandsIn (upEmb : UEmb _ (MT nD τ sig ℕ (Elt F) ℕ U ℕ))] (hz : Even z) {κ : GSem nD τ sig → ℕ} {c : Dev nD} (k : Fin 3)
    {b : BitVec 1} (hb : b = gtW (smallOut c (word z c)) (BitVec.ofNat 32 k)) {off : Fin 2 → ℕ} {inb : b = 1#1 → ∀ a, off a + S8x512.size a ≤ S576x512.size a}
    (ho : off = ![(outRowW c (word z c) (BitVec.ofNat 32 (8 * k))).toNat, 0])
    {d : Dev nD} (hd : d = pr c) {sS sR : DmaSem sig} (hS : SemLoc.dma sS = sendSem (18 + k)) (hR : SemLoc.dma sR = recvSem (18 + k))
    {f g : Rows F} {W : Waits sig ℕ} {R : sProp 𝕄} (hf : ∀ i ∈ chunk (grp z c) (18 + k), f i = G c i)
    {hsc : (h : b = 1#1) → (rcvM off S8x512.size (inb h)).view.ref.isScScratch = false}
    {hw1 : (h : b = 1#1) → (sndM off S8x512.size (inb h)).view.WordExact}
    {hw2 : (h : b = 1#1) → (DmaTarget.remote (Dev.tc d : Thread nD τ) (rcvM off S8x512.size (inb h)) (.dma sS) (hsc h)).view.WordExact}
    {ht : (h : b = 1#1) → DmaTarget.Typed Space.vmem (.dma sR) (DmaTarget.remote (Dev.tc d : Thread nD τ) (rcvM off S8x512.size (inb h)) (.dma sS) (hsc h))}
    {α : Type} {rest : Prog (TpuEff nD τ sig (Elt F) Λ₀ .tc) α} {Q : α → sProp 𝕄}
    (h : SendSt E (grp z) G κ c (18 + k + 1) f g W R ⊢ wpk c rest Q) :
    SendSt E (grp z) G κ c (18 + k) f g W R ⊢ wpk c (if h : b = 1#1 then
      (Prog.lift (.enqueueDma (sndM off S8x512.size (inb h)) (.remote (Dev.tc d) (rcvM off S8x512.size (inb h)) (.dma sS) (hsc h)) (.dma sR) (hw1 h) (hw2 h) (ht h)) >>= fun _ => rest) else rest) Q := by
  have hk := k.isLt
  refine send_step' E (grp z) G (k := 18 + k.val) (by omega) (hz.grp_le c) (by rw [hb]; exact smallOut_act hz c k)
    (fun ha => by rw [ho, pos_small ha (hz.grp_le c)]; exact outRowW_nat hz c k hk)
    (by rw [ho]; rfl) (by unfold rowsOf; rw [if_neg (by omega)]; rfl) rfl hd hS hR (fun _ => by unfold unitsOf; rw [if_neg (by omega)]; rfl) hf h

end Sched

end Cert.Proof
-- ==== Proof.SendParts.lean ====
/- The sends, part by part of the kernel: the device fills its send buffer, half by half, and sends it, chunk by chunk; and it puts its own rows into the output block. -/
module

public import proofs.«01_k».proof.Proof.SendSteps

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (L lv)

variable {F : FTy → Type} [FloatOps F] {U : Type} [URA U]

local notation "𝕄" => MT nD τ sig ℕ (Elt F) ℕ U ℕ

variable {z : Dev nD → ℕ}

/-- The rows of device c's send buffer, of the rows x of its block and of where they go. -/
def sent (x : Vec F S1024x512 .f32) (v : Vec F S1x1024 .i32) : Rows F := halves (k0_pay2 x v) (k0_pay4 (k0_pay3 (k0_pay1 x) v))

section Sched

variable (E : Emb (URounds (GSem nD τ sig) Unit) (MT nD τ sig ℕ (Elt F) ℕ U ℕ)) (s : Dev nD → ℕ) (G : Dev nD → Rows F)

/-- What can be taken out of what else is held, and put back, can be taken out of the whole. -/
theorem MidSt_acc {κ : GSem nD τ sig → ℕ} {c : Dev nD} {f : Rows F} {W : Waits sig ℕ} {R X : sProp 𝕄} (h : R ⊢ iprop(X ∗ (X -∗ R))) :
    MidSt E s G κ c f W R ⊢ iprop(X ∗ (X -∗ MidSt E s G κ c f W R)) := by
  unfold MidSt
  iintro ⟨H1, H2, H3, H4, H5, H6, H7, HR⟩
  ihave HR' := h $$ HR
  icases HR' with ⟨HX, HR⟩
  isplitl [HX]; · iexact HX
  iintro HX
  isplitl [H1]; · iexact H1
  isplitl [H2]; · iexact H2
  isplitl [H3]; · iexact H3
  isplitl [H4]; · iexact H4
  isplitl [H5]; · iexact H5
  isplitl [H6]; · iexact H6
  isplitl [H7]; · iexact H7
  iapply HR
  iexact HX

/-- What the rest of a device's holding lends, the whole of it lends too. -/
theorem SendSt_acc {κ : GSem nD τ sig → ℕ} {c : Dev nD} {k : ℕ} {f g : Rows F} {W : Waits sig ℕ} {R X : sProp 𝕄} (h : R ⊢ iprop(X ∗ (X -∗ R))) :
    SendSt E s G κ c k f g W R ⊢ iprop(X ∗ (X -∗ SendSt E s G κ c k f g W R)) := by
  unfold SendSt
  iintro ⟨H1, H2, H3, H4, H5, H6, H7, HR⟩
  ihave HR' := h $$ HR
  icases HR' with ⟨HX, HR⟩
  isplitl [HX]; · iexact HX
  iintro HX
  isplitl [H1]; · iexact H1
  isplitl [H2]; · iexact H2
  isplitl [H3]; · iexact H3
  isplitl [H4]; · iexact H4
  isplitl [H5]; · iexact H5
  isplitl [H6]; · iexact H6
  isplitl [H7]; · iexact H7
  iapply HR
  iexact HX

/-- The send buffer apart. -/
theorem MidSt_snd {κ : GSem nD τ sig → ℕ} {c : Dev nD} {f : Rows F} {W : Waits sig ℕ} {R : sProp 𝕄} :
    MidSt E s G κ c f W R ⊣⊢ iprop(sndP c (rws 0 576) f ∗ (Ctx E s G κ ∗ sendOpen E c ∗ atPos (D := Unit) E (cell c barSem) 0 ∅ 0 ∗ cred (tallyAt (cell c barSem) barIx 1)
      ∗ bigSep (Finset.Ico 0 21) (sendToks E s c) ∗ owes (c : Thread nD τ) (tallyL (payFrom s c 0)) W ∗ R)) := by
  unfold MidSt
  constructor
  · iintro ⟨H1, H2, H3, H4, H5, H6, H7⟩
    isplitl [H6]; · iexact H6
    isplitl [H1]; · iexact H1
    isplitl [H2]; · iexact H2
    isplitl [H3]; · iexact H3
    isplitl [H4]; · iexact H4
    isplitl [H5]; · iexact H5
    iexact H7
  · iintro ⟨H6, H1, H2, H3, H4, H5, H7⟩
    isplitl [H1]; · iexact H1
    isplitl [H2]; · iexact H2
    isplitl [H3]; · iexact H3
    isplitl [H4]; · iexact H4
    isplitl [H5]; · iexact H5
    isplitl [H6]; · iexact H6
    iexact H7

/-- The send buffer, set apart from the rest. -/
theorem SendSt_snd {κ : GSem nD τ sig → ℕ} {c : Dev nD} {k : ℕ} {f g : Rows F} {W : Waits sig ℕ} {R : sProp 𝕄} :
    SendSt E s G κ c k f g W R ⊣⊢ iprop(sndP c (rws (pos (s c) k) 576) f ∗ (Ctx E s G κ ∗ opens E c ∗ rcvP (pr c) (rws (pos (s c) k) (pos (s c) 21)) g
      ∗ bigSep (Finset.Ico k 21) (sendToks E s c) ∗ bigSep (Finset.range k) (sentCred s c) ∗ owes (c : Thread nD τ) (tallyL (payFrom s c k)) W ∗ R)) := by
  unfold SendSt
  constructor
  · iintro ⟨H1, H2, H6, H3, H4, H5, H7⟩
    isplitl [H6]; · iexact H6
    isplitl [H1]; · iexact H1
    isplitl [H2]; · iexact H2
    isplitl [H3]; · iexact H3
    isplitl [H4]; · iexact H4
    isplitl [H5]; · iexact H5
    iexact H7
  · iintro ⟨H6, H1, H2, H3, H4, H5, H7⟩
    isplitl [H1]; · iexact H1
    isplitl [H2]; · iexact H2
    isplitl [H6]; · iexact H6
    isplitl [H3]; · iexact H3
    isplitl [H4]; · iexact H4
    isplitl [H5]; · iexact H5
    iexact H7

/-- The first of two things held can be lent. -/
theorem acc1 {X R : sProp 𝕄} : iprop(X ∗ R) ⊢ iprop(X ∗ (X -∗ (X ∗ R))) := by
  iintro ⟨H1, H2⟩
  isplitl [H1]; · iexact H1
  iintro H1
  isplitl [H1]; · iexact H1
  iexact H2

/-- What the second of two things held lends, the two lend. -/
theorem acc2 {X Y R : sProp 𝕄} (h : R ⊢ iprop(X ∗ (X -∗ R))) : iprop(Y ∗ R) ⊢ iprop(X ∗ (X -∗ (Y ∗ R))) := by
  iintro ⟨HY, HR⟩
  ihave HR' := h $$ HR
  icases HR' with ⟨HX, HR⟩
  isplitl [HX]; · iexact HX
  iintro HX
  isplitl [HY]; · iexact HY
  iapply HR
  iexact HX

variable [E.LandsIn (upEmb : UEmb _ (MT nD τ sig ℕ (Elt F) ℕ U ℕ))]

/-- The rows of an early chunk are in the buffer's first half. -/
theorem chunk_lt {i : S576x512.Idx} {t k : ℕ} (hk : k < 9) (hi : i ∈ chunk t k) : (i 0).val < 288 := by
  have h1 := (mem_rws.mp hi).2
  have h2 := pos_mono t (show k + 1 ≤ 9 by omega)
  have h3 := pos_nine t
  omega

/-- The send buffer's first half is filled, and the first chunk sent. -/
theorem part5 (hz : Even z) {κ : GSem nD τ sig → ℕ} {c : Dev nD} {v2 v8 v9 v147 c8 v148 v153 v155 : BitVec 32} {v156 : BitVec 1} {R : sProp 𝕄} {f g : Rows F} {W : Waits sig ℕ}
    {x : Vec F S1024x512 .f32} {v : Vec F S1x1024 .i32} (hG : G c = sent x v)
    {Q : (Σ' (_ : BitVec 32) (_ : FVec F S1024x512 .bf16) (_ : BitVec 32), BitVec 32) → sProp 𝕄}
    (he : Scalar.select (Scalar.andi (Scalar.cmpi .ne v153 (Scalar.subi v155 (Scalar.extui v156))) (Scalar.cmpi .ne (Scalar.remsi v147 c8) 0#32)) (Scalar.subi v148 1#32) v148 = smallIn c (word z c))
    (h : ∀ f g W', (∀ i, (i 0).val < 288 → f i = G c i) → SendSt E (grp z) G κ c 1 f g W' iprop(atPos (D := Unit) E (cell c barSem) 1 ∅ 0 ∗ rowsP c x ∗ goP c v ∗ R)
      ⊢ Q ⟨smallIn c (word z c), k0_pay1 x, Scalar.extui (Scalar.cmpi .sgt (bigOut c (word z c)) 1#32), 0#32⟩) :
    StartSt E (grp z) G κ c f g W iprop(rowsP c x ∗ goP c v ∗ R)
      ⊢ wpk c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c v2 v8 v9 (bigOut c (word z c)) v147 c8 v148 v153 v155 v156) Q := by
  rw [k0_part5_eq_skeleton]; unfold k0_part5_skel
  refine signal_step E (grp z) G (dev_of c (devs_eq c).1 _) rfl ?_
  refine load_rows (MidSt_acc E _ G acc1) ?_
  refine load_go (MidSt_acc E _ G (acc2 acc1)) ?_
  refine (MidSt_snd E _ G).1.trans (half_step (o := 0) (by decide) rfl (le_refl _) ((MidSt_snd E _ G).2.trans ?_))
  refine barrier_step E (grp z) G rfl fun g W' => ?_
  have hf : ∀ i : S576x512.Idx, (i 0).val < 288 → (if 0 ≤ (i 0).val ∧ (i 0).val < 0 + 288 then k0_pay2 x v (rowIn i) else f i) = G c i := fun i hi => by
    rw [hG, if_pos (by omega)]; exact (if_pos hi).symm
  refine big_send E G hz 0 rfl rfl (dev_of c (devs_eq c).2.1 _) rfl rfl (fun i hi => hf i (chunk_lt (by decide) hi)) ?_
  exact wpk_ret (he ▸ h _ g W' hf)

/-- The next eight chunks are sent, and the second half of the rows to send is computed. -/
theorem part6 (hz : Even z) {κ : GSem nD τ sig → ℕ} {c : Dev nD} {v2 v8 v9 : BitVec 32} {R Y X : sProp 𝕄} {f g : Rows F} {W : Waits sig ℕ}
    {x : FVec F S1024x512 .bf16} {v : Vec F S1x1024 .i32} (hf : ∀ i, (i 0).val < 288 → f i = G c i) {Q : FVec F S288x512 .bf16 → sProp 𝕄}
    (h : SendSt E (grp z) G κ c 9 f g W iprop(Y ∗ X ∗ goP c v ∗ R) ⊢ Q (k0_pay3 x v)) :
    SendSt E (grp z) G κ c 1 f g W iprop(Y ∗ X ∗ goP c v ∗ R)
      ⊢ wpk c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c v2 v8 v9 (bigOut c (word z c)) x (Scalar.extui (Scalar.cmpi .sgt (bigOut c (word z c)) 1#32)) 0#32) Q := by
  rw [k0_part6_eq_skeleton]; unfold k0_part6_skel
  refine big_send E G hz 1 rfl rfl (dev_of c (devs_eq c).2.2.1 _) rfl rfl (fun i hi => hf i (chunk_lt (by decide) hi)) ?_
  refine big_send E G hz 2 rfl rfl (dev_of c (devs_eq c).2.2.2.1 _) rfl rfl (fun i hi => hf i (chunk_lt (by decide) hi)) ?_
  refine big_send E G hz 3 rfl rfl (dev_of c (devs_eq c).2.2.2.2.1 _) rfl rfl (fun i hi => hf i (chunk_lt (by decide) hi)) ?_
  refine big_send E G hz 4 rfl rfl (dev_of c (devs_eq c).2.2.2.2.2.1 _) rfl rfl (fun i hi => hf i (chunk_lt (by decide) hi)) ?_
  refine big_send E G hz 5 rfl rfl (dev_of c (devs_eq c).2.2.2.2.2.2.1 _) rfl rfl (fun i hi => hf i (chunk_lt (by decide) hi)) ?_
  refine big_send E G hz 6 rfl rfl (dev_of c (devs_eq c).2.2.2.2.2.2.2.1 _) rfl rfl (fun i hi => hf i (chunk_lt (by decide) hi)) ?_
  refine big_send E G hz 7 rfl rfl (dev_of c (devs_eq c).2.2.2.2.2.2.2.2.1 _) rfl rfl (fun i hi => hf i (chunk_lt (by decide) hi)) ?_
  refine big_send E G hz 8 rfl rfl (dev_of c (devs_eq c).2.2.2.2.2.2.2.2.2.1 _) rfl rfl (fun i hi => hf i (chunk_lt (by decide) hi)) ?_
  refine load_go (SendSt_acc E _ G (acc2 (acc2 acc1))) ?_
  exact wpk_ret h

/-- The send buffer's second half is filled, and the other nine chunks of 32 rows are sent. -/
theorem part7 (hz : Even z) {κ : GSem nD τ sig → ℕ} {c : Dev nD} {v2 v8 v9 : BitVec 32} {R : sProp 𝕄} {f g : Rows F} {W : Waits sig ℕ}
    {x : Vec F S1024x512 .f32} {v : Vec F S1x1024 .i32} (hG : G c = sent x v) (hf : ∀ i, (i 0).val < 288 → f i = G c i) {Q : PUnit → sProp 𝕄}
    (h : SendSt E (grp z) G κ c 18 (G c) g W R ⊢ Q ⟨⟩) :
    SendSt E (grp z) G κ c 9 f g W R ⊢ wpk c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c v2 v8 v9 (bigOut c (word z c)) (k0_pay3 (k0_pay1 x) v)) Q := by
  rw [k0_part7_eq_skeleton]; unfold k0_part7_skel
  refine (SendSt_snd E _ G).1.trans (half_step (o := 288) (by decide) rfl (pos_nine _) ((SendSt_snd E _ G).2.trans ?_))
  have hf' : (fun i : S576x512.Idx => if 288 ≤ (i 0).val ∧ (i 0).val < 288 + 288 then k0_pay4 (k0_pay3 (k0_pay1 x) v) (rowIn i) else f i) = G c := funext fun i => by
    have hi : (i 0).val < 576 := (i 0).isLt
    by_cases hr : (i 0).val < 288
    · rw [if_neg (by omega)]; exact hf i hr
    · rw [if_pos (by omega), hG]; exact (if_neg hr).symm
  rw [hf']
  refine big_send E G hz 9 rfl rfl (dev_of c (devs_eq c).2.2.2.2.2.2.2.2.2.2.1 _) rfl rfl (fun _ _ => rfl) ?_
  refine big_send E G hz 10 rfl rfl (dev_of c (devs_eq c).2.2.2.2.2.2.2.2.2.2.2.1 _) rfl rfl (fun _ _ => rfl) ?_
  refine big_send E G hz 11 rfl rfl (dev_of c (devs_eq c).2.2.2.2.2.2.2.2.2.2.2.2.1 _) rfl rfl (fun _ _ => rfl) ?_
  refine big_send E G hz 12 rfl rfl (dev_of c (devs_eq c).2.2.2.2.2.2.2.2.2.2.2.2.2.1 _) rfl rfl (fun _ _ => rfl) ?_
  refine big_send E G hz 13 rfl rfl (dev_of c (devs_eq c).2.2.2.2.2.2.2.2.2.2.2.2.2.2.1 _) rfl rfl (fun _ _ => rfl) ?_
  refine big_send E G hz 14 rfl rfl (dev_of c (devs_eq c).2.2.2.2.2.2.2.2.2.2.2.2.2.2.2.1 _) rfl rfl (fun _ _ => rfl) ?_
  refine big_send E G hz 15 rfl rfl (dev_of c (devs_eq c).2.2.2.2.2.2.2.2.2.2.2.2.2.2.2.2.1 _) rfl rfl (fun _ _ => rfl) ?_
  refine big_send E G hz 16 rfl rfl (dev_of c (devs_eq c).2.2.2.2.2.2.2.2.2.2.2.2.2.2.2.2.2.1 _) rfl rfl (fun _ _ => rfl) ?_
  refine big_send E G hz 17 rfl rfl (dev_of c (devs_eq c).2.2.2.2.2.2.2.2.2.2.2.2.2.2.2.2.2.2.1 _) rfl rfl (fun _ _ => rfl) ?_
  exact wpk_ret h

/-- The three chunks of 8 rows are sent, the rows kept are put in the output block, and the first four arrivals are waited for. -/
theorem part8 (hz : Even z) {κ : GSem nD τ sig → ℕ} {c : Dev nD} {v2 v8 v9 : BitVec 32} {hw1 : k0_chk1 c (word z c)} {R R2 : sProp 𝕄} {g : Rows F} {W : Waits sig ℕ}
    {x : FVec F S1024x512 .bf16} {v : Vec F S1x1024 .i32} {Q : BitVec 1 → sProp 𝕄}
    (hmid : iprop(outP c (k0_pay5 x v) ∗ SendSt E (grp z) G κ c 21 (G c) g W iprop(keepP c v ∗ R)) ⊢ WaitSt (recvSide E (grp z) G c) κ 0 R2)
    (h : WaitSt (recvSide E (grp z) G c) κ 4 R2 ⊢ Q (Scalar.cmpi .sgt (bigIn c (word z c)) 4#32)) :
    SendSt E (grp z) G κ c 18 (G c) g W iprop(keepP c v ∗ (∃ v, outP c v) ∗ R)
      ⊢ wpk c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c v2 v8 v9 (word z c) hw1 (bigOut c (word z c)) (smallOut c (word z c)) (bigIn c (word z c)) x) Q := by
  rw [k0_part8_eq_skeleton]; unfold k0_part8_skel
  refine small_send E G hz 0 rfl rfl (dev_of c (devs_eq c).2.2.2.2.2.2.2.2.2.2.2.2.2.2.2.2.2.2.2.1 _) rfl rfl (fun _ _ => rfl) ?_
  refine small_send E G hz 1 rfl rfl (dev_of c (devs_eq c).2.2.2.2.2.2.2.2.2.2.2.2.2.2.2.2.2.2.2.2.1 _) rfl rfl (fun _ _ => rfl) ?_
  refine small_send E G hz 2 rfl rfl (dev_of c (devs_eq c).2.2.2.2.2.2.2.2.2.2.2.2.2.2.2.2.2.2.2.2.2 _) rfl rfl (fun _ _ => rfl) ?_
  refine load_keep (SendSt_acc E _ G acc1) ?_
  have hsw : SendSt E (grp z) G κ c 21 (G c) g W iprop(keepP c v ∗ (∃ v, outP c v) ∗ R) ⊢ iprop((∃ v, outP c v) ∗ SendSt E (grp z) G κ c 21 (G c) g W iprop(keepP c v ∗ R)) := by
    unfold SendSt
    iintro ⟨H1, H2, H3, H4, H5, H6, H7, H8, H9, H10⟩
    isplitl [H9]; · iexact H9
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H10
  refine hsw.trans (out_step (hmid.trans ?_))
  refine wait_step (recvSide E (grp z) G c) (k := 0) (by decide) (bigIn_act hz c 0) (by rfl) (by rfl) ?_
  refine wait_step (recvSide E (grp z) G c) (k := 1) (by decide) (bigIn_act hz c 1) (by rfl) (by rfl) ?_
  refine wait_step (recvSide E (grp z) G c) (k := 2) (by decide) (bigIn_act hz c 2) (by rfl) (by rfl) ?_
  refine wait_step (recvSide E (grp z) G c) (k := 3) (by decide) (bigIn_act hz c 3) (by rfl) (by rfl) ?_
  exact wpk_ret h

end Sched

end Cert.Proof
-- ==== Proof.Body.lean ====
/- The whole body at a device: its parts, one after the other, and what the device holds between the sends, the waits and the blends. -/
module

public import proofs.«01_k».proof.Proof.WordParts
public import proofs.«01_k».proof.Proof.SendParts
public import proofs.«01_k».proof.Proof.Handshake

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (L lv)

variable {F : FTy → Type} [FloatOps F] {U : Type} [URA U]

local notation "𝕄" => MT nD τ sig ℕ (Elt F) ℕ U ℕ

variable {z : Dev nD → ℕ}

/-- The output block at the end: the device's own rows in their places, and the rows received in theirs. -/
def outOf (z : Dev nD → ℕ) (c : Dev nD) (x : Vec F S1024x512 .f32) (v : Vec F S1x1024 .i32) (g : Rows F) : Outs F :=
  blended (startRow z c / 8 * 8) (startRow z c % 8) (nSend z c) (pos (grp z (pr c)) 21) (k0_pay5 (k0_pay1 x) v) g

section Sched

variable (E : Emb (URounds (GSem nD τ sig) Unit) (MT nD τ sig ℕ (Elt F) ℕ U ℕ)) (z) (G : Dev nD → Rows F)

/-- The four input blocks of a device. -/
def inP (c : Dev nD) (n : Vec F S1 .i32) (ki si : Vec F S1x1024 .i32) (x : Vec F S1024x512 .f32) : sProp 𝕄 :=
  iprop(zP c n ∗ keepP c ki ∗ goP c si ∗ rowsP c x)

/-- What a device holds of the schedule when its body starts. -/
def Ready (c : Dev nD) : sProp 𝕄 :=
  iprop(∃ κ, Ctx E (grp z) G κ ∗ sendOpen E c ∗ recvOpen E c ∗ reached (D := Unit) E (cell (pr c) barSem) 0 ∗ dutyTok E (cell (pr c) barSem) 0 ()
    ∗ atPos (D := Unit) E (cell c barSem) 0 ∅ 0 ∗ cred (tallyAt (cell c barSem) barIx 1) ∗ bigSep (Finset.Ico 0 21) (sendToks E (grp z) c)
    ∗ bigSep (Finset.Ico 0 21) (recvSide E (grp z) G c).todo
    ∗ bigSep (Finset.Ico 0 21) fun k : ℕ => atPos (D := Unit) E (cell c (sendSem k)) 0 ∅ 0)

/-- What it holds when its body ends: every counter at zero. -/
def Zeros (c : Dev nD) : sProp 𝕄 :=
  iprop((bigSep (Finset.range 21) fun k : ℕ => semVal (cell c (sendSem k)) 0) ∗ (bigSep (Finset.range 21) fun k : ℕ => semVal (cell c (recvSem k)) 0)
    ∗ semVal (cell c barSem) 0)

variable {z} {E G}

/-- No rows of the send buffer. -/
theorem sndP_none (c : Dev nD) (a : ℕ) (f : Rows F) : (sndP c (rws a a) f : sProp 𝕄) = iprop(emp) := by
  unfold sndP; rw [rws_self]; exact pointsTo_empty
/-- No rows of the receive buffer. -/
theorem rcvP_none (c : Dev nD) (a : ℕ) (f : Rows F) : (rcvP c (rws a a) f : sProp 𝕄) = iprop(emp) := by
  unfold rcvP; rw [rws_self]; exact pointsTo_empty

/-- What else a device holds while it sends. -/
def Rest (E : Emb (URounds (GSem nD τ sig) Unit) (MT nD τ sig ℕ (Elt F) ℕ U ℕ)) (z : Dev nD → ℕ) (G : Dev nD → Rows F) (c : Dev nD) (n : Vec F S1 .i32) (g : Rows F) : sProp 𝕄 :=
  iprop(zP c n ∗ rcvP c (rws (pos (grp z (pr c)) 21) 576) g ∗ bigSep (Finset.Ico 0 21) (recvSide E (grp z) G c).todo
    ∗ bigSep (Finset.Ico 0 21) fun k : ℕ => atPos (D := Unit) E (cell c (sendSem k)) 0 ∅ 0)

/-- What else it holds from its sends on to its last waits: its input blocks and the rows of the buffers that no chunk takes. -/
def Kept (E : Emb (URounds (GSem nD τ sig) Unit) (MT nD τ sig ℕ (Elt F) ℕ U ℕ)) (z : Dev nD → ℕ) (G : Dev nD → Rows F) (c : Dev nD) (n : Vec F S1 .i32) (ki si : Vec F S1x1024 .i32) (x : Vec F S1024x512 .f32) (g : Rows F) : sProp 𝕄 :=
  iprop(inP c n ki si x ∗ atPos (D := Unit) E (cell c barSem) 1 ∅ 0 ∗ rcvP c (rws (pos (grp z (pr c)) 21) 576) g ∗ sndP c (rws (pos (grp z c) 21) 576) (G c))

/-- From the last send to the first wait for what arrives. -/
theorem sends_end {κ : GSem nD τ sig → ℕ} {c : Dev nD} {n : Vec F S1 .i32} {ki si : Vec F S1x1024 .i32} {x : Vec F S1024x512 .f32} {g g' : Rows F} {W : Waits sig ℕ} {o : Outs F} :
    iprop(outP c o ∗ SendSt E (grp z) G κ c 21 (G c) g' W iprop(keepP c ki ∗ atPos (D := Unit) E (cell c barSem) 1 ∅ 0 ∗ rowsP c x ∗ goP c si ∗ Rest E z G c n g))
      ⊢ WaitSt (recvSide E (grp z) G c) κ 0 iprop(outP c o ∗ bigSep (Finset.Ico 0 21) (sendSide E (grp z) G c).todo ∗ Kept E z G c n ki si x g) := by
  have hpay : tallyL (payFrom (grp z) c 21) = 0 := rfl
  have hB : (recvSide E (grp z) G c).B 0 = iprop(emp) := by
    show rcvP c (rws 0 (pos (grp z (pr c)) 0)) (G (pr c)) = _
    rw [pos_zero]; exact rcvP_none c 0 _
  have htodo : bigSep (Finset.Ico 0 21) (sendSide E (grp z) G c).todo
      = iprop((bigSep (Finset.Ico 0 21) fun k : ℕ => atPos (D := Unit) E (cell c (sendSem k)) 0 ∅ 0) ∗ bigSep (Finset.range 21) (sentCred (grp z) c)) := by
    rw [Finset.range_eq_Ico]
    exact bigSep_sep' _ (fun k : ℕ => atPos (D := Unit) E (cell c (sendSem k)) 0 ∅ 0) (sentCred (grp z) c)
  unfold WaitSt SendSt Kept Rest inP
  rw [hpay, hB, htodo, Finset.range_zero, bigSep_empty]
  iintro ⟨Ho, #HX, -, Hs, -, -, Hc, HO, Hk, Hb, Hx, Hg, Hz, Hr, Ht, Ha⟩
  isplitr; · iexact HX
  isplitl [Ht]; · iexact Ht
  isplitr; · iempintro
  isplitr; · iempintro
  isplitl [HO]; · iexists W; iexact HO
  isplitl [Ho]; · iexact Ho
  isplitl [Ha Hc]
  · isplitl [Ha]; · iexact Ha
    iexact Hc
  isplitl [Hz Hk Hg Hx]
  · isplitl [Hz]; · iexact Hz
    isplitl [Hk]; · iexact Hk
    isplitl [Hg]; · iexact Hg
    iexact Hx
  isplitl [Hb]; · iexact Hb
  isplitl [Hr]; · iexact Hr
  iexact Hs

/-- What a device holds besides the two buffers while it blends. -/
def Aside (E : Emb (URounds (GSem nD τ sig) Unit) (MT nD τ sig ℕ (Elt F) ℕ U ℕ)) (z : Dev nD → ℕ) (G : Dev nD → Rows F) (κ : GSem nD τ sig → ℕ) (c : Dev nD) (R : sProp 𝕄) : sProp 𝕄 :=
  iprop(Ctx E (grp z) G κ ∗ bigSep (Finset.range 21) (recvSide E (grp z) G c).done ∗ (∃ W, owes (c : Thread nD τ) 0 W)
    ∗ bigSep (Finset.Ico 0 21) (sendSide E (grp z) G c).todo ∗ R)

/-- From the last arrival to the first blend. -/
theorem waits_end {κ : GSem nD τ sig → ℕ} {c : Dev nD} {o : Outs F} {R : sProp 𝕄} :
    WaitSt (recvSide E (grp z) G c) κ 21 iprop(outP c o ∗ bigSep (Finset.Ico 0 21) (sendSide E (grp z) G c).todo ∗ R)
      ⊢ BSt z o (G (pr c)) c 0 (Aside E z G κ c R) := by
  have hB : (recvSide E (grp z) G c).B 21 = rcvP c (rws 0 (pos (grp z (pr c)) 21)) (G (pr c)) := rfl
  unfold WaitSt BSt BlendSt Aside
  rw [hB, pos_zero, blended_zero]
  iintro ⟨#HX, -, Hd, Hr, HO, Ho, Ht, HR⟩
  isplitl [Ho]; · iexact Ho
  isplitl [Hr]; · iexact Hr
  isplitr; · iexact HX
  isplitl [Hd]; · iexact Hd
  isplitl [HO]; · iexact HO
  isplitl [Ht]; · iexact Ht
  iexact HR

/-- From the last blend to the first wait for what was sent. -/
theorem blends_end {κ : GSem nD τ sig → ℕ} {c : Dev nD} {o : Outs F} {g : Rows F} {R : sProp 𝕄} :
    BSt z o g c 21 (Aside E z G κ c R)
      ⊢ WaitSt (sendSide E (grp z) G c) κ 0 iprop(bigSep (Finset.range 21) (recvSide E (grp z) G c).done
        ∗ outP c (blended (startRow z c / 8 * 8) (startRow z c % 8) (nSend z c) (pos (grp z (pr c)) 21) o g) ∗ rcvP c (rws 0 (pos (grp z (pr c)) 21)) g ∗ R) := by
  have hB : (sendSide E (grp z) G c).B 0 = iprop(emp) := by
    show sndP c (rws 0 (pos (grp z c) 0)) (G c) = _
    rw [pos_zero]; exact sndP_none c 0 _
  unfold WaitSt BSt BlendSt Aside
  rw [hB, Finset.range_zero, bigSep_empty]
  iintro ⟨Ho, Hr, #HX, Hd, HO, Ht, HR⟩
  isplitr; · iexact HX
  isplitl [Ht]; · iexact Ht
  isplitr; · iempintro
  isplitr; · iempintro
  isplitl [HO]; · iexact HO
  isplitl [Hd]; · iexact Hd
  isplitl [Ho]; · iexact Ho
  isplitl [Hr]; · iexact Hr
  iexact HR

/-- Past the last wait the cells are closed, and both buffers are whole again. -/
theorem body_end [E.LandsIn (upEmb : UEmb _ (MT nD τ sig ℕ (Elt F) ℕ U ℕ))] (hz : Even z) {κ : GSem nD τ sig → ℕ} {c : Dev nD} {n : Vec F S1 .i32} {ki si : Vec F S1x1024 .i32} {x : Vec F S1024x512 .f32} {g : Rows F} {o : Outs F} :
    WaitSt (sendSide E (grp z) G c) κ 21 iprop(bigSep (Finset.range 21) (recvSide E (grp z) G c).done ∗ outP c o ∗ rcvP c (rws 0 (pos (grp z (pr c)) 21)) (G (pr c)) ∗ Kept E z G c n ki si x g)
      ⊢ iprop(|={Set.univ}=> (inP c n ki si x ∗ outP c o ∗ (∃ f, sndP c Finset.univ f) ∗ (∃ f, rcvP c Finset.univ f) ∗ Zeros c ∗ ∃ W, owes (c : Thread nD τ) 0 W)) := by
  have hB : (sendSide E (grp z) G c).B 21 = sndP c (rws 0 (pos (grp z c) 21)) (G c) := rfl
  have h1 := Side.close E (grp z) G (sendSide E (grp z) G c) κ
  have h2 := Side.close E (grp z) G (recvSide E (grp z) G c) κ
  have h3 : iprop(Ctx E (grp z) G κ ∗ atPos (D := Unit) E (cell c barSem) 1 ∅ 0) ⊢ iprop(|={Set.univ}=> (semVal (cell c barSem) 0 : sProp 𝕄)) := by
    iintro ⟨#HX, Ha⟩
    ihave #HI := (Ctx_bar E (grp z) G κ c) $$ HX
    iapply (Rounds.cell_close E (Rd E (grp z) G) (κ := κ (cell c barSem)) (Set.mem_univ _) id (R := 1) (fun r hr => duties_later E (grp z) G _ r hr))
    isplitr; · iexact HI
    iexact Ha
  have h4 := sndP_join (F := F) (U := U) c (Nat.zero_le _) (pos_le (hz.grp_le c) 21) (G c) (G c)
  have h5 := rcvP_join (F := F) (U := U) c (Nat.zero_le _) (pos_le (hz.grp_le (pr c)) 21) (G (pr c)) g
  rw [rws_all] at h4 h5
  unfold WaitSt Kept Zeros
  rw [hB]
  iintro ⟨#HX, -, Hsd, Hs, HO, Hrd, Ho, Hr, Hi, Hb, Hr', Hs'⟩
  imod h1 $$ [Hsd] with Hs1
  · isplitr; · iexact HX
    iexact Hsd
  imod h2 $$ [Hrd] with Hs2
  · isplitr; · iexact HX
    iexact Hrd
  imod h3 $$ [Hb] with Hs3
  · isplitr; · iexact HX
    iexact Hb
  imodintro
  isplitl [Hi]; · iexact Hi
  isplitl [Ho]; · iexact Ho
  isplitl [Hs Hs']
  · iapply h4
    isplitl [Hs]; · iexact Hs
    iexact Hs'
  isplitl [Hr Hr']
  · iapply h5
    isplitl [Hr]; · iexact Hr
    iexact Hr'
  isplitl [Hs1 Hs2 Hs3]
  · isplitl [Hs1]; · iexact Hs1
    isplitl [Hs2]; · iexact Hs2
    iexact Hs3
  iexact HO

/-- What a device holds when its body starts, in the order of its first parts. -/
theorem body_start (hz : Even z) {c : Dev nD} {n : Vec F S1 .i32} {ki si : Vec F S1x1024 .i32} {x : Vec F S1024x512 .f32} {f g : Rows F} {W : Waits sig ℕ} :
    iprop(Ready z E G c ∗ inP c n ki si x ∗ (∃ v, outP c v) ∗ sndP c Finset.univ f ∗ rcvP c Finset.univ g ∗ owes (c : Thread nD τ) (tallyL (dueL (grp z) c)) W)
      ⊢ iprop(∃ κ, zP c n ∗ StartSt E (grp z) G κ c f g W iprop(rowsP c x ∗ goP c si ∗ keepP c ki ∗ (∃ v, outP c v)
        ∗ rcvP c (rws (pos (grp z (pr c)) 21) 576) g ∗ bigSep (Finset.Ico 0 21) (recvSide E (grp z) G c).todo
        ∗ bigSep (Finset.Ico 0 21) fun k : ℕ => atPos (D := Unit) E (cell c (sendSem k)) 0 ∅ 0)) := by
  have h5 := (rcvP_split (F := F) (U := U) c (Nat.zero_le _) (pos_le (hz.grp_le (pr c)) 21) g).1
  rw [rws_all] at h5
  unfold Ready StartSt inP
  rw [rws_all]
  iintro ⟨⟨%κ, #HX, #HS, #HR, #HB, Ht, Hb, Hc, Hst, Htd, Ha⟩, ⟨Hz, Hk, Hg, Hx⟩, Ho, Hs, Hr, HO⟩
  ihave Hr' := h5 $$ Hr
  icases Hr' with ⟨Hr1, Hr2⟩
  iexists κ
  isplitl [Hz]; · iexact Hz
  isplitr; · iexact HX
  isplitr; · iexact HS
  isplitr; · iexact HR
  isplitr; · iexact HB
  isplitl [Ht]; · iexact Ht
  isplitl [Hr1]; · iexact Hr1
  isplitl [Hb]; · iexact Hb
  isplitl [Hc]; · iexact Hc
  isplitl [Hst]; · iexact Hst
  isplitl [Hs]; · iexact Hs
  isplitl [HO]; · iexact HO
  isplitl [Hx]; · iexact Hx
  isplitl [Hg]; · iexact Hg
  isplitl [Hk]; · iexact Hk
  isplitl [Ho]; · iexact Ho
  isplitl [Hr2]; · iexact Hr2
  isplitl [Htd]; · iexact Htd
  iexact Ha

/-- The word of scalar memory joins what else is held. -/
theorem start_in {κ : GSem nD τ sig → ℕ} {c : Dev nD} {n : Vec F S1 .i32} {f g : Rows F} {W : Waits sig ℕ} {A B C D R : sProp 𝕄} :
    iprop(zP c n ∗ StartSt E (grp z) G κ c f g W iprop(A ∗ B ∗ C ∗ D ∗ R)) ⊢ StartSt E (grp z) G κ c f g W iprop(A ∗ B ∗ C ∗ D ∗ zP c n ∗ R) := by
  unfold StartSt
  iintro ⟨Hz, H1, H2, H3, H4, H5, H6, H7, H8, H9, H10, H11, HA, HB, HC, HD, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HA]; · iexact HA
  isplitl [HB]; · iexact HB
  isplitl [HC]; · iexact HC
  isplitl [HD]; · iexact HD
  isplitl [Hz]; · iexact Hz
  iexact HR

/-- What else is held, in the order of the last sends. -/
theorem send_order {κ : GSem nD τ sig → ℕ} {c : Dev nD} {k : ℕ} {f g : Rows F} {W : Waits sig ℕ} {A B C D X R : sProp 𝕄} :
    SendSt E (grp z) G κ c k f g W iprop(A ∗ B ∗ C ∗ D ∗ X ∗ R) ⊢ SendSt E (grp z) G κ c k f g W iprop(D ∗ X ∗ A ∗ B ∗ C ∗ R) := by
  unfold SendSt
  iintro ⟨H1, H2, H3, H4, H5, H6, H7, HA, HB, HC, HD, HX, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HD]; · iexact HD
  isplitl [HX]; · iexact HX
  isplitl [HA]; · iexact HA
  isplitl [HB]; · iexact HB
  isplitl [HC]; · iexact HC
  iexact HR

/-- The body: from its blocks, its two buffers and its part of the schedule to the output block, and every counter at zero. -/
theorem body_run [E.LandsIn (upEmb : UEmb _ (MT nD τ sig ℕ (Elt F) ℕ U ℕ))] (hz : Even z) {c : Dev nD} {n : Vec F S1 .i32} (hn : ∀ i, n i = word z c) {ki si : Vec F S1x1024 .i32} {x : Vec F S1024x512 .f32} (hG : G c = sent x si)
    {f g : Rows F} {W : Waits sig ℕ} :
    iprop(Ready z E G c ∗ inP c n ki si x ∗ (∃ v, outP c v) ∗ sndP c Finset.univ f ∗ rcvP c Finset.univ g ∗ owes (c : Thread nD τ) (tallyL (dueL (grp z) c)) W)
      ⊢ wpk c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5)
        fun _ => iprop(inP c n ki si x ∗ outP c (outOf z c x ki (G (pr c))) ∗ (∃ f, sndP c Finset.univ f) ∗ (∃ f, rcvP c Finset.univ f) ∗ Zeros c ∗ ∃ W, owes (c : Thread nD τ) 0 W) := by
  refine (body_start hz).trans (exists_elim fun κ => ?_)
  rw [cc0_body_eq_skeleton]; unfold cc0_body_skel
  refine wpk_bind (part1 hz hn ?_)
  refine start_in.trans ?_
  refine wpk_bind (part2 ?_)
  refine wpk_bind (part3 ?_)
  refine wpk_bind (part4 ?_)
  refine wpk_bind (part5 E G hz hG rfl fun f g W' hf => ?_)
  refine wpk_bind (part6 E G hz hf ?_)
  refine wpk_bind (part7 E G hz hG hf ?_)
  refine send_order.trans ?_
  refine wpk_bind (part8 E G hz sends_end ?_)
  refine wpk_bind (part9 E G hz ?_)
  refine wpk_bind (part10 E G hz ?_)
  refine waits_end.trans ?_
  refine wpk_bind (part11 hz rfl ?_)
  refine wpk_bind (part12 hz ?_)
  refine wpk_bind (part13 E G hz blends_end ?_)
  refine wpk_bind (part14 E G hz ?_)
  refine wait_step (sendSide E (grp z) G c) (k := 17) (by decide) (bigOut_act hz c 17) (by rfl) (by rfl) ?_
  refine wait_step (sendSide E (grp z) G c) (k := 18) (by decide) (smallOut_act hz c 0) (by rfl) (by rfl) ?_
  refine wait_step (sendSide E (grp z) G c) (k := 19) (by decide) (smallOut_act hz c 1) (by rfl) (by rfl) ?_
  refine wait_step (sendSide E (grp z) G c) (k := 20) (by decide) (smallOut_act hz c 2) (by rfl) (by rfl) ?_
  exact wpk_end (body_end hz)

end Sched

end Cert.Proof
-- ==== Proof.Exchange.lean ====
/- The launch of the exchange: what the program's start deals to each device of the schedule, and what a device makes of it where its kernel begins. -/
module

public import proofs.«01_k».proof.Proof.Body
public import Idealize.ShloMosaic.Lib.Rounds.Family

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (L lv)

variable {F : FTy → Type} [FloatOps F] {U : Type} [URA U]

local notation "𝕄" => MT nD τ sig ℕ (Elt F) ℕ U ℕ

section Lists
variable {M : Type} [URA M]

/-- A family over the members with a property is the family that is empty at the others. -/
theorem bigSep_if {I : Type} [DecidableEq I] (s : Finset I) (p : I → Prop) [DecidablePred p] (Φ : I → sProp M) :
    bigSep (s.filter p) Φ = bigSep s fun i => if p i then Φ i else iprop(emp) := by
  induction s using Finset.induction_on with
  | empty => rw [Finset.filter_empty, bigSep_empty, bigSep_empty]
  | insert i s hi ih =>
    rw [Finset.filter_insert, bigSep_insert hi, ← ih]
    by_cases h : p i
    · rw [if_pos h, if_pos h, bigSep_insert fun hm => hi (Finset.mem_of_mem_filter i hm)]
    · rw [if_neg h, if_neg h]
      exact (BI.equiv_iff.mp BI.emp_sep).symm

/-- A list of payments to the receive cells of device d, chunk by chunk. -/
theorem payLast_sep (s : Dev nD → ℕ) (c : Dev nD) (Φ : Pay nD τ sig → sProp M) (n : ℕ) (hn : n ≤ 21) :
    bigSepL (payLast s c n) Φ = bigSep (Finset.Ico (21 - n) 21) fun k => if act (s c) k then Φ (cell (pr c) (recvSem k), rcvIx, unitsOf k) else iprop(emp) := by
  induction n with
  | zero => rw [show 21 - 0 = 21 from rfl, Finset.Ico_self, bigSep_empty]; rfl
  | succ n ih =>
    rw [show 21 - (n + 1) = 20 - n by omega, bigSep_from (by omega), show 20 - n + 1 = 21 - n by omega, ← ih (by omega),
      show payLast s c (n + 1) = if act (s c) (20 - n) then (cell (pr c) (recvSem (20 - n)), rcvIx, unitsOf (20 - n)) :: payLast s c n else payLast s c n from rfl]
    by_cases h : act (s c) (20 - n)
    · rw [if_pos h, if_pos h, bigSepL_cons]; rfl
    · rw [if_neg h, if_neg h]
      exact (BI.equiv_iff.mp BI.emp_sep).symm

end Lists

/-- A flattened list of which one part alone is not empty. -/
theorem flatMap_single {α β : Type} [DecidableEq α] (l : List α) (hl : l.Nodup) (a : α) (ha : a ∈ l) (f : α → List β) (h : ∀ b ∈ l, b ≠ a → f b = []) : l.flatMap f = f a := by
  induction l with
  | nil => exact absurd ha List.not_mem_nil
  | cons b l ih =>
    rw [List.flatMap_cons]
    obtain ⟨hb, hl'⟩ := List.nodup_cons.mp hl
    rcases List.mem_cons.mp ha with rfl | ha'
    · rw [List.flatMap_eq_nil_iff.mpr fun x hx => h x (List.mem_cons_of_mem _ hx) fun e => hb (e ▸ hx), List.append_nil]
    · rw [h b List.mem_cons_self fun e => hb (e ▸ ha'), List.nil_append]
      exact ih hl' ha' fun x hx => h x (List.mem_cons_of_mem _ hx)

/-- All that a device owes goes to its partner. -/
theorem dueL_to (s : Dev nD → ℕ) (c : Dev nD) : ∀ x ∈ dueL s c, x.1.1 = ((pr c : Dev nD) : Thread nD τ) := by
  have h : ∀ n, ∀ x ∈ payLast s c n, x.1.1 = ((pr c : Dev nD) : Thread nD τ) := by
    intro n
    induction n with
    | zero => intro x hx; exact absurd hx List.not_mem_nil
    | succ n ih =>
      intro x hx
      unfold payLast at hx
      split at hx
      · rcases List.mem_cons.mp hx with rfl | h
        · rfl
        · exact ih x h
      · exact ih x hx
  intro x hx
  rcases List.mem_cons.mp hx with rfl | h'
  · rfl
  · exact h _ x h'

/-- What a device is owed is what its partner owes. -/
theorem credOf_eq (s : Dev nD → ℕ) (c : Dev nD) : credOf (dueL s) c = dueL s (pr c) := by
  unfold credOf allPays
  rw [List.filter_flatMap, flatMap_single _ (List.nodup_finRange 8) (pr c) (List.mem_finRange _)]
  · refine List.filter_eq_self.mpr fun x hx => decide_eq_true ?_
    rw [dueL_to s (pr c) x hx, pr_pr]
  · intro d _ hd
    refine List.filter_eq_nil_iff.mpr fun x hx => ?_
    rw [dueL_to s d x hx]
    intro e
    have e' : pr d = c := congrArg Prod.fst (of_decide_eq_true e)
    exact hd (by rw [← e', pr_pr])

/-- The semaphores of the sends differ. -/
theorem sendSem_inj : Set.InjOn sendSem (Finset.range 21 : Finset ℕ) := by
  intro i hi j hj e
  have h := congrArg role e
  rw [role_send (Finset.mem_range.mp hi), role_send (Finset.mem_range.mp hj)] at h
  injection h
/-- The semaphores of the arrivals differ. -/
theorem recvSem_inj : Set.InjOn recvSem (Finset.range 21 : Finset ℕ) := by
  intro i hi j hj e
  have h := congrArg role e
  rw [role_recv (Finset.mem_range.mp hi), role_recv (Finset.mem_range.mp hj)] at h
  injection h

/-- The semaphores of the sends. -/
def sendSems : Finset (SemLoc sig) := (Finset.range 21).image sendSem
/-- The semaphores of the arrivals. -/
def recvSems : Finset (SemLoc sig) := (Finset.range 21).image recvSem

/-- A send semaphore serves a send. -/
theorem mem_sendSems {sm : SemLoc sig} (h : sm ∈ sendSems) : ∃ k, role sm = .send k := by
  obtain ⟨k, hk, rfl⟩ := Finset.mem_image.mp h
  exact ⟨k, role_send (Finset.mem_range.mp hk)⟩
/-- A receive semaphore serves an arrival. -/
theorem mem_recvSems {sm : SemLoc sig} (h : sm ∈ recvSems) : ∃ k, role sm = .recv k := by
  obtain ⟨k, hk, rfl⟩ := Finset.mem_image.mp h
  exact ⟨k, role_recv (Finset.mem_range.mp hk)⟩

/-- No semaphore serves both. -/
theorem sems_disj : Disjoint sendSems recvSems := by
  rw [Finset.disjoint_left]
  intro sm h h'
  obtain ⟨k, hk⟩ := mem_sendSems h
  obtain ⟨j, hj⟩ := mem_recvSems h'
  rw [hk] at hj; injection hj

/-- The duties that device c pays at its own send cells. -/
def sendDuty (s : Dev nD → ℕ) (c : Dev nD) : Finset (GSem nD τ sig × ℕ × Unit) := ((Finset.range 21).filter (act (s c))).image fun k => (cell c (sendSem k), 0, ())
/-- The duties that it pays at its partner's receive cells. -/
def recvDuty (s : Dev nD → ℕ) (c : Dev nD) : Finset (GSem nD τ sig × ℕ × Unit) := ((Finset.range 21).filter (act (s c))).image fun k => (cell (pr c) (recvSem k), 0, ())
/-- The duty that it pays at its partner's barrier cell. -/
def barDuty (c : Dev nD) : GSem nD τ sig × ℕ × Unit := (cell (pr c) barSem, 0, ())

/-- A duty at a send cell is at the device's own cell. -/
theorem mem_sendDuty {s : Dev nD → ℕ} {c : Dev nD} {x : GSem nD τ sig × ℕ × Unit} (h : x ∈ sendDuty s c) : (∃ k, role x.1.2 = .send k) ∧ x.1.1.1 = c := by
  obtain ⟨k, hk, rfl⟩ := Finset.mem_image.mp h
  exact ⟨⟨k, role_send (Finset.mem_range.mp (Finset.mem_of_mem_filter k hk))⟩, rfl⟩
/-- A duty at a receive cell is at the partner's cell. -/
theorem mem_recvDuty {s : Dev nD → ℕ} {c : Dev nD} {x : GSem nD τ sig × ℕ × Unit} (h : x ∈ recvDuty s c) : (∃ k, role x.1.2 = .recv k) ∧ x.1.1.1 = pr c := by
  obtain ⟨k, hk, rfl⟩ := Finset.mem_image.mp h
  exact ⟨⟨k, role_recv (Finset.mem_range.mp (Finset.mem_of_mem_filter k hk))⟩, rfl⟩

/-- The exchange's cells and tokens. -/
def fam (s : Dev nD → ℕ) : Fam nD τ sig Unit 1 where
  bar := barSem
  dorm _ := sendSems ∪ recvSems
  toks c _ := insert (barDuty c) (sendDuty s c ∪ recvDuty s c)
  semKey _ := 0
  hsem j _ _ := Subsingleton.elim _ _
  hbar j h := by
    rcases Finset.mem_union.mp h with h | h
    · obtain ⟨k, hk⟩ := mem_sendSems h
      rw [role_bar] at hk; injection hk
    · obtain ⟨k, hk⟩ := mem_recvSems h
      rw [role_bar] at hk; injection hk
  tokKey x := (match role x.1.2 with | .send _ => x.1.1.1 | _ => pr x.1.1.1, 0)
  htok c j x hx := by
    have hj : (0 : Fin 1) = j := Subsingleton.elim _ _
    rcases Finset.mem_insert.mp hx with rfl | hx
    · show (pr (pr c), (0 : Fin 1)) = (c, j)
      rw [pr_pr, hj]
    rcases Finset.mem_union.mp hx with hx | hx
    · obtain ⟨⟨k, hk⟩, h⟩ := mem_sendDuty hx
      rw [hk, ← hj]; exact Prod.ext h rfl
    · obtain ⟨⟨k, hk⟩, h⟩ := mem_recvDuty hx
      rw [hk, ← hj]; exact Prod.ext (by show pr x.1.1.1 = c; rw [h, pr_pr]) rfl

section Sched

variable (E : Emb (URounds (GSem nD τ sig) Unit) (MT nD τ sig ℕ (Elt F) ℕ U ℕ)) (z : Dev nD → ℕ) (G : Dev nD → Rows F)

/-- The schedule's invariants and the levels are the context of a device's run. -/
theorem Ctx_of (s : Dev nD → ℕ) (κ : GSem nD τ sig → ℕ) : iprop((fam s).cellInvs E (Rd E s G) κ ∗ levAts (L topIx) lv) ⊢ Ctx E s G κ := by
  have h1 : (fam s).cellInvs E (Rd E s G) κ ⊢ bigSep Finset.univ fun c : Dev nD => cellInv E (Rd E s G) (κ (cell c barSem)) (cell c barSem) :=
    bigSep_intro_persistent fun c _ => (fam s).cellInvs_bar E (Rd E s G) κ c
  have h2 : (fam s).cellInvs E (Rd E s G) κ ⊢ bigSep Finset.univ fun c : Dev nD => bigSep (Finset.range 21) fun k : ℕ => cellInv E (Rd E s G) (κ (cell c (sendSem k))) (cell c (sendSem k)) :=
    bigSep_intro_persistent fun c _ => bigSep_intro_persistent fun k hk =>
      (fam s).cellInvs_dorm E (Rd E s G) κ c (j := 0) (Finset.mem_union_left _ (Finset.mem_image_of_mem _ hk))
  have h3 : (fam s).cellInvs E (Rd E s G) κ ⊢ bigSep Finset.univ fun c : Dev nD => bigSep (Finset.range 21) fun k : ℕ => cellInv E (Rd E s G) (κ (cell c (recvSem k))) (cell c (recvSem k)) :=
    bigSep_intro_persistent fun c _ => bigSep_intro_persistent fun k hk =>
      (fam s).cellInvs_dorm E (Rd E s G) κ c (j := 0) (Finset.mem_union_right _ (Finset.mem_image_of_mem _ hk))
  unfold Ctx
  iintro ⟨#HI, #HL⟩
  isplitr; · iapply h1; iexact HI
  isplitr; · iapply h2; iexact HI
  isplitr; · iapply h3; iexact HI
  iexact HL

/-- The tokens a device is dealt, chunk by chunk. -/
theorem toks_eq (s : Dev nD → ℕ) (c : Dev nD) :
    bigSep ((fam s).toks c 0) (fun x => (dutyTok E x.1 x.2.1 x.2.2 : sProp 𝕄)) = iprop(dutyTok E (cell (pr c) barSem) 0 () ∗ bigSep (Finset.Ico 0 21) (sendToks E s c)) := by
  have hd : Disjoint (sendDuty s c) (recvDuty s c) := by
    rw [Finset.disjoint_left]
    intro x h h'
    obtain ⟨⟨k, hk⟩, -⟩ := mem_sendDuty h
    obtain ⟨⟨j, hj⟩, -⟩ := mem_recvDuty h'
    rw [hk] at hj; injection hj
  have hb : barDuty c ∉ sendDuty s c ∪ recvDuty s c := by
    intro h
    rcases Finset.mem_union.mp h with h | h
    · obtain ⟨⟨k, hk⟩, -⟩ := mem_sendDuty h
      exact Role.noConfusion hk
    · obtain ⟨⟨k, hk⟩, -⟩ := mem_recvDuty h
      exact Role.noConfusion hk
  have hs : bigSep (sendDuty s c) (fun x => (dutyTok E x.1 x.2.1 x.2.2 : sProp 𝕄))
      = bigSep (Finset.range 21) fun k : ℕ => if act (s c) k then dutyTok E (cell c (sendSem k)) 0 () else iprop(emp) := by
    unfold sendDuty
    rw [bigSep_image_of_injOn, bigSep_if]
    intro i hi j hj e
    exact sendSem_inj (Finset.mem_of_mem_filter i hi) (Finset.mem_of_mem_filter j hj) (congrArg (fun x : GSem nD τ sig × ℕ × Unit => x.1.2) e)
  have hr : bigSep (recvDuty s c) (fun x => (dutyTok E x.1 x.2.1 x.2.2 : sProp 𝕄))
      = bigSep (Finset.range 21) fun k : ℕ => if act (s c) k then dutyTok E (cell (pr c) (recvSem k)) 0 () else iprop(emp) := by
    unfold recvDuty
    rw [bigSep_image_of_injOn, bigSep_if]
    intro i hi j hj e
    exact recvSem_inj (Finset.mem_of_mem_filter i hi) (Finset.mem_of_mem_filter j hj) (congrArg (fun x : GSem nD τ sig × ℕ × Unit => x.1.2) e)
  rw [show (fam s).toks c 0 = insert (barDuty c) (sendDuty s c ∪ recvDuty s c) from rfl, bigSep_insert hb, bigSep_union hd, hs, hr, ← Finset.range_eq_Ico]
  refine congrArg (fun X : sProp 𝕄 => iprop(dutyTok E (cell (pr c) barSem) 0 () ∗ X)) ((bigSep_sep' _ _ _).symm.trans (bigSep_congr fun k _ => ?_))
  unfold sendToks
  by_cases h : act (s c) k
  · simp only [if_pos h]
  · simp only [if_neg h]
    exact BI.equiv_iff.mp BI.emp_sep

/-- The credit a device is dealt, cell by cell. -/
theorem creds_eq (s : Dev nD → ℕ) (c : Dev nD) : (Pipeline.launchCred (fun d => tallyL (dueL s d)) c : sProp 𝕄)
    = iprop(cred (tallyAt (cell c barSem) barIx 1) ∗ bigSep (Finset.Ico 0 21) fun k : ℕ => if act (s (pr c)) k then cred (tallyAt (cell c (recvSem k)) rcvIx (unitsOf k)) else iprop(emp)) := by
  rw [launchCred_tallyL (dueL s) (fun d x hx => congrArg Prod.snd (dueL_to s d x hx)) c, cred_tallyL, credOf_eq]
  unfold dueL payFrom
  rw [bigSepL_cons, payLast_sep s (pr c) _ 21 (le_refl _), pr_pr]
  rfl

/-- What rides with a device from the program's start to its kernel. -/
def Rides (c : Dev nD) : sProp 𝕄 :=
  iprop(Pipeline.launchCred (fun d => tallyL (dueL (grp z) d)) c ∗ (fam (grp z)).launched E (Rd E (grp z) G) (fun c => {pr c}) c)

/-- The counters at zero and the launch element become what rides, on every device at once. -/
theorem funds [E.LandsIn (upEmb : UEmb _ (MT nD τ sig ℕ (Elt F) ℕ U ℕ))] {Es : Set ℕ} :
    SiteBlocks.Funds E (fun c => semVal (cell c barSem) 0) (fun c => 0 + tallyL (dueL (grp z) c)) (launchOf (fam (grp z)).S (fam (grp z)).Sd (fam (grp z)).T) (Rides E z G) Es :=
  pass (fun c => tallyL (dueL (grp z) c)) ((fam (grp z)).funds E (Rd E (grp z) G) (fun _ _ h => h) fun c => {pr c})

/-- The counters of a device's own semaphores at zero. -/
def OwnZeros (c : Dev nD) : sProp 𝕄 :=
  iprop((bigSep (Finset.range 21) fun k : ℕ => semVal (cell c (sendSem k)) 0) ∗ (bigSep (Finset.range 21) fun k : ℕ => semVal (cell c (recvSem k)) 0))

/-- Where the kernel begins: the device's own cells are opened. -/
theorem ready [E.LandsIn (upEmb : UEmb _ (MT nD τ sig ℕ (Elt F) ℕ U ℕ))] (c : Dev nD) :
    iprop(Rides E z G c ∗ OwnZeros c ∗ levAts (L topIx) lv) ⊢ |={Set.univ}=> Ready z E G c := by
  have hop : bigSep ((fam (grp z)).dorm 0) (fun sm => (openTok E ((c.tc : Thread nD τ), sm) : sProp 𝕄))
      = iprop((bigSep (Finset.range 21) fun k : ℕ => openTok E (cell c (sendSem k))) ∗ bigSep (Finset.range 21) fun k : ℕ => openTok E (cell c (recvSem k))) := by
    rw [show (fam (grp z)).dorm 0 = sendSems ∪ recvSems from rfl, bigSep_union sems_disj]
    unfold sendSems recvSems
    rw [bigSep_image_of_injOn sendSem_inj, bigSep_image_of_injOn recvSem_inj]
    rfl
  have hS (κ : GSem nD τ sig → ℕ) := Rounds.cells_open E (Rd E (grp z) G) (Finset.range 21) (fun k => cell c (sendSem k)) (fun k => κ (cell c (sendSem k))) (Es := Set.univ) fun _ _ => Set.mem_univ _
  have hR (κ : GSem nD τ sig → ℕ) := Rounds.cells_open E (Rd E (grp z) G) (Finset.range 21) (fun k => cell c (recvSem k)) (fun k => κ (cell c (recvSem k))) (Es := Set.univ) fun _ _ => Set.mem_univ _
  have hwS (κ : GSem nD τ sig → ℕ) : iprop(Ctx E (grp z) G κ ∗ bigSep (Finset.range 21) fun k : ℕ => openTok E (cell c (sendSem k)))
      ⊢ bigSep (Finset.range 21) fun k : ℕ => iprop(cellInv E (Rd E (grp z) G) (κ (cell c (sendSem k))) (cell c (sendSem k)) ∗ openTok E (cell c (sendSem k))) :=
    bigSep_with_persistent fun k hk => sep_mono_left (Ctx_send E (grp z) G κ c (Finset.mem_range.mp hk))
  have hwR (κ : GSem nD τ sig → ℕ) : iprop(Ctx E (grp z) G κ ∗ bigSep (Finset.range 21) fun k : ℕ => openTok E (cell c (recvSem k)))
      ⊢ bigSep (Finset.range 21) fun k : ℕ => iprop(cellInv E (Rd E (grp z) G) (κ (cell c (recvSem k))) (cell c (recvSem k)) ∗ openTok E (cell c (recvSem k))) :=
    bigSep_with_persistent fun k hk => sep_mono_left (Ctx_recv E (grp z) G κ c (Finset.mem_range.mp hk))
  have htodo : bigSep (Finset.Ico 0 21) (recvSide E (grp z) G c).todo
      = iprop((bigSep (Finset.Ico 0 21) fun k : ℕ => atPos (D := Unit) E (cell c (recvSem k)) 0 ∅ 0)
        ∗ bigSep (Finset.Ico 0 21) fun k : ℕ => if act (grp z (pr c)) k then cred (tallyAt (cell c (recvSem k)) rcvIx (unitsOf k)) else iprop(emp)) :=
    bigSep_sep' _ (fun k : ℕ => atPos (D := Unit) E (cell c (recvSem k)) 0 ∅ 0) _
  unfold Rides Ready OwnZeros Fam.launched Fam.barPos
  rw [bigSep_univ_of_subsingleton 0]
  unfold Fam.rides
  rw [creds_eq, hop, toks_eq, bigSep_singleton, htodo, ← Finset.range_eq_Ico]
  iintro ⟨⟨⟨Hcb, Hcr⟩, ⟨-, Hat, #Hre⟩, ⟨%κ, #HI⟩, ⟨HoS, HoR⟩, Htb, Hts⟩, ⟨HzS, HzR⟩, #HL⟩
  ihave #HX := (Ctx_of E G (grp z) κ) $$ []
  · isplitr; · iexact HI
    iexact HL
  ihave HoS' := (hwS κ) $$ [HoS]
  · isplitr; · iexact HX
    iexact HoS
  ihave HoR' := (hwR κ) $$ [HoR]
  · isplitr; · iexact HX
    iexact HoR
  imod (hS κ) $$ [HoS' HzS] with HpS
  · isplitl [HoS']; · iexact HoS'
    iexact HzS
  imod (hR κ) $$ [HoR' HzR] with HpR
  · isplitl [HoR']; · iexact HoR'
    iexact HzR
  ihave HpS' := (Entails.of_eq (bigSep_sep' _ _ _)) $$ HpS
  ihave HpR' := (Entails.of_eq (bigSep_sep' _ _ _)) $$ HpR
  icases HpS' with ⟨HaS, #HrS⟩
  icases HpR' with ⟨HaR, #HrR⟩
  imodintro
  iexists κ
  isplitr; · iexact HX
  isplitr; · unfold sendOpen; iexact HrS
  isplitr; · unfold recvOpen; iexact HrR
  isplitr; · iexact Hre
  isplitl [Htb]; · iexact Htb
  isplitl [Hat]; · iexact Hat
  isplitl [Hcb]; · iexact Hcb
  isplitl [Hts]; · iexact Hts
  isplitl [HaR Hcr]
  · isplitl [HaR]; · iexact HaR
    iexact Hcr
  iexact HaS

end Sched

end Cert.Proof
-- ==== Proof.Region.lean ====
/- The kernel's region: its proof data, its body obligation, and its record. -/
module

public import proofs.«01_k».proof.Proof.Exchange
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.Value

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (L lv)

variable {F : FTy → Type} [FloatOps F] {U : Type} [URA U]

local notation "𝕄" => MT nD τ sig ℕ (Elt F) ℕ U ℕ

/-! ## The kernel's own semaphores -/

/-- The semaphores of the sends and of the arrivals. -/
abbrev OwnSem : Type := {sm : SemLoc sig // sm ∈ sendSems ∪ recvSems}

/-- Each as the semaphore it is. -/
abbrev osem : OwnSem → SemLoc sig := Subtype.val

/-- None of them is a window's. -/
theorem ownSem_facts : Pipeline.OwnSemFacts spec0 osem where
  isScoped k := (by decide : ∀ sm ∈ sendSems ∪ recvSems, sm.isScoped .tc = true) k.1 k.2
  inj := Subtype.val_injective
  disj k w s := (by decide : ∀ sm ∈ sendSems ∪ recvSems, ∀ (w : Fin 5) (s : Fin (spec0 w).nbuf), sm ≠ .dma ((spec0 w).sem s)) k.1 k.2 w s

/-- All of them at zero, chunk by chunk. -/
theorem ownZeros_eq (c : Dev nD) : (Pipeline.ownSems0 osem c : sProp 𝕄) = OwnZeros c := by
  have h : (Pipeline.ownSems0 osem c : sProp 𝕄) = bigSep (sendSems ∪ recvSems) fun sm => semVal ((c : Thread nD τ), sm) 0 := by
    have e := bigSep_map (M := 𝕄) (I := OwnSem) (s := Finset.univ) (e := Function.Embedding.subtype _) (Φ := fun sm => semVal ((c : Thread nD τ), sm) 0)
    rw [show (Finset.univ : Finset OwnSem).map (Function.Embedding.subtype _) = sendSems ∪ recvSems from Finset.attach_map_val] at e
    exact e.symm
  rw [h, bigSep_union sems_disj]
  unfold sendSems recvSems OwnZeros
  rw [bigSep_image_of_injOn sendSem_inj, bigSep_image_of_injOn recvSem_inj]
  rfl

/-! ## The windows are whole arrays -/

/-- The block of the count's array is the array. -/
theorem read_blk0 (t : Fin cfg0.N) (f : (main_v42 : Ref sig .tc).ty.Contents (Elt F)) : ((cfg0.win 0).blk t).view.read (Elt F) f = f := by
  funext i
  show f _ = f i
  congr 1
  funext a
  apply Fin.ext
  show 0 * _ + 1 * (i a : ℕ) = i a
  omega

/-- The block of the array of the kept rows' places is the array. -/
theorem read_blk1 (t : Fin cfg0.N) (f : (main_v40 : Ref sig .tc).ty.Contents (Elt F)) : ((cfg0.win 1).blk t).view.read (Elt F) f = f := by
  funext i
  show f _ = f i
  congr 1
  funext a
  apply Fin.ext
  show 0 * _ + 1 * (i a : ℕ) = i a
  omega

/-- The block of the array of the sent rows' places is the array. -/
theorem read_blk2 (t : Fin cfg0.N) (f : (main_v41 : Ref sig .tc).ty.Contents (Elt F)) : ((cfg0.win 2).blk t).view.read (Elt F) f = f := by
  funext i
  show f _ = f i
  congr 1
  funext a
  apply Fin.ext
  show 0 * _ + 1 * (i a : ℕ) = i a
  omega

/-- The block of the rows' array is the array. -/
theorem read_blk3 (t : Fin cfg0.N) (f : (main_arg0 : Ref sig .tc).ty.Contents (Elt F)) : ((cfg0.win 3).blk t).view.read (Elt F) f = f := by
  funext i
  show f _ = f i
  congr 1
  funext a
  apply Fin.ext
  show 0 * _ + 1 * (i a : ℕ) = i a
  omega

/-- The block of the result's array is the array. -/
theorem read_blk4 (t : Fin cfg0.N) (f : (main_v43 : Ref sig .tc).ty.Contents (Elt F)) : ((cfg0.win 4).blk t).view.read (Elt F) f = f := by
  funext i
  show f _ = f i
  congr 1
  funext a
  apply Fin.ext
  show 0 * _ + 1 * (i a : ℕ) = i a
  omega

/-- Every position of the result is in the block. -/
theorem mem_blk4 (t : Fin cfg0.N) (i : S1024x512.Idx) : i ∈ ((cfg0.win 4).blk t).view.set := by
  show i ∈ ((View.whole main_v43).slice (win0_4.rect t)).set
  rw [View.set_slice_whole, Rect.mem_set_unit]
  intro a
  refine ⟨?_, ?_⟩
  · show 0 * _ ≤ (i a : ℕ)
    rw [Nat.zero_mul]; exact Nat.zero_le _
  · show (i a : ℕ) < 0 * _ + _
    rw [Nat.zero_mul, Nat.zero_add]; exact (i a).isLt

/-! ## The proof data -/

section Sched

variable (E : Emb (URounds (GSem nD τ sig) Unit) (MT nD τ sig ℕ (Elt F) ℕ U ℕ)) (z : Dev nD → ℕ) (W : Dev nD → Valuation τ sig (Elt F))

/-- The rows a device sends, from its buffers where the kernel is entered. -/
def sentAt (c : Dev nD) : Rows F := sent (W c main_arg0) (W c main_v41)

/-- The output block a device leaves, from all the devices' buffers where the kernel is entered. -/
def outAt (c : Dev nD) : Outs F := outOf z c (W c main_arg0) (W c main_v40) (sentAt W (pr c))

/-- The two scratch buffers at some contents. -/
def Scratch (c : Dev nD) : sProp 𝕄 := iprop((∃ f, sndP c Finset.univ f) ∗ (∃ f, rcvP c Finset.univ f))

/-- The buffers no window stages are the two scratch buffers. -/
theorem scratch_eq (c : Dev nD) : (Pipeline.scopedRest (Pipeline.pin (pcfgs (F := F)) adm 0).spec c : sProp 𝕄) = Scratch c :=
  scopedRest0_eq c

/-- What is held where the body starts. -/
def StartInv (c : Dev nD) : sProp 𝕄 := iprop(Ready z E (sentAt W) c ∗ Scratch c ∗ ∃ r, prngReg c r)
/-- What is held where it ends. -/
def EndInv (c : Dev nD) : sProp 𝕄 := iprop(Zeros c ∗ Scratch c ∗ ∃ r, prngReg c r)

/-- The proof data of the kernel on a device: the inputs stay, the result is the output block; the arrivals are owed until the end. -/
def dat (c : Dev nD) : Pipeline.Dat τ (Elt F) ℕ ℕ U ℕ cfg0 c where
  A w := W c (Proc.devRef .tc (Pipeline.arrRef spec0 w))
  after w _ := match w with
    | ⟨0, _⟩ => W c main_v42
    | ⟨1, _⟩ => W c main_v40
    | ⟨2, _⟩ => W c main_v41
    | ⟨3, _⟩ => W c main_arg0
    | ⟨4, _⟩ => outAt z W c
  Φ t := if t.val = 0 then StartInv E z W c else EndInv c
  q _ := fullShare
  owed t := if t.val = 0 then tallyL (dueL (grp z) c) else 0

/-- The data of every region: there is one. -/
def pdats : (p : Fin 1) → (c : Dev nD) → Pipeline.Dat τ (Elt F) ℕ ℕ U ℕ (Pipeline.pin (pcfgs (F := F)) adm p) c := fun _ c => dat E z W c

/-- At the start a device owes its signal and its arrivals. -/
theorem owed_first (c : Dev nD) : (dat E z W c).owed t0_0.castSucc = tallyL (dueL (grp z) c) := by
  show (if (t0_0.castSucc : Fin (cfg0.N + 1)).val = 0 then tallyL (dueL (grp z) c) else 0) = _; exact if_pos rfl
/-- At the end it owes nothing. -/
theorem owed_last (c : Dev nD) : (dat E z W c).owed (Fin.last cfg0.N) = 0 := by
  show (if (Fin.last cfg0.N).val = 0 then tallyL (dueL (grp z) c) else 0) = 0
  rw [Fin.val_last, if_neg (by rw [show cfg0.N = 1 from N_0]; decide)]
/-- What is held at the start. -/
theorem inv_first (c : Dev nD) : (dat E z W c).Φ t0_0.castSucc = StartInv E z W c := by
  show (if (t0_0.castSucc : Fin (cfg0.N + 1)).val = 0 then StartInv E z W c else EndInv c) = _; exact if_pos rfl
/-- What is held at the end. -/
theorem inv_last (c : Dev nD) : (dat E z W c).Φ (Fin.last cfg0.N) = EndInv c := by
  show (if (Fin.last cfg0.N).val = 0 then StartInv E z W c else EndInv c) = _
  rw [Fin.val_last, if_neg (by rw [show cfg0.N = 1 from N_0]; decide)]
/-- The one step is the last. -/
theorem succ_last : (t0_0.succ : Fin (cfg0.N + 1)) = Fin.last cfg0.N := by decide

/-- What the core owes, put in the region's terms. -/
theorem owesAt_of {c : Dev nD} (d : Pipeline.Dat τ (Elt F) ℕ ℕ U ℕ cfg0 c) (t : Fin (cfg0.N + 1)) {O : CellTallies nD τ sig ℕ}
    (h : d.owed t = O) (hr : d.recorded t = Set.univ) (V : Waits sig ℕ) : (owes (c : Thread nD τ) O V : sProp 𝕄) ⊢ d.owesAt 0 t := by
  unfold Pipeline.Dat.owesAt Pipeline.owesWithin Pipeline.Dat.bound; rw [h, hr]
  iintro HO; iexists V; isplitr; · ipureintro; exact fun _ _ => Or.inl trivial
  iexact HO

/-- And back. -/
theorem owesAt_to {c : Dev nD} (d : Pipeline.Dat τ (Elt F) ℕ ℕ U ℕ cfg0 c) (t : Fin (cfg0.N + 1)) {O : CellTallies nD τ sig ℕ}
    (h : d.owed t = O) : (d.owesAt 0 t : sProp 𝕄) ⊢ iprop(∃ V, owes (c : Thread nD τ) O V) := by
  unfold Pipeline.Dat.owesAt Pipeline.owesWithin; rw [h]
  iintro ⟨%V, -, HO⟩; iexists V; iexact HO

/-- The block of the count, as the body finds it. -/
theorem before0 (c : Dev nD) (t : Fin cfg0.N) (d) : (dat (F := F) E z W c).before 0 t d = W c main_v42 := by
  unfold Pipeline.Dat.before; rw [if_pos (fetch0_0 t)]; exact read_blk0 (F := F) t _
/-- The block of the places of the rows kept, as the body finds it. -/
theorem before1 (c : Dev nD) (t : Fin cfg0.N) (d) : (dat (F := F) E z W c).before 1 t d = W c main_v40 := by
  unfold Pipeline.Dat.before; rw [if_pos (fetch0_1 t)]; exact read_blk1 (F := F) t _
/-- The block of the places of the rows sent, as the body finds it. -/
theorem before2 (c : Dev nD) (t : Fin cfg0.N) (d) : (dat (F := F) E z W c).before 2 t d = W c main_v41 := by
  unfold Pipeline.Dat.before; rw [if_pos (fetch0_2 t)]; exact read_blk2 (F := F) t _
/-- The block of the rows, as the body finds it. -/
theorem before3 (c : Dev nD) (t : Fin cfg0.N) (d) : (dat (F := F) E z W c).before 3 t d = W c main_arg0 := by
  unfold Pipeline.Dat.before; rw [if_pos (fetch0_3 t)]; exact read_blk3 (F := F) t _

/-- The result's array ends at the output block. -/
theorem arrAt_out (c : Dev nD) : (dat E z W c).arrAt 4 cfg0.N = outAt z W c :=
  (dat E z W c).arrAt_eq_of_cover 4 (outAt z W c) (fun t _ => by
    rw [read_blk4]; rfl) fun i => ⟨t0_0, flush0_4 _, mem_blk4 _ i⟩

/-! ## The body obligation -/

/-- What the region enters with, in the order the body takes it. -/
theorem start_order (c : Dev nD) : iprop((Ready z E (sentAt W) c ∗ ((∃ f, sndP c Finset.univ f) ∗ (∃ f, rcvP c Finset.univ f)) ∗ ∃ r, prngReg c r) ∗ (dat E z W c).owesAt 0 t0_0.castSucc
      ∗ (∃ _d : Vec F S1 .i32, ∃ f, ⌜f = W c main_v42⌝ ∗ zP c f) ∗ (∃ _d : Vec F S1x1024 .i32, ∃ f, ⌜f = W c main_v40⌝ ∗ keepP c f) ∗ (∃ _d : Vec F S1x1024 .i32, ∃ f, ⌜f = W c main_v41⌝ ∗ goP c f)
      ∗ (∃ _d : Vec F S1024x512 .f32, ∃ f, ⌜f = W c main_arg0⌝ ∗ rowsP c f) ∗ (∃ d, ∃ f, ⌜f = (dat E z W c).before 4 t0_0 d⌝ ∗ outP c f))
    ⊢ iprop(∃ f g V, (∃ r, prngReg c r) ∗ Ready z E (sentAt W) c ∗ inP c (W c main_v42) (W c main_v40) (W c main_v41) (W c main_arg0) ∗ (∃ v, outP c v)
      ∗ sndP c Finset.univ f ∗ rcvP c Finset.univ g ∗ owes (c : Thread nD τ) (tallyL (dueL (grp z) c)) V) := by
  iintro ⟨⟨HR, ⟨⟨%f, Hs⟩, ⟨%g, Hr⟩⟩, Hp⟩, HO, ⟨%d0, %n, %hn, H0⟩, ⟨%d1, %ki, %hk, H1⟩, ⟨%d2, %si, %hs, H2⟩, ⟨%d3, %x, %hx, H3⟩, ⟨%d4, %v, %hv, H4⟩⟩
  ihave HO' := (owesAt_to (dat E z W c) _ (owed_first E z W c)) $$ HO
  icases HO' with ⟨%V, HO⟩
  subst hn hk hs hx
  iexists f; iexists g; iexists V
  isplitl [Hp]; · iexact Hp
  isplitl [HR]; · iexact HR
  isplitl [H0 H1 H2 H3]
  · unfold inP
    isplitl [H0]; · iexact H0
    isplitl [H1]; · iexact H1
    isplitl [H2]; · iexact H2
    iexact H3
  isplitl [H4]; · iexists v; iexact H4
  isplitl [Hs]; · iexact Hs
  isplitl [Hr]; · iexact Hr
  iexact HO

/-- What the body ends with, in the order the region takes it. -/
theorem end_order (c : Dev nD) : iprop((∃ r, prngReg c r) ∗ (inP c (W c main_v42) (W c main_v40) (W c main_v41) (W c main_arg0)
        ∗ outP c (outOf z c (W c main_arg0) (W c main_v40) (sentAt W (pr c))) ∗ (∃ f, sndP c Finset.univ f) ∗ (∃ f, rcvP c Finset.univ f) ∗ Zeros c
        ∗ ∃ V, owes (c : Thread nD τ) 0 V))
    ⊢ iprop((Zeros c ∗ ((∃ f, sndP c Finset.univ f) ∗ (∃ f, rcvP c Finset.univ f)) ∗ ∃ r, prngReg c r) ∗ (dat E z W c).owesAt 0 (Fin.last cfg0.N)
        ∗ (∃ f, ⌜f = W c main_v42⌝ ∗ zP c f) ∗ (∃ f, ⌜f = W c main_v40⌝ ∗ keepP c f) ∗ (∃ f, ⌜f = W c main_v41⌝ ∗ goP c f)
        ∗ (∃ f, ⌜f = W c main_arg0⌝ ∗ rowsP c f) ∗ (∃ f, ⌜f = outAt z W c⌝ ∗ outP c f)) := by
  unfold inP
  iintro ⟨Hp, ⟨H0, H1, H2, H3⟩, H4, Hs, Hr, HZ, ⟨%V, HO⟩⟩
  isplitl [HZ Hs Hr Hp]
  · isplitl [HZ]; · iexact HZ
    isplitl [Hs Hr]
    · isplitl [Hs]; · iexact Hs
      iexact Hr
    iexact Hp
  isplitl [HO]; · iapply (owesAt_of (dat E z W c) _ (owed_last E z W c) rfl V); iexact HO
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr; · ipureintro; rfl
  iexact H4

/-- The body runs from what the region enters it with to what the region takes back. -/
theorem body_ok [E.LandsIn (upEmb : UEmb _ (MT nD τ sig ℕ (Elt F) ℕ U ℕ))] (hz : Even z) (hw : ∀ c i, (W c main_v42 : Vec F S1 .i32) i = word z c) (c : Dev nD) :
    Pipeline.BodyObligation (dat E z W c) defs₀ 𝒱₀ 0 Set.univ := fun t => by
  rw [fin_N0 t]
  rw [bigSep_W0, bigSep_W0]
  simp only [before0, before1, before2, before3]
  rw [inv_first, succ_last, inv_last]
  unfold StartInv EndInv Scratch
  simp only [owns_whole_eq]
  show iprop((Ready z E (sentAt W) c ∗ ((∃ f, sndP c Finset.univ f) ∗ (∃ f, rcvP c Finset.univ f)) ∗ ∃ r, prngReg c r) ∗ (dat E z W c).owesAt 0 t0_0.castSucc
      ∗ (∃ _d, ∃ f, ⌜f = W c main_v42⌝ ∗ zP c f) ∗ (∃ _d, ∃ f, ⌜f = W c main_v40⌝ ∗ keepP c f) ∗ (∃ _d, ∃ f, ⌜f = W c main_v41⌝ ∗ goP c f)
      ∗ (∃ _d, ∃ f, ⌜f = W c main_arg0⌝ ∗ rowsP c f) ∗ (∃ d, ∃ f, ⌜f = (dat E z W c).before 4 t0_0 d⌝ ∗ outP c f))
    ⊢ wpk c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5)
      fun _ => iprop((Zeros c ∗ ((∃ f, sndP c Finset.univ f) ∗ (∃ f, rcvP c Finset.univ f)) ∗ ∃ r, prngReg c r) ∗ (dat E z W c).owesAt 0 (Fin.last cfg0.N)
        ∗ (∃ f, ⌜f = W c main_v42⌝ ∗ zP c f) ∗ (∃ f, ⌜f = W c main_v40⌝ ∗ keepP c f) ∗ (∃ f, ⌜f = W c main_v41⌝ ∗ goP c f)
        ∗ (∃ f, ⌜f = W c main_arg0⌝ ∗ rowsP c f) ∗ (∃ f, ⌜f = outAt z W c⌝ ∗ outP c f))
  refine (start_order E z W c).trans (exists_elim fun f => exists_elim fun g => exists_elim fun V => ?_)
  refine (sep_mono_right (body_run hz (hw c) (G := sentAt W) rfl)).trans ?_
  refine (wp_frame_l frame (wpE (defs₀ (F := F)) 𝒱₀ c none) Set.univ).trans (wp_mono frame (wpE (defs₀ (F := F)) 𝒱₀ c none) Set.univ fun _ => ?_)
  exact end_order E z W c

/-! ## The record -/

/-- What the region leaves in the result's buffer. -/
def Wout (c : Dev nD) : Valuation τ sig (Elt F) := Function.update (W c) (Proc.devRef .tc main_v43) (outAt z W c)

/-- After the region the result is the output block. -/
theorem Wout_v43 (c : Dev nD) : Wout z W c main_v43 = outAt z W c := Function.update_self ..
/-- Every other buffer is as before it. -/
theorem Wout_of {b : DevRef τ sig} (c : Dev nD) (h : b ≠ Proc.devRef .tc main_v43) : Wout z W c b = W c b := Function.update_of_ne h ..

/-- The buffers that no window is on. -/
abbrev restRefs : Finset (DevRef τ sig) := Pipeline.ucRefs τ sig \ Pipeline.arrRefs (τ := τ) spec0

/-- The result is one of the region's arrays. -/
theorem v43_mem : Proc.devRef (τ := τ) .tc main_v43 ∈ Pipeline.arrRefs (τ := τ) spec0 :=
  Finset.mem_map.mpr ⟨main_v43, Finset.mem_image.mpr ⟨4, Finset.mem_univ _, rfl⟩, rfl⟩

/-- The windows' arrays are among the buffers that outlive the kernel. -/
theorem arr_sub : Pipeline.arrRefs (τ := τ) spec0 ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, by revert w; decide⟩

/-- Where a tally is not nothing, a window waits below it. -/
theorem tallies_above (c : Dev nD) (t : Fin (cfg0.N + 1)) (g : GSem nD τ sig) (i : ℕ) (h : 0 < (dat E z W c).owed t g i) : i ∈ L topIx g ∧ 0 < lv g i := by
  have e : (dat E z W c).owed t = if t.val = 0 then tallyL (dueL (grp z) c) else 0 := rfl
  rw [e] at h
  split at h
  · obtain ⟨x, hx, rfl, rfl⟩ := tallyL_pos h
    rcases List.mem_cons.mp hx with rfl | hx
    · exact ⟨SiteBlocks.mem_L (pr c) _ (by decide : barIx < topIx), (by decide : 0 < barIx)⟩
    · obtain ⟨h1, h2, h3⟩ := payFrom_mem x hx
      exact ⟨SiteBlocks.mem_L' h1 h3, lt_of_le_of_lt (Nat.zero_le _) h2⟩
  · exact absurd h (Nat.lt_irrefl 0)

/-- What the region hands the body at its start. -/
theorem start_give (c : Dev nD) : iprop(Scratch c ∗ (∃ r, prngReg c r) ∗ StableHlo.held (c.tc : Thread nD τ) ∅ (W c) ∗ Ready z E (sentAt W) c) ⊢ StartInv E z W c := by
  unfold StartInv
  iintro ⟨Hs, Hp, -, HR⟩
  isplitl [HR]; · iexact HR
  isplitl [Hs]; · iexact Hs
  iexact Hp

/-- The end of the body gives the region's own counters back, and the barrier's. -/
theorem end_give (c : Dev nD) : (EndInv c : sProp 𝕄) ⊢ iprop(Pipeline.scopedRest (Pipeline.pin (pcfgs (F := F)) adm 0).spec c ∗ (∃ r, prngReg c r)
    ∗ StableHlo.held (c.tc : Thread nD τ) ∅ (Wout z W c) ∗ Pipeline.ownSems0 osem c ∗ semVal (cell c barSem) 0) := by
  rw [scratch_eq, ownZeros_eq]
  unfold EndInv Zeros OwnZeros StableHlo.held
  rw [bigSep_empty]
  iintro ⟨⟨HS, HR, HB⟩, Hs, Hp⟩
  isplitl [Hs]; · iexact Hs
  isplitl [Hp]; · iexact Hp
  isplitr; · iempintro
  isplitl [HS HR]
  · isplitl [HS]; · iexact HS
    iexact HR
  iexact HB

set_option backward.isDefEq.respectTransparency.types false in
/-- The kernel's region, entered with what rides from the start and left with the barrier's counter at zero. -/
def reg [E.LandsIn (upEmb : UEmb _ (MT nD τ sig ℕ (Elt F) ℕ U ℕ))] (hz : Even z) (hw : ∀ c i, (W c main_v42 : Vec F S1 .i32) i = word z c) :
    Pipeline.RegionSeg (pcfgs (F := F)) adm (pdats E z W) 0 defs₀ 𝒱₀ (L topIx) lv 0 :=
  Pipeline.RegionSeg.ofTalk (pcfgs (F := F)) adm (pdats E z W) 0 defs₀ 𝒱₀ (L topIx) lv 0 osem ownSem_facts
    ∅ restRefs (Finset.empty_subset _) launch0.toP rfl (fun c => (body_ok E z W hz hw c).loose)
    (fun _ => 0) (fun c => tallyL (dueL (grp z) c)) (fun c => (owed_first E z W c).trans (zero_add _).symm) (owed_last E z W) (fun _ => rfl)
    (fun c => (dat E z W c).share_full fun _ => rfl)
    W (Wout z W) (fun c b hb => Wout_of z W c fun h => (Finset.mem_sdiff.mp (Finset.mem_sdiff.mp hb).1).2 (h ▸ v43_mem))
    (Rides E z (sentAt W)) (fun c => semVal (cell c barSem) 0) (Ready z E (sentAt W)) (fun c => semVal (cell c barSem) 0)
    (fun c => by rw [ownZeros_eq]; exact ready E z (sentAt W) c)
    (fun c => by
      rw [scratch_eq]
      exact (start_give E z W c).trans (Entails.of_eq (inv_first E z W c).symm))
    (fun c => (Entails.of_eq (inv_last E z W c)).trans (end_give z W c))
    (fun c => by iintro H; imodintro; iexact H)
    (fun _ => 0)
    ⟨fun c w s => SiteBlocks.mem_L c _ (by decide), fun c w s => Nat.le_refl 0, tallies_above E z W⟩
    (fun _ => iprop(emp))
    (fun c w => rfl)
    (fun c w => by
      match w with
      | ⟨0, _⟩ => exact ((dat E z W c).arrAt_in 0 rfl _).trans (Wout_of z W c (by decide)).symm
      | ⟨1, _⟩ => exact ((dat E z W c).arrAt_in 1 rfl _).trans (Wout_of z W c (by decide)).symm
      | ⟨2, _⟩ => exact ((dat E z W c).arrAt_in 2 rfl _).trans (Wout_of z W c (by decide)).symm
      | ⟨3, _⟩ => exact ((dat E z W c).arrAt_in 3 rfl _).trans (Wout_of z W c (by decide)).symm
      | ⟨4, _⟩ => exact (arrAt_out E z W c).trans (Wout_v43 z W c).symm)

end Sched

end Cert.Proof
-- ==== Proof.Run.lean ====
/- The whole program's run: from any memory with zero counters to the output blocks, the arguments as they were and every counter at zero. -/
module

public import proofs.«01_k».proof.Proof.Region

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (L lv)

variable {F : FTy → Type} [FloatOps F]

/-! ## The launch -/

/-- The pipeline's ghost state, and the exchange's. -/
abbrev UU : Type := URounds (GSem nD τ sig) Unit × URounds (GSem nD τ sig) Unit

local notation "𝕄" => MT nD τ sig ℕ (Elt F) ℕ UU ℕ

/-- The pipeline's part. -/
abbrev EP : Emb (URounds (GSem nD τ sig) Unit) (MT nD τ sig ℕ (Elt F) ℕ UU ℕ) := embL
/-- The exchange's part. -/
abbrev ER : Emb (URounds (GSem nD τ sig) Unit) (MT nD τ sig ℕ (Elt F) ℕ UU ℕ) := embR

/-- What every device holds, held by the first. -/
def onFirst (X : sProp 𝕄) (c : Dev nD) : sProp 𝕄 := if c = 0 then X else iprop(emp)

/-- What the first device holds for all is all that they hold of it. -/
theorem bigSep_onFirst (X : sProp 𝕄) : bigSep Finset.univ (onFirst X) = X := by
  have h : bigSep (Finset.univ.erase (0 : Dev nD)) (onFirst X) = bigSep (Finset.univ.erase (0 : Dev nD)) fun _ => (BI.emp : sProp 𝕄) :=
    bigSep_congr fun c hc => if_neg (Finset.ne_of_mem_erase hc)
  rw [bigSep_univ_at _ (0 : Dev nD), h, BI.bigSep_emp_const, show onFirst X 0 = X from if_pos rfl]
  exact BI.equiv_iff.mp sep_emp

/-- The only semaphore that outlives a kernel is the barrier's. -/
theorem unscoped_bar : ∀ sm : SemLoc sig, sm.isScoped .tc = false → sm = barSem := by decide

/-- The semaphores that outlive a kernel are the barrier's. -/
theorem unscopedSems_eq (c : Dev nD) : (unscopedSems0 c : sProp 𝕄) = semVal (cell c barSem) 0 := by
  unfold unscopedSems0
  rw [show (Finset.univ.filter fun sm : SemLoc sig => ¬ sm.isScoped .tc) = {barSem} from by decide, BI.bigSep_singleton]

section Sched

variable (z : Dev nD → ℕ) (m : (ℓ : Loc nD τ sig) → Buf (Elt F) ℓ) (ρ : Dev nD → PrngReg)

/-- What the devices owe at the start: the signals and the arrivals. -/
def dues (c : Dev nD) : CellTallies nD τ sig ℕ := 0 + tallyL (dueL (grp z) c)

/-- The exchange's launch element. -/
abbrev exch0 : URounds (GSem nD τ sig) Unit := launchOf (fam (grp z)).S (fam (grp z)).Sd (fam (grp z)).T

/-- What rides along with a device's buffers: before its kernel what the exchange needs, after it the barrier's counter. -/
def ride : Fin 2 → Dev nD → sProp 𝕄
  | 0, c => iprop(Rides ER z (sentAt (V17 m)) c ∗ (∃ r, prngReg c r) ∗ ∃ V, owes (c : Thread nD τ) (dues z c) V)
  | 1, c => iprop(semVal (cell c barSem) 0 ∗ ∃ V, owes (c : Thread nD τ) 0 V)

/-- What the last valuation reads off the region. -/
def outs : Cert.KernelIdeal.Gen.Outs (F := F) := fun _ r c => Wout z (V17 m) c r

/-- The last valuation is what the region leaves. -/
theorem V18_eq (c : Dev nD) : V18 m (outs z m) c = Wout z (V17 m) c := by
  unfold outs
  rw [V18, Wout_v43]
  rfl

/-- One device's share of the launch, sorted. -/
theorem start_one (c : Dev nD) : iprop(unscopedBufs c (fun b => m ((c.tc : Thread nD τ).loc b)) ∗ unscopedSems0 c
        ∗ owes (c.tc : Thread nD τ) (dues z c) ∅ ∗ Pipeline.launchCred (dues z) c ∗ prngReg c (ρ c) ∗ onFirst (BI.own (ER (exch0 z))) c)
    ⊢ (iprop((StableHlo.held (c : Thread nD τ) (Pipeline.ucRefs τ sig) (V0 m c) ∗ (∃ r, prngReg c r) ∗ ∃ V, owes (c : Thread nD τ) (dues z c) V)
        ∗ (semVal (cell c barSem) 0 ∗ Pipeline.launchCred (dues z) c) ∗ onFirst (BI.own (ER (exch0 z))) c) : sProp 𝕄) := by
  rw [← Pipeline.unscopedBufs_held (Ix := ℕ) (Name := ℕ) (U := UU) (Lvl := ℕ) c (V0 m c), unscopedSems_eq]
  iintro ⟨HB, HS, HO, HC, HP, HG⟩
  isplitl [HB HP HO]
  · isplitl [HB]; · iexact HB
    isplitl [HP]; · iexists _; iexact HP
    iexists _; iexact HO
  isplitl [HS HC]
  · isplitl [HS]; · iexact HS
    iexact HC
  iexact HG

/-- One device's buffers and its share of the exchange are what rides with it. -/
theorem ride_one (c : Dev nD) : iprop((StableHlo.held (c : Thread nD τ) (Pipeline.ucRefs τ sig) (V0 m c) ∗ (∃ r, prngReg c r) ∗ ∃ V, owes (c : Thread nD τ) (dues z c) V)
      ∗ Rides ER z (sentAt (V17 m)) c)
    ⊢ (iprop(StableHlo.held (c : Thread nD τ) (Pipeline.ucRefs τ sig) (V0 m c) ∗ ride z m 0 c) : sProp 𝕄) := by
  unfold ride
  iintro ⟨⟨HB, HP, HO⟩, HR⟩
  isplitl [HB]; · iexact HB
  isplitl [HR]; · iexact HR
  isplitl [HP]; · iexact HP
  iexact HO

/-- The same on every device. -/
theorem ride_all : iprop((bigSep Finset.univ fun c : Dev nD => iprop(StableHlo.held (c : Thread nD τ) (Pipeline.ucRefs τ sig) (V0 m c) ∗ (∃ r, prngReg c r) ∗ ∃ V, owes (c : Thread nD τ) (dues z c) V))
      ∗ bigSep Finset.univ (Rides ER z (sentAt (V17 m))))
    ⊢ (bigSep Finset.univ fun c : Dev nD => iprop(StableHlo.held (c : Thread nD τ) (Pipeline.ucRefs τ sig) (V0 m c) ∗ ride z m 0 c) : sProp 𝕄) := by
  rw [← bigSep_sep']
  exact bigSep_mono fun c _ => ride_one z m c

/-- The buffers, the counters and the launch elements become what the devices start with. -/
theorem start_all : iprop((bigSep Finset.univ fun c : Dev nD => iprop(unscopedBufs c (fun b => m ((c.tc : Thread nD τ).loc b)) ∗ unscopedSems0 c
        ∗ owes (c.tc : Thread nD τ) (dues z c) ∅ ∗ Pipeline.launchCred (dues z) c ∗ prngReg c (ρ c) ∗ onFirst (BI.own (ER (exch0 z))) c)) ∗ levAts (L topIx) lv)
    ⊢ (|={Set.univ}=> bigSep Finset.univ fun c : Dev nD => iprop(StableHlo.held (c : Thread nD τ) (Pipeline.ucRefs τ sig) (V0 m c) ∗ ride z m 0 c) : sProp 𝕄) := by
  have hsplit : (bigSep Finset.univ fun c : Dev nD => iprop(unscopedBufs c (fun b => m ((c.tc : Thread nD τ).loc b)) ∗ unscopedSems0 c
        ∗ owes (c.tc : Thread nD τ) (dues z c) ∅ ∗ Pipeline.launchCred (dues z) c ∗ prngReg c (ρ c) ∗ onFirst (BI.own (ER (exch0 z))) c))
      ⊢ (iprop((bigSep Finset.univ fun c : Dev nD => iprop(StableHlo.held (c : Thread nD τ) (Pipeline.ucRefs τ sig) (V0 m c) ∗ (∃ r, prngReg c r) ∗ ∃ V, owes (c : Thread nD τ) (dues z c) V))
          ∗ (bigSep Finset.univ fun c : Dev nD => iprop(semVal (cell c barSem) 0 ∗ Pipeline.launchCred (dues z) c)) ∗ BI.own (ER (exch0 z))) : sProp 𝕄) := by
    refine BI.Entails.trans (Q := iprop((bigSep Finset.univ fun c : Dev nD => iprop(StableHlo.held (c : Thread nD τ) (Pipeline.ucRefs τ sig) (V0 m c) ∗ (∃ r, prngReg c r) ∗ ∃ V, owes (c : Thread nD τ) (dues z c) V))
        ∗ (bigSep Finset.univ fun c : Dev nD => iprop(semVal (cell c barSem) 0 ∗ Pipeline.launchCred (dues z) c)) ∗ bigSep Finset.univ (onFirst (BI.own (ER (exch0 z)))))) ?_
      (sep_mono_right (sep_mono_right (Entails.of_eq (bigSep_onFirst _))))
    rw [← bigSep_sep', ← bigSep_sep']
    exact bigSep_mono fun c _ => start_one z m ρ c
  have hf := funds (Es := Set.univ) (F := F) (ER (F := F)) z (sentAt (V17 m))
  unfold SiteBlocks.Funds at hf
  iintro ⟨H, -⟩
  ihave H' := hsplit $$ H
  icases H' with ⟨HB, HC, HE⟩
  imod hf $$ [HC HE] with HR
  · isplitl [HC]; · iexact HC
    iexact HE
  imodintro
  iapply (ride_all z m) $$ [HB HR]
  isplitl [HB]; · iexact HB
  iexact HR

/-- What a device has before its kernel is what the region is entered with. -/
theorem reg_pre (hz : Even z) (hw : ∀ c i, (V17 m c main_v42 : Vec F S1 .i32) i = word z c) (c : Dev nD) :
    iprop(StableHlo.held (c : Thread nD τ) (Pipeline.ucRefs τ sig) (V17 m c) ∗ ride z m 0 c) ⊢ (reg ER z (V17 m) hz hw).pre c := by
  show _ ⊢ iprop(StableHlo.held (c.tc : Thread nD τ) (Pipeline.arrRefs (τ := τ) spec0) (V17 m c) ∗ (∃ r, prngReg c r)
    ∗ (StableHlo.held (c.tc : Thread nD τ) restRefs (V17 m c) ∗ emp) ∗ Rides ER z (sentAt (V17 m)) c ∗ ∃ Wd, owes (c : Thread nD τ) (0 + tallyL (dueL (grp z) c)) Wd)
  rw [StableHlo.held_sub_split (c.tc : Thread nD τ) (arr_sub) (V17 m c)]
  unfold ride
  iintro ⟨⟨HA, HB⟩, HR, HP, HO⟩
  isplitl [HA]; · iexact HA
  isplitl [HP]; · iexact HP
  isplitl [HB]
  · isplitl [HB]; · iexact HB
    iempintro
  isplitl [HR]; · iexact HR
  iexact HO

/-- And what the region leaves is what a device has at the end. -/
theorem reg_post (hz : Even z) (hw : ∀ c i, (V17 m c main_v42 : Vec F S1 .i32) i = word z c) (c : Dev nD) :
    (reg ER z (V17 m) hz hw).post c ⊢ iprop(StableHlo.held (c : Thread nD τ) (Pipeline.ucRefs τ sig) (V18 m (outs z m) c) ∗ ride z m 1 c) := by
  show iprop(StableHlo.held (c.tc : Thread nD τ) (Pipeline.arrRefs (τ := τ) spec0) (Wout z (V17 m) c) ∗ (∃ r, prngReg c r)
    ∗ (StableHlo.held (c.tc : Thread nD τ) restRefs (Wout z (V17 m) c) ∗ emp) ∗ semVal (cell c barSem) 0 ∗ ∃ Wd, owes (c : Thread nD τ) 0 Wd) ⊢ _
  rw [V18_eq, StableHlo.held_sub_split (c.tc : Thread nD τ) (arr_sub) (Wout z (V17 m) c)]
  unfold ride
  iintro ⟨HA, -, ⟨HB, -⟩, HS, HO⟩
  isplitl [HA HB]
  · isplitl [HA]; · iexact HA
    iexact HB
  isplitl [HS]; · iexact HS
  iexact HO

/-- The barrier's counter stays with the buffers, and nothing is owed. -/
theorem end_one (c : Dev nD) : iprop(StableHlo.held (c : Thread nD τ) (Pipeline.ucRefs τ sig) (V18 m (outs z m) c) ∗ ride z m 1 c)
    ⊢ (iprop((StableHlo.held (c : Thread nD τ) (Pipeline.ucRefs τ sig) (V18 m (outs z m) c) ∗ semVal (cell c barSem) 0) ∗ ∃ V, owes (c : Thread nD τ) 0 V) : sProp 𝕄) := by
  unfold ride
  iintro ⟨H, HS, HO⟩
  isplitl [H HS]
  · isplitl [H]; · iexact H
    iexact HS
  iexact HO

/-- What a device's last valuation and its counter say of the final state. -/
theorem read_end (c : Dev nD) (s' : Phys nD τ sig (Elt F)) :
    iprop((StableHlo.held (c : Thread nD τ) (Pipeline.ucRefs τ sig) (V18 m (outs z m) c) ∗ semVal (cell c barSem) 0) ∗ SI s')
      ⊢ (|={Set.univ}=> iprop(⌜(s'.mem.mem ((c.tc : Thread nD τ).loc main_v43) = outAt z (V17 m) c ∧ s'.mem.mem ((c.tc : Thread nD τ).loc main_arg0) = m ((c.tc : Thread nD τ).loc main_arg0)
          ∧ s'.mem.mem ((c.tc : Thread nD τ).loc main_arg1) = m ((c.tc : Thread nD τ).loc main_arg1)) ∧ s'.mem.sem (cell c barSem) = 0⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V18 m (outs z m) c) s') $$ [Hh HSI]
  · isplitl [Hh] <;> iassumption
  icases Hr with ⟨%h, HSI⟩
  imodintro
  isplitr
  · ipureintro
    refine ⟨⟨?_, (h (Proc.devRef .tc main_arg0) (Finset.mem_filter.mpr ⟨StableHlo.devRef_mem_tcRefs main_arg0, by decide⟩)).trans (V18_main_arg0 m _ c),
      (h (Proc.devRef .tc main_arg1) (Finset.mem_filter.mpr ⟨StableHlo.devRef_mem_tcRefs main_arg1, by decide⟩)).trans (V18_main_arg1 m _ c)⟩, by simpa using hb⟩
    refine (h (Proc.devRef .tc main_v43) (Finset.mem_filter.mpr ⟨StableHlo.devRef_mem_tcRefs main_v43, by decide⟩)).trans ?_
    rw [V18_eq]; exact Wout_v43 z (V17 m) c
  · iexact HSI

set_option backward.isDefEq.respectTransparency.types false in
/-- Every fair run ends with the output blocks, the arguments unchanged and every counter at zero. -/
theorem run_main (hz : Even z) (hw : ∀ c i, (V17 m c main_v42 : Vec F S1 .i32) i = word z c) :
    θ_run defs (onTc (τ := τ) (main (F := F))) ⟨m, fun _ => 0, ρ⟩ (fun r => (∀ c : Dev nD,
      r.2.mem ((c.tc : Thread nD τ).loc main_v43) = outAt z (V17 m) c ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_regions_kit_dev_sems (pcfgs (F := F)) adm (pdats ER z (V17 m)) 0 cellOf_inj EP defs₀ 𝒱₀ (L topIx) lv m ρ main
    (segs m 𝒱₀ (L topIx) lv (ride z m) 0 (pdats ER z (V17 m)) (reg ER z (V17 m) hz hw))
    (fun c Q => by
      rewrite [main_chain c, Pipeline.Seg.run_eq_chain,
        show (segs m 𝒱₀ (L topIx) lv (ride z m) 0 (pdats ER z (V17 m)) (reg ER z (V17 m) hz hw) c).map Pipeline.Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12, StableHlo.seq hostOps0_13, StableHlo.seq hostOps0_14,
          StableHlo.seq hostOps0_15, StableHlo.seq hostOps0_16, Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide) (dues z) (SiteBlocks.hL topIx)
    (onFirst (BI.own (ER (exch0 z))))
    (initOf (Pipeline.cells (Pipeline.pin (pcfgs (F := F)) adm) cellOf_inj) (Pipeline.launchToks (Pipeline.pin (pcfgs (F := F)) adm) cellOf_inj), exch0 z)
    (by
      iintro Hu
      ihave H := (ownU_pair _ _) $$ Hu
      icases H with ⟨HP, HX⟩
      imodintro
      isplitl [HP]; · iexact HP
      rw [bigSep_onFirst]; iexact HX)
    (T₀ := fun c => iprop(StableHlo.held (c : Thread nD τ) (Pipeline.ucRefs τ sig) (V0 m c) ∗ ride z m 0 c))
    (Tₙ := fun c => iprop(StableHlo.held (c : Thread nD τ) (Pipeline.ucRefs τ sig) (V18 m (outs z m) c) ∗ semVal (cell c barSem) 0))
    (hch := fun c => ⟨.rfl, .rfl, .rfl, .rfl, .rfl, .rfl, .rfl, .rfl, .rfl, .rfl, .rfl, .rfl, .rfl, .rfl, .rfl, .rfl, .rfl, reg_pre z m hz hw c,
      (reg_post z m hz hw c).trans (end_one z m c)⟩)
    (hinit := start_all z m ρ)
    (QY := fun c s => (s.mem ((c.tc : Thread nD τ).loc main_v43) = outAt z (V17 m) c ∧ s.mem ((c.tc : Thread nD τ).loc main_arg0) = m ((c.tc : Thread nD τ).loc main_arg0)
      ∧ s.mem ((c.tc : Thread nD τ).loc main_arg1) = m ((c.tc : Thread nD τ).loc main_arg1)) ∧ s.sem (cell c barSem) = 0)
    (hfin := read_end z m)
    (hQ := fun s h hs => ⟨fun c => (h c).1, sem_eq_zero hs fun c sm hsm => by obtain rfl := unscoped_bar sm hsm; exact (h c).2⟩)

end Sched

end Cert.Proof
-- ==== Proof.HostSteps.lean ====
/- What each of the host's stretches leaves in the buffers that a later one reads, from the buffers before it. -/
module

public import proofs.«01_k».proof.Proof.Gen.KernelIdeal.Regions
public import proofs.«01_k».proof.Proof.Gen.KernelIdeal.Launch
public import Idealize.ShloMosaic.Lib.Routing.Words
public import Idealize.ShloMosaic.Lib.Routing.Ops

@[expose] public section

noncomputable section

namespace Cert.Proof

open Cert.KernelIdeal Cert.KernelIdeal.Gen
open Idealize.ShloMosaic
open Idealize.ShloMosaic.TcCoe

variable {F : FTy → Type} [FloatOps F]

open Idealize.ShloMosaic.Routing

variable (X : Valuation τ sig (Elt F))

/-- A scalar spread over the rows. -/
abbrev spread {w : ℕ} (v : IVec S_ w) : IVec S1024 w := broadcastInDim S1024 ![] bcast_S_S1024 v

/-- The same word everywhere. -/
abbrev allOf (w : BitVec 32) : IVec S1024 32 := spread (constantI S_ 32 w)

/-- Whether a row goes to part 0, as a number. -/
theorem at_v8 (c : Dev nD) : StableHlo.after (hostOps0 (F := F) c) X main_v8 = extui 32 (cmpi .eq (X main_arg1 : IVec S1024 32) (allOf 0#32)) natLt_1_32 := by
  after_results

/-- Whether the device is at position 0. -/
theorem at_v5 (c : Dev nD) : StableHlo.after (hostOps0 (F := F) c) X main_v5
    = cmpi .eq (Host.remui (Host.divui (constantI S_ 32 (Dev.word c)) (constantI S_ 32 2#32)) (constantI S_ 32 2#32)) (constantI S_ 32 0#32) := by
  after_results
  rfl

/-- The running count of the rows that go to part 0. -/
theorem at_v9 : StableHlo.after (hostOps0_1 (F := F)) X main_v9
    = Host.reduceWindow IntOp.addi ![1024] ![1] ![1023] ![0] (X main_v8 : IVec S1024 32) (broadcastInDim S_ ![] bcast_S_S_ (constantI S_ 32 0#32)) reduceWindows_S1024_S1024_w1024s1p1023_0 h_S_ := by
  after_results
  simp -implicitDefEqProofs only [StableHlo.TRef.toBuf, StableHlo.TRef.ofBuf, cast_cast, cast_eq]

/-- The count of them all. -/
theorem at_v11 : StableHlo.after (hostOps0_2 (F := F)) X main_v11 = shapeCast S_ (extractStridedSlice S1 ![1023] (X main_v9 : IVec S1024 32) slices_S1024_S1_1023) shapeCasts_S1_S_ := by
  after_results
  rfl

/-- The running count of the other rows. -/
theorem at_v15 : StableHlo.after (hostOps0_2 (F := F)) X main_v15 = subi (addi (iotaInDim S1024 32 0) (allOf 1#32)) (X main_v9 : IVec S1024 32) := by
  after_results

/-- The count of all the others. -/
theorem at_v16 : StableHlo.after (hostOps0_2 (F := F)) X main_v16 = subi (constantI S_ 32 1024#32) (shapeCast S_ (extractStridedSlice S1 ![1023] (X main_v9 : IVec S1024 32) slices_S1024_S1_1023) shapeCasts_S1_S_) := by
  after_results
  rfl

/-- The constant 8. -/
theorem at_c5 : StableHlo.after (hostOps0_2 (F := F)) X main_c_5 = constantI S_ 32 8#32 := by
  after_results

/-- A scalar spread to a scalar is itself. -/
theorem spread0 {w : ℕ} (v : IVec S_ w) : broadcastInDim S_ ![] bcast_S_S_ v = v := by
  funext j
  rw [ValueIdx.eq_ix0 j]; exact bc0 bcast_S_S_ v _

/-- The count of the others, modulo 8. -/
theorem at_v17 : StableHlo.after (hostOps0_3 (F := F)) X main_v17 = pyRem bcast_S_S_ (X main_v16 : IVec S_ 32) (X main_c_5 : IVec S_ 32) := by
  after_results
  simp -implicitDefEqProofs only [StableHlo.TRef.toBuf, StableHlo.TRef.ofBuf, cast_cast, cast_eq]
  unfold pyRem divGuard
  rw [spread0, spread0, spread0]
  rfl

/-- The constant 0. -/
theorem at_c6 : StableHlo.after (hostOps0_4 (F := F)) X main_c_6 = constantI S_ 32 0#32 := by
  after_results

/-- How far the rows sent are moved down. -/
theorem at_v18 : StableHlo.after (hostOps0_5 (F := F)) X main_v18 = select (X main_v5 : IVec S_ 1) (X main_c_6 : IVec S_ 32) (X main_v17 : IVec S_ 32) := by
  after_results
  simp -implicitDefEqProofs only [StableHlo.TRef.toBuf, StableHlo.TRef.ofBuf, cast_cast, cast_eq]
  rfl

/-- Whether a row goes to part 0. -/
theorem at_v20 : StableHlo.after (hostOps0_6 (F := F)) X main_v20 = cmpi .eq (X main_v8 : IVec S1024 32) (allOf 1#32) := by
  after_results

/-- Whether it goes to part 1. -/
theorem at_v22 : StableHlo.after (hostOps0_6 (F := F)) X main_v22 = cmpi .eq (X main_v8 : IVec S1024 32) (allOf 0#32) := by
  after_results

/-- Whether the device keeps it. -/
theorem at_v23 : StableHlo.after (hostOps0_7 (F := F)) X main_v23 = select (spread (X main_v5 : IVec S_ 1)) (X main_v20 : IVec S1024 1) (X main_v22 : IVec S1024 1) := by
  after_results
  simp -implicitDefEqProofs only [StableHlo.TRef.toBuf, StableHlo.TRef.ofBuf, cast_cast, cast_eq]

/-- The place of a row among those for part 0. -/
theorem at_v25 : StableHlo.after (hostOps0_8 (F := F)) X main_v25 = subi (X main_v9 : IVec S1024 32) (allOf 1#32) := by
  after_results

/-- The place of a row for part 1, after all those for part 0. -/
theorem at_v29 : StableHlo.after (hostOps0_8 (F := F)) X main_v29 = subi (addi (spread (X main_v11 : IVec S_ 32)) (X main_v15 : IVec S1024 32)) (allOf 1#32) := by
  after_results

/-- The place of a row in the output, if it is kept. -/
theorem at_v30 : StableHlo.after (hostOps0_9 (F := F)) X main_v30 = select (spread (X main_v5 : IVec S_ 1)) (X main_v25 : IVec S1024 32) (X main_v29 : IVec S1024 32) := by
  after_results
  simp -implicitDefEqProofs only [StableHlo.TRef.toBuf, StableHlo.TRef.ofBuf, cast_cast, cast_eq]

/-- The constant −1. -/
theorem at_c11 : StableHlo.after (hostOps0_10 (F := F)) X main_c_11 = constantI S_ 32 4294967295#32 := by
  after_results

/-- The place of a row in the output, or −1. -/
theorem at_v31 : StableHlo.after (hostOps0_11 (F := F)) X main_v31 = select (X main_v23 : IVec S1024 1) (X main_v30 : IVec S1024 32) (spread (X main_c_11 : IVec S_ 32)) := by
  after_results
  simp -implicitDefEqProofs only [StableHlo.TRef.toBuf, StableHlo.TRef.ofBuf, cast_cast, cast_eq]
  rfl

/-- The place of a row among those for part 1. -/
theorem at_v33 : StableHlo.after (hostOps0_12 (F := F)) X main_v33 = subi (X main_v15 : IVec S1024 32) (allOf 1#32) := by
  after_results

/-- The place of a row among those for part 0, moved down. -/
theorem at_v37 : StableHlo.after (hostOps0_12 (F := F)) X main_v37 = subi (addi (spread (X main_v18 : IVec S_ 32)) (X main_v9 : IVec S1024 32)) (allOf 1#32) := by
  after_results

/-- The place of a row among the rows sent, if it is sent. -/
theorem at_v38 : StableHlo.after (hostOps0_13 (F := F)) X main_v38 = select (spread (X main_v5 : IVec S_ 1)) (X main_v33 : IVec S1024 32) (X main_v37 : IVec S1024 32) := by
  after_results
  simp -implicitDefEqProofs only [StableHlo.TRef.toBuf, StableHlo.TRef.ofBuf, cast_cast, cast_eq]

/-- The constant −1 again. -/
theorem at_c14 : StableHlo.after (hostOps0_14 (F := F)) X main_c_14 = constantI S_ 32 4294967295#32 := by
  after_results

/-- The place of a row among the rows sent, or −1. -/
theorem at_v39 : StableHlo.after (hostOps0_15 (F := F)) X main_v39 = select (X main_v23 : IVec S1024 1) (spread (X main_c_14 : IVec S_ 32)) (X main_v38 : IVec S1024 32) := by
  after_results
  simp -implicitDefEqProofs only [StableHlo.TRef.toBuf, StableHlo.TRef.ofBuf, cast_cast, cast_eq]
  rfl

/-- The places of the rows kept, as one row of words. -/
theorem at_v40 : StableHlo.after (hostOps0_16 (F := F)) X main_v40 = shapeCast S1x1024 (X main_v31 : IVec S1024 32) shapeCasts_S1024_S1x1024 := by
  after_results
  rfl

/-- The places of the rows sent, as one row of words. -/
theorem at_v41 : StableHlo.after (hostOps0_16 (F := F)) X main_v41 = shapeCast S1x1024 (X main_v39 : IVec S1024 32) shapeCasts_S1024_S1x1024 := by
  after_results
  rfl

/-- The count of the rows for part 0, as a vector of one word. -/
theorem at_v42 : StableHlo.after (hostOps0_16 (F := F)) X main_v42 = shapeCast S1 (X main_v11 : IVec S_ 32) shapeCasts_S_S1 := by
  after_results
  rfl

end Cert.Proof
-- ==== Proof.Count.lean ====
/- Counting the rows for part 0 in a block of destinations: what the host's sums and the precondition say, as natural numbers. -/
module

public import proofs.«01_k».proof.Proof.Gen.Pre_balanced_Kernel
public import proofs.«01_k».proof.Defs
public import Idealize.ShloMosaic.Lib.Routing.Ops
public import Idealize.ShloMosaic.Lib.Routing.Words
public import Idealize.ShloMosaic.Lib.Routing.Count
public import Idealize.ShloMosaic.Lib.ReduceAll
public import Idealize.ShloMosaic.Lib.Pointwise

@[expose] public section

noncomputable section

namespace Cert.Proof

open Idealize.ShloMosaic hiding ix0 ix1 ix2 ix3
open Idealize.ShloMosaic.Routing Idealize.ShloMosaic.ValueIdx

/-- A block of destinations. -/
abbrev Dests : Type := IVec (shape1 1024) 32

/-- Row `j` goes to part 0. -/
def IsZ (d : Dests) (j : ℕ) : Prop := ∃ h : j < 1024, d (ix1 ⟨j, h⟩) = 0#32

instance (d : Dests) : DecidablePred (IsZ d) := fun j =>
  if h : j < 1024 then decidable_of_iff (d (ix1 ⟨j, h⟩) = 0#32) ⟨fun e => ⟨h, e⟩, fun ⟨_, e⟩ => e⟩ else isFalse fun ⟨h', _⟩ => h h'

/-- How many of the first `n` rows go to part 0. -/
def zeros (d : Dests) (n : ℕ) : ℕ := Nat.count (IsZ d) n

/-- A row goes to part 0 when its destination is 0. -/
theorem isZ_iff (d : Dests) (i : Fin 1024) : IsZ d i.val ↔ d (ix1 i) = 0#32 := ⟨fun ⟨_, e⟩ => e, fun e => ⟨i.2, e⟩⟩

/-- The bit "goes to part 0", widened, is one or zero. -/
theorem zero_word (d : Dests) (hb : (shape0).BroadcastsInDim (shape1 1024) (![] : Fin 0 → Fin 1)) (hw : 1 < 32) (i : Fin 1024) :
    (extui 32 (cmpi .eq d (broadcastInDim (shape1 1024) ![] hb (constantI shape0 32 0#32))) hw) (ix1 i) = BitVec.ofNat 32 (if IsZ d i.val then 1 else 0) := by
  pointwise
  by_cases h : d (ix1 i) = 0#32
  · rw [if_pos ((isZ_iff d i).2 h)]; simp [h, IntOp.cmpi]
  · rw [if_neg fun e => h ((isZ_iff d i).1 e)]; simp only [IntOp.cmpi, beq_eq_false_iff_ne.mpr h]; rfl

/-- The running sum of those bits is the count. -/
theorem zeros_sum (d : Dests) (n : ℕ) : ((List.range n).map fun j => if IsZ d j then 1 else 0).sum = zeros d n := sum_map_ite _ _

/-- Of n rows no more than n go to part 0. -/
theorem zeros_le (d : Dests) (n : ℕ) : zeros d n ≤ n := Nat.count_le _

/-- The destinations the kernel and its reference are claimed for, one block: every one is 0 or 1, and half are 0. -/
structure Balanced (d : Dests) : Prop where
  bit : ∀ i : Fin 1024, d (ix1 i) = 0#32 ∨ d (ix1 i) = 1#32
  half : zeros d 1024 = 512

/-- Words that compare equal are equal. -/
theorem eq_of_cmpi {a b : BitVec 32} (h : IntOp.cmpi .eq a b = 1#1) : a = b := by
  by_contra hne
  simp only [IntOp.cmpi, beq_eq_false_iff_ne.mpr hne] at h
  exact absurd h (by decide)

/-- A conjunction of bits that is set has every bit set. -/
theorem fold_andi {ι : Type} [Fintype ι] {p : ι → BitVec 1} (h : Finset.fold IntOp.andi (1#1) p Finset.univ = 1#1) (i : ι) : p i = 1#1 := by
  classical
  suffices hs : ∀ s : Finset ι, Finset.fold IntOp.andi (1#1) p s = 1#1 → ∀ i ∈ s, p i = 1#1 from hs _ h i (Finset.mem_univ i)
  intro s
  induction s using Finset.induction_on with
  | empty => exact fun _ i hi => absurd hi (Finset.notMem_empty i)
  | insert a s ha ih =>
    intro h' i hi
    rw [Finset.fold_insert ha] at h'
    obtain ⟨h1, h2⟩ := IntOp.andi_eq_one.1 h'
    rcases Finset.mem_insert.1 hi with rfl | hi
    exacts [h1, ih h2 i hi]

/-- The precondition says so. -/
theorem balanced_of {F : FTy → Type} [FloatOps F] (x : FVec F (shape2 1024 512) .f32) (d : Dests)
    (h : Cert.Pre_balanced_Kernel.fn x d = fun _ => 1#1) : Balanced d := by
  have h0 := congrFun h (ix1 (0 : Fin 2))
  have h1 := congrFun h (ix1 (1 : Fin 2))
  refine ⟨fun i => ?_, ?_⟩
  · pointwise [Cert.Pre_balanced_Kernel.fn] at h0
    have hi := fold_andi h0 i
    rcases IntOp.ori_eq_one.1 hi with e | e
    · exact .inl (eq_of_cmpi (a := d (ix1 i)) e)
    · exact .inr (eq_of_cmpi (a := d (ix1 i)) e)
  · have e := reduce_sum _ (fun j => if IsZ d j then 1 else 0) (zero_word d Cert.Pre_balanced_Kernel.Facts.bcast_S_S1024 Cert.Pre_balanced_Kernel.Facts.natLt_1_32)
      Cert.Pre_balanced_Kernel.Facts.reducesTo_S1024_S_d0 Cert.Pre_balanced_Kernel.Facts.h_S_
    rw [zeros_sum] at e
    pointwise at e
    pointwise [Cert.Pre_balanced_Kernel.fn] at h1
    rw [e] at h1
    have h2 : BitVec.ofNat 32 (zeros d 1024) = 512#32 := eq_of_cmpi h1
    have h3 := congrArg BitVec.toNat h2
    have hz := zeros_le d 1024
    rw [BitVec.toNat_ofNat, Nat.mod_eq_of_lt (by omega)] at h3
    exact h3

end Cert.Proof
-- ==== Proof.HostVals.lean ====
/- The words the host gives the kernel, as natural numbers: how many rows of the block go to part 0, the place of each row kept, and the place of each row sent. -/
module

public import proofs.«01_k».proof.Proof.HostSteps
public import proofs.«01_k».proof.Proof.Count
public import proofs.«01_k».proof.Proof.Chunks

@[expose] public section

noncomputable section

namespace Cert.Proof

open Cert.KernelIdeal Cert.KernelIdeal.Gen
open Idealize.ShloMosaic hiding ix0 ix1 ix2 ix3
open Idealize.ShloMosaic.TcCoe Idealize.ShloMosaic.Routing Idealize.ShloMosaic.ValueIdx

variable {F : FTy → Type} [FloatOps F]

/-- Device `c` keeps row `j` of its block: the row goes to the device's own part. -/
def Keeps (c : Dev nD) (d : Dests) (j : ℕ) : Prop := IsZ d j ↔ yOf c = 0

instance (c : Dev nD) (d : Dests) : DecidablePred (Keeps c d) := fun j => inferInstanceAs (Decidable (IsZ d j ↔ yOf c = 0))

/-- The place, in the output, of a row that the device keeps. -/
def keptAt (c : Dev nD) (d : Dests) (j : ℕ) : ℕ := if yOf c = 0 then zeros d j else zeros d 1024 + (j - zeros d j)

/-- The place, among the rows sent, of a row that it sends. -/
def sentPos (c : Dev nD) (d : Dests) (j : ℕ) : ℕ := if yOf c = 0 then j - zeros d j else (1024 - zeros d 1024) % 8 + zeros d j

/-! ## Words -/

/-- The difference of two words of numbers, the second no larger, is the word of the difference. -/
theorem sub_word {a b : ℕ} (h : b ≤ a) (ha : a < 2 ^ 32) : BitVec.ofNat 32 a - BitVec.ofNat 32 b = BitVec.ofNat 32 (a - b) := by
  apply BitVec.eq_of_toNat_eq
  rw [BitVec.toNat_sub, BitVec.toNat_ofNat, BitVec.toNat_ofNat, BitVec.toNat_ofNat]
  omega

/-- The sum of two words of numbers is the word of the sum. -/
theorem add_word (a b : ℕ) : BitVec.ofNat 32 a + BitVec.ofNat 32 b = BitVec.ofNat 32 (a + b) := (BitVec.ofNat_add a b).symm

/-- One more row: the count goes up by one where the row goes to part 0. -/
theorem zeros_succ (d : Dests) (j : ℕ) : zeros d (j + 1) = zeros d j + if IsZ d j then 1 else 0 := Nat.count_succ ..

/-! ## The values before the kernel -/

variable (m : (ℓ : Loc nD τ sig) → Buf (Elt F) ℓ) (c : Dev nD)

/-- The device's block of destinations. -/
abbrev destOf : Dests := m ((c.tc : Thread nD τ).loc main_arg1)

/-- A row for part 0 counts one, another nothing. -/
theorem v8_val (i : Fin 1024) : (V1 m c main_v8 : Dests) (ix1 i) = BitVec.ofNat 32 (if IsZ (destOf m c) i.val then 1 else 0) := by
  rw [show (V1 m c main_v8 : Dests) = _ from at_v8 (V0 m c) c]
  exact zero_word _ _ _ i

/-- The bit "the device is at position 0". -/
theorem v5_val : (V1 m c main_v5 : IVec S_ 1) ix0 = BitVec.ofBool (decide (yOf c = 0)) := by
  rw [show (V1 m c main_v5 : IVec S_ 1) = _ from at_v5 (V0 m c) c]
  show IntOp.cmpi .eq (Host.remui (Host.divui (constantI S_ 32 (Dev.word c)) (constantI S_ 32 2#32)) (constantI S_ 32 2#32) ix0) 0#32 = _
  revert c
  decide

/-- The running count, up to and including row j, of the rows for part 0. -/
theorem v9_val (j : Fin 1024) : (V2 m c main_v9 : Dests) (ix1 j) = BitVec.ofNat 32 (zeros (destOf m c) (j.val + 1)) := by
  rw [show (V2 m c main_v9 : Dests) = _ from at_v9 (V1 m c), ← zeros_sum]
  exact cumsum1 (Nm1 := 1023) rfl _ _ (v8_val m c) _ rfl _ _ j

/-- The count of all the rows for part 0. -/
theorem v11_val : (V3 m c main_v11 : IVec S_ 32) ix0 = BitVec.ofNat 32 (zeros (destOf m c) 1024) := by
  rw [show (V3 m c main_v11 : IVec S_ 32) = _ from at_v11 (V2 m c)]
  refine (shapeCast_apply _ _ _ (ix1 (0 : Fin 1)) (by rfl)).trans ?_
  exact (slice1 1023 (V2 m c main_v9 : Dests) _ (0 : Fin 1) (by decide)).trans (v9_val m c _)

/-- The running count of the other rows. -/
theorem v15_val (j : Fin 1024) : (V3 m c main_v15 : Dests) (ix1 j) = BitVec.ofNat 32 (j.val + 1 - zeros (destOf m c) (j.val + 1)) := by
  rw [show (V3 m c main_v15 : Dests) = _ from at_v15 (V2 m c)]
  show iotaInDim S1024 32 0 (ix1 j) + 1#32 - (V2 m c main_v9 : Dests) (ix1 j) = _
  rw [v9_val, show iotaInDim S1024 32 0 (ix1 j) = BitVec.ofNat 32 j.val from iota1_ap j, show (1#32) = BitVec.ofNat 32 1 from rfl, add_word,
    sub_word (zeros_le _ _) (by omega)]

/-- The count of all the others, modulo 8. -/
theorem v17_val : (V4 m c main_v17 : IVec S_ 32) ix0 = BitVec.ofNat 32 ((1024 - zeros (destOf m c) 1024) % 8) := by
  have hz := zeros_le (destOf m c) 1024
  rw [show (V4 m c main_v17 : IVec S_ 32) = _ from at_v17 (V3 m c)]
  refine pyRem_ap bcast_S_S_ _ _ ix0 ?_ ?_ (by omega) (by omega) (by omega)
  · rw [show (V3 m c main_v16 : IVec S_ 32) = _ from at_v16 (V2 m c)]
    show BitVec.ofNat 32 1024 - _ = _
    rw [← sub_word hz (by omega)]
    exact congrArg _ (((congrFun (at_v11 (V2 m c)) ix0)).symm.trans (v11_val m c))
  · exact congrFun (at_c5 (V2 m c)) ix0

/-! ## Carried to where they are read -/

/-- The bit "the device is at position 0" is unchanged where the shift is chosen. -/
theorem v5_keep3 : V5 m c main_v5 = V1 m c main_v5 :=
  (V5_of m c main_v5 (by decide)).trans <| (V4_of m c main_v5 (by decide)).trans <| (V3_of m c main_v5 (by decide)).trans (V2_of m c main_v5 (by decide))

/-- So it is where the rows kept are marked. -/
theorem v5_keep7 : V7 m c main_v5 = V1 m c main_v5 :=
  (V7_of m c main_v5 (by decide)).trans <| (V6_of m c main_v5 (by decide)).trans (v5_keep3 m c)

/-- So it is where their places are chosen. -/
theorem v5_keep9 : V9 m c main_v5 = V1 m c main_v5 :=
  (V9_of m c main_v5 (by decide)).trans <| (V8_of m c main_v5 (by decide)).trans (v5_keep7 m c)

/-- So it is where the places of the rows sent are chosen. -/
theorem v5_keep13 : V13 m c main_v5 = V1 m c main_v5 :=
  (V13_of m c main_v5 (by decide)).trans <| (V12_of m c main_v5 (by decide)).trans <| (V11_of m c main_v5 (by decide)).trans <|
    (V10_of m c main_v5 (by decide)).trans (v5_keep9 m c)

/-- A row of a buffer that no stretch from the fourth to the eighth writes. -/
theorem keep8 (r : Ref sig .tc) (h : r ∉ hostOps0_3_W ∧ r ∉ hostOps0_4_W ∧ r ∉ hostOps0_5_W ∧ r ∉ hostOps0_6_W ∧ r ∉ hostOps0_7_W) : V8 m c r = V3 m c r :=
  (V8_of m c r h.2.2.2.2).trans <| (V7_of m c r h.2.2.2.1).trans <| (V6_of m c r h.2.2.1).trans <| (V5_of m c r h.2.1).trans (V4_of m c r h.1)

/-- Nor from the ninth to the twelfth. -/
theorem keep12 (r : Ref sig .tc) (h : r ∉ hostOps0_8_W ∧ r ∉ hostOps0_9_W ∧ r ∉ hostOps0_10_W ∧ r ∉ hostOps0_11_W) : V12 m c r = V8 m c r :=
  (V12_of m c r h.2.2.2).trans <| (V11_of m c r h.2.2.1).trans <| (V10_of m c r h.2.1).trans (V9_of m c r h.1)

/-- Nor from the thirteenth to the sixteenth. -/
theorem keep16 (r : Ref sig .tc) (h : r ∉ hostOps0_12_W ∧ r ∉ hostOps0_13_W ∧ r ∉ hostOps0_14_W ∧ r ∉ hostOps0_15_W) : V16 m c r = V12 m c r :=
  (V16_of m c r h.2.2.2).trans <| (V15_of m c r h.2.2.1).trans <| (V14_of m c r h.2.1).trans (V13_of m c r h.1)

/-! ## The count -/

/-- The word the kernel reads is the number of rows for part 0. -/
theorem v42_val (i : S1.Idx) : (V17 m c main_v42 : IVec S1 32) i = BitVec.ofNat 32 (zeros (destOf m c) 1024) := by
  rw [show (V17 m c main_v42 : IVec S1 32) = _ from at_v42 (V16 m c)]
  obtain rfl : i = ix1 (0 : Fin 1) := funext fun a => match a with | ⟨0, _⟩ => Subsingleton.elim (α := Fin 1) _ _
  refine (shapeCast_apply _ _ _ ix0 (by rfl)).trans ?_
  rw [show (V16 m c main_v11 : IVec S_ 32) = (V3 m c main_v11 : IVec S_ 32) from
    (keep16 m c main_v11 (by decide)).trans ((keep12 m c main_v11 (by decide)).trans (keep8 m c main_v11 (by decide)))]
  exact v11_val m c

/-! ## The places -/

/-- How far the rows sent are moved down: by nothing at position 0. -/
theorem v18_val : (V6 m c main_v18 : IVec S_ 32) ix0 = BitVec.ofNat 32 (if yOf c = 0 then 0 else (1024 - zeros (destOf m c) 1024) % 8) := by
  rw [show (V6 m c main_v18 : IVec S_ 32) = _ from at_v18 (V5 m c)]
  show Scalar.select ((V5 m c main_v5 : IVec S_ 1) ix0) ((V5 m c main_c_6 : IVec S_ 32) ix0) ((V5 m c main_v17 : IVec S_ 32) ix0) = _
  rw [show (V5 m c main_v5 : IVec S_ 1) = (V1 m c main_v5 : IVec S_ 1) from v5_keep3 m c, v5_val, WordCmp.select_decide,
    show (V5 m c main_c_6 : IVec S_ 32) = _ from at_c6 (V4 m c), show (V5 m c main_v17 : IVec S_ 32) = (V4 m c main_v17 : IVec S_ 32) from V5_of m c main_v17 (by decide), v17_val]
  split_ifs <;> rfl

/-- The bit "this row is kept". -/
theorem v23_val (j : Fin 1024) : (V8 m c main_v23 : IVec S1024 1) (ix1 j) = BitVec.ofBool (decide (Keeps c (destOf m c) j.val)) := by
  rw [show (V8 m c main_v23 : IVec S1024 1) = _ from at_v23 (V7 m c)]
  show Scalar.select (spread (V7 m c main_v5 : IVec S_ 1) (ix1 j)) ((V7 m c main_v20 : IVec S1024 1) (ix1 j)) ((V7 m c main_v22 : IVec S1024 1) (ix1 j)) = _
  rw [show spread (V7 m c main_v5 : IVec S_ 1) (ix1 j) = (V7 m c main_v5 : IVec S_ 1) ix0 from bc0 _ _ _,
    show (V7 m c main_v5 : IVec S_ 1) = (V1 m c main_v5 : IVec S_ 1) from v5_keep7 m c, v5_val, WordCmp.select_decide,
    show (V7 m c main_v20 : IVec S1024 1) = _ from at_v20 (V6 m c), show (V7 m c main_v22 : IVec S1024 1) = _ from at_v22 (V6 m c)]
  have h8 : (V6 m c main_v8 : Dests) (ix1 j) = BitVec.ofNat 32 (if IsZ (destOf m c) j.val then 1 else 0) := by
    rw [show (V6 m c main_v8 : Dests) = (V1 m c main_v8 : Dests) from (V6_of m c main_v8 (by decide)).trans <| (V5_of m c main_v8 (by decide)).trans <|
      (V4_of m c main_v8 (by decide)).trans <| (V3_of m c main_v8 (by decide)).trans (V2_of m c main_v8 (by decide))]
    exact v8_val m c j
  have hc (w : BitVec 32) : cmpi .eq (V6 m c main_v8 : Dests) (allOf w) (ix1 j) = IntOp.cmpi .eq (BitVec.ofNat 32 (if IsZ (destOf m c) j.val then 1 else 0)) w := by
    show IntOp.cmpi .eq ((V6 m c main_v8 : Dests) (ix1 j)) (allOf w (ix1 j)) = _
    rw [h8, show allOf w (ix1 j) = w from bc0 _ _ _]
  rw [hc, hc]
  unfold Keeps
  by_cases hy : yOf c = 0 <;> by_cases hz : IsZ (destOf m c) j.val <;> simp [hy, hz, IntOp.cmpi]

/-- The running count is unchanged where the places are computed from it. -/
theorem v9_keep8 : V8 m c main_v9 = V2 m c main_v9 := (keep8 m c main_v9 (by decide)).trans (V3_of m c main_v9 (by decide))

/-- The place in the output of a row that is kept. -/
theorem v30_val (j : Fin 1024) (hk : Keeps c (destOf m c) j.val) : (V10 m c main_v30 : Dests) (ix1 j) = BitVec.ofNat 32 (keptAt c (destOf m c) j.val) := by
  rw [show (V10 m c main_v30 : Dests) = _ from at_v30 (V9 m c)]
  show Scalar.select (spread (V9 m c main_v5 : IVec S_ 1) (ix1 j)) ((V9 m c main_v25 : Dests) (ix1 j)) ((V9 m c main_v29 : Dests) (ix1 j)) = _
  rw [show spread (V9 m c main_v5 : IVec S_ 1) (ix1 j) = (V9 m c main_v5 : IVec S_ 1) ix0 from bc0 _ _ _,
    show (V9 m c main_v5 : IVec S_ 1) = (V1 m c main_v5 : IVec S_ 1) from v5_keep9 m c, v5_val, WordCmp.select_decide,
    show (V9 m c main_v25 : Dests) = _ from at_v25 (V8 m c), show (V9 m c main_v29 : Dests) = _ from at_v29 (V8 m c)]
  have hs := zeros_succ (destOf m c) j.val
  have hl := zeros_le (destOf m c) j.val
  have hl' := zeros_le (destOf m c) 1024
  unfold keptAt
  split_ifs with hy
  · show subi (V8 m c main_v9 : Dests) (allOf 1#32) (ix1 j) = _
    rw [subi_ap, show (V8 m c main_v9 : Dests) = (V2 m c main_v9 : Dests) from v9_keep8 m c, v9_val, show allOf 1#32 (ix1 j) = BitVec.ofNat 32 1 from bc0 _ _ _]
    rw [if_pos (hk.2 hy)] at hs
    rw [sub_word (by omega) (by omega), hs, Nat.add_sub_cancel]
  · show spread (V8 m c main_v11 : IVec S_ 32) (ix1 j) + (V8 m c main_v15 : Dests) (ix1 j) - allOf 1#32 (ix1 j) = _
    rw [show (V8 m c main_v15 : Dests) = (V3 m c main_v15 : Dests) from keep8 m c main_v15 (by decide), v15_val,
      show spread (V8 m c main_v11 : IVec S_ 32) (ix1 j) = (V8 m c main_v11 : IVec S_ 32) ix0 from bc0 _ _ _,
      show (V8 m c main_v11 : IVec S_ 32) = (V3 m c main_v11 : IVec S_ 32) from keep8 m c main_v11 (by decide), v11_val,
      show allOf 1#32 (ix1 j) = BitVec.ofNat 32 1 from bc0 _ _ _, add_word]
    rw [if_neg fun h => hy (hk.1 h)] at hs
    rw [sub_word (by omega) (by omega)]
    congr 1
    omega

/-- The place among the rows sent of a row that is sent. -/
theorem v38_val (j : Fin 1024) (hk : ¬ Keeps c (destOf m c) j.val) : (V14 m c main_v38 : Dests) (ix1 j) = BitVec.ofNat 32 (sentPos c (destOf m c) j.val) := by
  rw [show (V14 m c main_v38 : Dests) = _ from at_v38 (V13 m c)]
  show Scalar.select (spread (V13 m c main_v5 : IVec S_ 1) (ix1 j)) ((V13 m c main_v33 : Dests) (ix1 j)) ((V13 m c main_v37 : Dests) (ix1 j)) = _
  rw [show spread (V13 m c main_v5 : IVec S_ 1) (ix1 j) = (V13 m c main_v5 : IVec S_ 1) ix0 from bc0 _ _ _,
    show (V13 m c main_v5 : IVec S_ 1) = (V1 m c main_v5 : IVec S_ 1) from v5_keep13 m c, v5_val, WordCmp.select_decide,
    show (V13 m c main_v33 : Dests) = _ from at_v33 (V12 m c), show (V13 m c main_v37 : Dests) = _ from at_v37 (V12 m c)]
  have hs := zeros_succ (destOf m c) j.val
  have hl := zeros_le (destOf m c) j.val
  have hl' := zeros_le (destOf m c) 1024
  unfold sentPos
  split_ifs with hy
  · show subi (V12 m c main_v15 : Dests) (allOf 1#32) (ix1 j) = _
    rw [subi_ap, show (V12 m c main_v15 : Dests) = (V3 m c main_v15 : Dests) from (keep12 m c main_v15 (by decide)).trans (keep8 m c main_v15 (by decide)), v15_val,
      show allOf 1#32 (ix1 j) = BitVec.ofNat 32 1 from bc0 _ _ _]
    rw [if_neg fun h => hk ⟨fun _ => hy, fun _ => h⟩] at hs
    rw [sub_word (by omega) (by omega)]
    congr 1
    omega
  · show spread (V12 m c main_v18 : IVec S_ 32) (ix1 j) + (V12 m c main_v9 : Dests) (ix1 j) - allOf 1#32 (ix1 j) = _
    rw [show (V12 m c main_v9 : Dests) = (V2 m c main_v9 : Dests) from (keep12 m c main_v9 (by decide)).trans (v9_keep8 m c), v9_val,
      show spread (V12 m c main_v18 : IVec S_ 32) (ix1 j) = (V12 m c main_v18 : IVec S_ 32) ix0 from bc0 _ _ _,
      show (V12 m c main_v18 : IVec S_ 32) = (V6 m c main_v18 : IVec S_ 32) from (keep12 m c main_v18 (by decide)).trans
        ((V8_of m c main_v18 (by decide)).trans (V7_of m c main_v18 (by decide))), v18_val, if_neg hy,
      show allOf 1#32 (ix1 j) = BitVec.ofNat 32 1 from bc0 _ _ _, add_word]
    have hz : IsZ (destOf m c) j.val := by
      by_contra h
      exact hk ⟨fun e => absurd e h, fun e => absurd e hy⟩
    rw [if_pos hz] at hs
    rw [sub_word (by omega) (by omega)]
    congr 1
    omega

/-- A row of one line, read in the line. -/
theorem line_ap (x : Dests) (j : Fin 1024) : shapeCast S1x1024 x shapeCasts_S1024_S1x1024 (ix2 (0 : Fin 1) j) = x (ix1 j) :=
  cast12 x _ (0 : Fin 1) j j (by simp)

/-- Where each row kept goes: its place in the output; minus one for a row sent. -/
theorem v40_val (j : Fin 1024) : (V17 m c main_v40 : IVec S1x1024 32) (ix2 (0 : Fin 1) j)
    = if Keeps c (destOf m c) j.val then BitVec.ofNat 32 (keptAt c (destOf m c) j.val) else 4294967295#32 := by
  rw [show (V17 m c main_v40 : IVec S1x1024 32) = _ from at_v40 (V16 m c)]
  refine (line_ap _ j).trans ?_
  rw [show (V16 m c main_v31 : Dests) = (V12 m c main_v31 : Dests) from keep16 m c main_v31 (by decide), show (V12 m c main_v31 : Dests) = _ from at_v31 (V11 m c)]
  show Scalar.select ((V11 m c main_v23 : IVec S1024 1) (ix1 j)) ((V11 m c main_v30 : Dests) (ix1 j)) (spread (V11 m c main_c_11 : IVec S_ 32) (ix1 j)) = _
  rw [show (V11 m c main_v23 : IVec S1024 1) = (V8 m c main_v23 : IVec S1024 1) from (V11_of m c main_v23 (by decide)).trans <|
      (V10_of m c main_v23 (by decide)).trans (V9_of m c main_v23 (by decide)), v23_val, WordCmp.select_decide,
    show spread (V11 m c main_c_11 : IVec S_ 32) (ix1 j) = (V11 m c main_c_11 : IVec S_ 32) ix0 from bc0 _ _ _,
    show (V11 m c main_c_11 : IVec S_ 32) = _ from at_c11 (V10 m c), show (V11 m c main_v30 : Dests) = (V10 m c main_v30 : Dests) from V11_of m c main_v30 (by decide)]
  split_ifs with hk
  · exact v30_val m c j hk
  · rfl

/-- Where each row sent goes: its place among the rows sent; minus one for a row kept. -/
theorem v41_val (j : Fin 1024) : (V17 m c main_v41 : IVec S1x1024 32) (ix2 (0 : Fin 1) j)
    = if Keeps c (destOf m c) j.val then 4294967295#32 else BitVec.ofNat 32 (sentPos c (destOf m c) j.val) := by
  rw [show (V17 m c main_v41 : IVec S1x1024 32) = _ from at_v41 (V16 m c)]
  refine (line_ap _ j).trans ?_
  rw [show (V16 m c main_v39 : Dests) = _ from at_v39 (V15 m c)]
  show Scalar.select ((V15 m c main_v23 : IVec S1024 1) (ix1 j)) (spread (V15 m c main_c_14 : IVec S_ 32) (ix1 j)) ((V15 m c main_v38 : Dests) (ix1 j)) = _
  rw [show (V15 m c main_v23 : IVec S1024 1) = (V8 m c main_v23 : IVec S1024 1) from (V15_of m c main_v23 (by decide)).trans <|
      (V14_of m c main_v23 (by decide)).trans <| (V13_of m c main_v23 (by decide)).trans (keep12 m c main_v23 (by decide)), v23_val, WordCmp.select_decide,
    show spread (V15 m c main_c_14 : IVec S_ 32) (ix1 j) = (V15 m c main_c_14 : IVec S_ 32) ix0 from bc0 _ _ _,
    show (V15 m c main_c_14 : IVec S_ 32) = _ from at_c14 (V14 m c), show (V15 m c main_v38 : Dests) = (V14 m c main_v38 : Dests) from V15_of m c main_v38 (by decide)]
  split_ifs with hk
  · rfl
  · exact v38_val m c j hk

end Cert.Proof
-- ==== Proof.Frames.lean ====
/- The frames: every run of the kernel, at either reading of the floats, and of the reference ends with the arguments unchanged and every counter at zero. -/
module

public import proofs.«01_k».proof.Proof.Run
public import proofs.«01_k».proof.Proof.HostVals
public import proofs.«01_k».proof.Proof.Gen.ReferenceIdeal.Run
public import proofs.«01_k».proof.Proof.Gen.Pre_balanced_ReferenceIdeal
public import proofs.«01_k».proof.Defs

@[expose] public section

noncomputable section

namespace Cert.Proof

open Cert.KernelIdeal Cert.KernelIdeal.Gen
open Idealize.ShloMosaic Idealize.ShloMosaic.TcCoe Idealize.SL Idealize.SL.Sem

variable {F : FTy → Type} [FloatOps F]

/-- How many rows of a device's block go to part 0. -/
def zOf (m : (ℓ : Loc nD τ sig) → Buf (Elt F) ℓ) (c : Dev nD) : ℕ := zeros (destOf m c) 1024

/-- Under the precondition every block is balanced. -/
theorem balanced_all (m : (ℓ : Loc nD τ sig) → Buf (Elt F) ℓ)
    (h : ∀ c : Dev nD, Cert.Pre_balanced_Kernel.fn (F := F) (m ((c.tc : Thread nD τ).loc main_arg0)) (m ((c.tc : Thread nD τ).loc main_arg1)) = fun _ => 1#1)
    (c : Dev nD) : Balanced (destOf m c) := balanced_of _ _ (h c)

/-- So what two devices of a pair send each other fits their outputs. -/
theorem even_of (m : (ℓ : Loc nD τ sig) → Buf (Elt F) ℓ) (h : ∀ c, Balanced (destOf m c)) : Even (zOf m) where
  tot c := by
    have h1 := (h c).half
    have h2 := (h (pr c)).half
    unfold zOf
    omega
  cap c := by
    have h1 := (h c).half
    unfold nSend zOf
    split_ifs <;> omega

/-- The run, under the precondition. -/
theorem run_pre (m : (ℓ : Loc nD τ sig) → Buf (Elt F) ℓ) (ρ : Dev nD → PrngReg) (h : ∀ c, Balanced (destOf m c)) :
    θ_run defs (onTc (τ := τ) (main (F := F))) ⟨m, fun _ => 0, ρ⟩ (fun r => (∀ c : Dev nD,
      r.2.mem ((c.tc : Thread nD τ).loc main_v43) = outAt (zOf m) (V17 m) c ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  run_main (zOf m) m ρ (even_of m h) fun c i => v42_val m c i

/-- The ideal reading's frame. -/
theorem frame_ideal : Cert.quiescent_KernelIdeal := fun m ρ hp =>
  (θ_run (Cert.KernelIdeal.defs (F := Ideal)) _ _).mono (fun _ h => ⟨fun c => (h.1 c).2, h.2⟩) (run_pre m ρ (balanced_all m hp))

/-- The reference's frame: it is host code, with no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩) (Cert.ReferenceIdeal.Value.run (F := Ideal) m ρ)

/-- The same under the precondition of the reference's shapes, which it has no need of. -/
theorem frame_reference_pre : Cert.quiescent_ReferenceIdeal_pre_balanced_ReferenceIdeal := fun m ρ _ => frame_reference m ρ trivial

end Cert.Proof
-- ==== Proof.FrameKernel.lean ====
/- The frame of the kernel as printed: its text is the ideal reading's, so the run is the same. -/
module

public import proofs.«01_k».proof.Proof.Frames
public import proofs.«01_k».proof.Proof.Gen.Kernel
public import Idealize.ShloMosaic.Lib.Pipeline.Regions

@[expose] public section

noncomputable section

namespace Cert.Proof

open Idealize.ShloMosaic Idealize.ShloMosaic.TcCoe Idealize.SL Idealize.SL.Sem

/-- The kernel's frame, spelt of the ideal reading's text at words. -/
def FrameWords : Prop :=
  ∀ (m : (ℓ : Loc Cert.KernelIdeal.nD Cert.KernelIdeal.τ Cert.KernelIdeal.sig) → Buf (Elt Bits) ℓ) (ρ : Dev Cert.KernelIdeal.nD → PrngReg),
    (∀ c : Dev Cert.KernelIdeal.nD, Cert.Pre_balanced_Kernel.fn (F := Bits) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) →
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- The two texts are one. -/
theorem frame_same : Cert.quiescent_Kernel = FrameWords := by chain_rfl

/-- The printed kernel's frame, under the precondition at words. -/
theorem frame_kernel : Cert.quiescent_Kernel := frame_same.mpr fun m ρ hp =>
  (θ_run (Cert.KernelIdeal.defs (F := Bits)) _ _).mono (fun _ h => ⟨fun c => (h.1 c).2, h.2⟩) (run_pre m ρ fun c => balanced_of (F := Bits) _ _ (hp c))

end Cert.Proof
-- ==== Proof.Picked.lean ====
/- The products with zero-one matrices, at the extended reals: a row of one is the row of the argument that the index words name. -/
module

public import proofs.«01_k».proof.Proof.SendParts
public import proofs.«01_k».proof.Proof.HostVals
public import Idealize.ShloMosaic.Lib.Pointwise
public import Idealize.ShloMosaic.Lib.MatmulPlain

@[expose] public section

noncomputable section

namespace Cert.Proof

open Cert.KernelIdeal Cert.KernelIdeal.Gen
open Idealize.ShloMosaic hiding ix0 ix1 ix2 ix3
open Idealize.ShloMosaic.TcCoe Idealize.ShloMosaic.Routing Idealize.ShloMosaic.ValueIdx Idealize.SL.Sem

/-- A sum of entries each times one or zero, one for `k0` alone, is that entry. -/
theorem sum_pick {K : ℕ} (w : Fin K → Ideal .f32) (x : Fin K → Ideal .f32) (k0 : Fin K) (h1 : w k0 = 1) (h0 : ∀ k, k ≠ k0 → w k = 0) :
    ∑ k, w k * x k = x k0 := by
  rw [Finset.sum_eq_single k0 (fun k _ hk => by rw [h0 k hk]; exact zero_mul _) (fun h => (h (Finset.mem_univ _)).elim), h1]
  exact one_mul _

/-- The word of a comparison, as a number. -/
theorem sitofp_bit (b : Bool) : FloatOps.sitofp (F := Ideal) FTy.f32 (BitVec.setWidth 32 (BitVec.ofBool b)) = if b then (1 : Ideal .f32) else 0 := by
  cases b
  · show (((0 : ℤ) : ℝ) : EReal) = 0
    simp
  · show (((1 : ℤ) : ℝ) : EReal) = 1
    simp

/-- The entry at row `n`, column `k` of the zero-one matrix of the words `w`. -/
abbrev bitAt {K : ℕ} (n : ℕ) (w : Fin K → BitVec 32) (k : Fin K) : Ideal .f32 :=
  FloatOps.sitofp (F := Ideal) FTy.f32 (BitVec.setWidth 32 (IntOp.cmpi CmpIPredicate.eq (BitVec.ofNat 32 n) (w k)))

/-- Where one word alone names row `n`, that row of the product is the entry at that word. -/
theorem row_pick {K : ℕ} (n : ℕ) (w : Fin K → BitVec 32) (k0 : Fin K) (hk : ∀ k, w k = BitVec.ofNat 32 n ↔ k = k0) (x : Fin K → Ideal .f32) :
    ∑ k, bitAt n w k * x k = x k0 := by
  have e : ∀ k, bitAt n w k = if k = k0 then (1 : Ideal .f32) else 0 := fun k => by
    unfold bitAt
    rw [WordCmp.cmpi_eq_eq, sitofp_bit]
    simp only [decide_eq_true_eq, eq_comm (a := BitVec.ofNat 32 n), hk k]
  exact sum_pick _ x k0 ((e k0).trans (if_pos rfl)) fun k hn => (e k).trans (if_neg hn)

/-- A row of the block computed. -/
theorem pay5_row (x : Vec Ideal S1024x512 .f32) (v : Vec Ideal S1x1024 .i32) (i : Fin 1024) (l : Fin 512) (k0 : Fin 1024)
    (hk : ∀ k : Fin 1024, v (ix2 (0 : Fin 1) k) = BitVec.ofNat 32 i.val ↔ k = k0) : k0_pay5 (F := Ideal) (k0_pay1 x) v (ix2 i l) = x (ix2 k0 l) := by
  pointwise [k0_pay5, k0_pay1]
  exact row_pick i.val (fun k => v (ix2 (0 : Fin 1) k)) k0 hk fun k => x (ix2 k l)

/-- A row of the first half of the rows to be sent. -/
theorem pay2_row (x : Vec Ideal S1024x512 .f32) (v : Vec Ideal S1x1024 .i32) (i : Fin 288) (l : Fin 512) (k0 : Fin 1024)
    (hk : ∀ k : Fin 1024, v (ix2 (0 : Fin 1) k) = BitVec.ofNat 32 i.val ↔ k = k0) : k0_pay2 (F := Ideal) x v (ix2 i l) = x (ix2 k0 l) := by
  pointwise [k0_pay2, k0_pay1]
  exact row_pick i.val (fun k => v (ix2 (0 : Fin 1) k)) k0 hk fun k => x (ix2 k l)

/-- A row of the second half of the rows to be sent. -/
theorem pay4_row (x : Vec Ideal S1024x512 .f32) (v : Vec Ideal S1x1024 .i32) (i : Fin 288) (l : Fin 512) (k0 : Fin 1024)
    (hk : ∀ k : Fin 1024, v (ix2 (0 : Fin 1) k) = BitVec.ofNat 32 (i.val + 288) ↔ k = k0) : k0_pay4 (F := Ideal) (k0_pay3 (k0_pay1 x) v) (ix2 i l) = x (ix2 k0 l) := by
  pointwise [k0_pay4, k0_pay3, k0_pay1]
  refine row_pick i.val (fun k => IntOp.subi (v (ix2 (0 : Fin 1) k)) 288#32) k0 (fun k => ?_) fun k => x (ix2 k l)
  rw [← hk k]
  show v (ix2 (0 : Fin 1) k) - 288#32 = BitVec.ofNat 32 i.val ↔ _
  rw [sub_eq_iff_eq_add, BitVec.ofNat_add]

/-- A row of the send buffer. -/
theorem sent_row (x : Vec Ideal S1024x512 .f32) (v : Vec Ideal S1x1024 .i32) (q : ℕ) (hq : q < 576) (l : Fin 512) (k0 : Fin 1024)
    (hk : ∀ k : Fin 1024, v (ix2 (0 : Fin 1) k) = BitVec.ofNat 32 q ↔ k = k0) : sent (F := Ideal) x v (rowAt q l) = x (ix2 k0 l) := by
  have hm : q % 576 = q := Nat.mod_eq_of_lt hq
  have hr : ∀ (i : Fin 288), q % 576 % 288 = i.val → (rowIn (rowAt q l)) = ix2 i l := fun i hi => funext fun a => match a with
    | ⟨0, _⟩ => Fin.ext hi
    | ⟨1, _⟩ => rfl
    | ⟨_ + 2, h⟩ => absurd h (by show ¬(_ + 2 < 2); omega)
  unfold sent halves
  by_cases h : q < 288
  · have hv : ((rowAt q l) 0).val < 288 := by show q % 576 < 288; omega
    rw [if_pos hv, hr ⟨q, h⟩ (by show q % 576 % 288 = q; omega)]
    exact pay2_row x v ⟨q, h⟩ l k0 hk
  · have hv : ¬((rowAt q l) 0).val < 288 := by show ¬(q % 576 < 288); omega
    rw [if_neg hv, hr ⟨q - 288, by omega⟩ (by show q % 576 % 288 = q - 288; omega)]
    refine pay4_row x v ⟨q - 288, by omega⟩ l k0 fun k => ?_
    rw [show q - 288 + 288 = q by omega]
    exact hk k

end Cert.Proof
-- ==== Proof.Reference.lean ====
/- What the reference computes: its result's row r is the argument's row at the place that the stable sort of the destinations puts at r, and of that place r is the rank. -/
module

public import proofs.«01_k».proof.Proof.Gen.ReferenceIdeal.Run
public import Idealize.ShloMosaic.Lib.Routing.Ops
public import Idealize.ShloMosaic.Lib.Routing.Words
public import Idealize.ShloMosaic.Lib.ReduceAll
public import Idealize.ShloMosaic.Lib.PlanTiles.StableSort
public import Idealize.ShloMosaic.Lib.PlanTiles.Sort4
public import Idealize.ShloMosaic.Lib.Pointwise
public import Mathlib.Order.WellFounded
public import Mathlib.Data.Nat.Count

@[expose] public section

noncomputable section

namespace Cert.Proof

open Cert.ReferenceIdeal Cert.ReferenceIdeal.Gen
open Idealize.ShloMosaic hiding ix0 ix1 ix2 ix3
open Idealize.ShloMosaic.TcCoe Idealize.ShloMosaic.Routing Idealize.ShloMosaic.ValueIdx Idealize.ShloMosaic.PlanTiles Idealize.SL.Sem

/-- The destinations of all the rows. -/
abbrev AllDests : Type := IVec (shape1 2048) 32

/-- Row `j` of all goes to part 0. -/
def AllZ (d : AllDests) (j : ℕ) : Prop := ∃ h : j < 2048, d (ix1 ⟨j, h⟩) = 0#32

instance (d : AllDests) : DecidablePred (AllZ d) := fun j =>
  if h : j < 2048 then decidable_of_iff (d (ix1 ⟨j, h⟩) = 0#32) ⟨fun e => ⟨h, e⟩, fun ⟨_, e⟩ => e⟩ else isFalse fun ⟨h', _⟩ => h h'

/-- The rank of number `g` among the numbers below `N`, those with `P` first and each kind in order. -/
def rank (P : ℕ → Prop) [DecidablePred P] (N g : ℕ) : ℕ := if P g then Nat.count P g else Nat.count P N + (g - Nat.count P g)

/-- How the sort orders the numbers below N: those with `P` first. -/
def first (P : ℕ → Prop) [DecidablePred P] {N : ℕ} (a : Fin N) : ℕ := if P a.val then 1 else 0

/-- The number that the stable sort puts at `r`. -/
def src (P : ℕ → Prop) [DecidablePred P] {N : ℕ} (r : Fin N) : Fin N := sortedFrom (fun a b => decide (first P b < first P a)) r

/-- Numbers in the sort's order have ascending ranks. -/
theorem rank_lt {P : ℕ → Prop} [DecidablePred P] {N a b : ℕ} (ha : a < N) (hb : b < N) (h : (P a ∧ ¬P b) ∨ ((P a ↔ P b) ∧ a < b)) : rank P N a < rank P N b := by
  have ca : Nat.count P a ≤ a := Nat.count_le _
  have cN : Nat.count P a + (if P a then 1 else 0) ≤ Nat.count P N := by rw [← Nat.count_succ]; exact Nat.count_monotone P ha
  unfold rank
  rcases h with ⟨h1, h2⟩ | ⟨h1, h2⟩
  · rw [if_pos h1] at cN ⊢; rw [if_neg h2]; omega
  · have cm : Nat.count P a + (if P a then 1 else 0) ≤ Nat.count P b := by rw [← Nat.count_succ]; exact Nat.count_monotone P h2
    have cd : Nat.count P b ≤ Nat.count P a + (b - a) := by
      obtain ⟨k, rfl⟩ := Nat.exists_eq_add_of_lt h2
      rw [show a + k + 1 = a + (k + 1) by omega, Nat.count_add]
      have := Nat.count_le (n := k + 1) (fun k => P (a + k))
      omega
    by_cases hp : P a
    · rw [if_pos hp] at cm ⊢; rw [if_pos (h1.1 hp)]; omega
    · have hq : ¬P b := fun q => hp (h1.2 q)
      have cd' : Nat.count P b ≤ Nat.count P (a + 1) + (b - (a + 1)) := by
        obtain ⟨k, rfl⟩ := Nat.exists_eq_add_of_lt h2
        rw [show a + k + 1 = (a + 1) + k by omega, Nat.count_add]
        have := Nat.count_le (n := k) (fun k => P (a + 1 + k))
        omega
      rw [Nat.count_succ, if_neg hp] at cd'
      rw [if_neg hp, if_neg hq]; omega

/-- A rank is below the number of numbers. -/
theorem rank_bound {P : ℕ → Prop} [DecidablePred P] {N a : ℕ} (ha : a < N) : rank P N a < N := by
  have cN : Nat.count P a + (if P a then 1 else 0) ≤ Nat.count P N := by rw [← Nat.count_succ]; exact Nat.count_monotone P ha
  have cd : Nat.count P N ≤ Nat.count P (a + 1) + (N - (a + 1)) := by
    obtain ⟨k, rfl⟩ := Nat.exists_eq_add_of_lt ha
    rw [show a + k + 1 = (a + 1) + k by omega, Nat.count_add]
    have := Nat.count_le (n := k) (fun k => P (a + 1 + k))
    omega
  have ca : Nat.count P a ≤ a := Nat.count_le _
  rw [Nat.count_succ] at cd
  unfold rank
  split_ifs at * <;> omega

/-- Of two places in a stable sort, the earlier comes before, in the sort's order. -/
theorem sorted_lex {N : ℕ} (G : Fin N → ℕ) {i j : Fin N} (hij : i < j) :
    PlanTiles.Lex G (· < ·) (sortedFrom (fun a b => decide (G b < G a)) i) (sortedFrom (fun a b => decide (G b < G a)) j) :=
  List.pairwise_iff_get.mp (pairwise_stableSort_lex G (· < ·) (List.finRange N) (List.pairwise_lt_finRange N))
    (i.cast (length_sortPositions N _).symm) (j.cast (length_sortPositions N _).symm) hij

/-- The number that the sort puts at `r` has rank `r`. -/
theorem rank_src (P : ℕ → Prop) [DecidablePred P] {N : ℕ} (r : Fin N) : rank P N (src P r).val = r.val := by
  have hmono : StrictMono fun r : Fin N => (⟨rank P N (src P r).val, rank_bound (src P r).isLt⟩ : Fin N) := by
    intro i j hij
    have hl : PlanTiles.Lex (first P) (· < ·) (src P i) (src P j) := sorted_lex (first P) hij
    refine rank_lt (src P i).isLt (src P j).isLt ?_
    unfold PlanTiles.Lex first at hl
    by_cases h1 : P (src P i).val <;> by_cases h2 : P (src P j).val <;> simp only [h1, h2, if_true, if_false] at hl ⊢
    · exact .inr ⟨trivial, by rcases hl with h | h; exacts [absurd h (by omega), h.2]⟩
    · exact .inl ⟨trivial, not_false⟩
    · rcases hl with h | h <;> omega
    · exact .inr ⟨trivial, by rcases hl with h | h; exacts [absurd h (by omega), h.2]⟩
  exact congrArg Fin.val (le_antisymm (hmono.apply_le (x := r)) (hmono.le_apply (x := r)))

/-- The printed comparison of two destinations, each 0 or 1. -/
theorem slt_first {a b : BitVec 32} (ha : a = 0#32 ∨ a = 1#32) (hb : b = 0#32 ∨ b = 1#32) :
    (IntOp.cmpi .slt a b == 1#1) = decide ((if b = 0#32 then 1 else 0 : ℕ) < if a = 0#32 then 1 else 0) := by
  rcases ha with rfl | rfl <;> rcases hb with rfl | rfl <;> decide

/-- A stable sort by destination carries along what stood at the place it puts there. -/
theorem sort_carried {N : ℕ} (d : IVec (shape1 N) 32) (y : IVec (shape1 N) 32) (P : ℕ → Prop) [DecidablePred P]
    (hP : ∀ a : Fin N, P a.val ↔ d (ix1 a) = 0#32) (hd : ∀ a : Fin N, d (ix1 a) = 0#32 ∨ d (ix1 a) = 1#32) (r : Fin N) :
    (Host.sort2 (shape1 N) 0 comparator_i32_i32_d0 d y).2 (ix1 r) = y (ix1 (src P r)) := by
  have h0 : 0 < (shape1 N).rank := Nat.zero_lt_one
  have e : ∀ (j : (shape1 N).Idx) (c : Fin N), j.along (⟨0, h0⟩ : Fin (shape1 N).rank) c = ix1 c := fun j c =>
    (Shape.Idx.along_rank1 j c).trans (ofFin_eq_ix1 c)
  have hb : (fun a b : Fin N => comparator_i32_i32_d0 (d ((ix1 r).along ⟨0, h0⟩ a), y ((ix1 r).along ⟨0, h0⟩ a))
      (d ((ix1 r).along ⟨0, h0⟩ b), y ((ix1 r).along ⟨0, h0⟩ b)) == 1#1) = fun a b => decide (first P b < first P a) := by
    funext a b
    show (IntOp.cmpi .slt (d ((ix1 r).along ⟨0, h0⟩ a)) (d ((ix1 r).along ⟨0, h0⟩ b)) == 1#1) = _
    rw [e, e, slt_first (hd a) (hd b)]
    unfold first
    simp only [hP]
  have hs : sortedFrom (n := N) (fun a b : Fin N => comparator_i32_i32_d0 (d ((ix1 r).along ⟨0, h0⟩ a), y ((ix1 r).along ⟨0, h0⟩ a))
      (d ((ix1 r).along ⟨0, h0⟩ b), y ((ix1 r).along ⟨0, h0⟩ b)) == 1#1) r = src P r := by
    rw [hb]; rfl
  unfold Host.sort2
  rw [dif_pos h0]
  exact (congrArg (fun c : Fin N => y ((ix1 r).along ⟨0, h0⟩ c)) hs).trans (congrArg y (e _ _))

/-- The stable sort of the places by destination. -/
theorem sort_read (d : AllDests) (hd : ∀ i : Fin 2048, d (ix1 i) = 0#32 ∨ d (ix1 i) = 1#32) (r : Fin 2048) :
    (Host.sort2 S2048 0 comparator_i32_i32_d0 d (iotaInDim S2048 32 0)).2 (ix1 r) = BitVec.ofNat 32 (src (AllZ d) r).val :=
  (sort_carried d (iotaInDim (shape1 2048) 32 0) (AllZ d) (fun a => ⟨fun ⟨_, e⟩ => e, fun e => ⟨a.2, e⟩⟩) hd r).trans rfl

end Cert.Proof
-- ==== Proof.Ranks.lean ====
/- Where a device's rows go, by their ranks: a row's rank in its own block gives its place among the rows kept or sent, and its rank among all the rows. -/
module

public import proofs.«01_k».proof.Proof.HostVals
public import proofs.«01_k».proof.Proof.Reference

@[expose] public section

noncomputable section

namespace Cert.Proof

open Idealize.ShloMosaic hiding ix0 ix1 ix2 ix3
open Idealize.ShloMosaic.Routing Idealize.ShloMosaic.ValueIdx

/-- Different numbers have different ranks. -/
theorem rank_inj {P : ℕ → Prop} [DecidablePred P] {N a b : ℕ} (ha : a < N) (hb : b < N) (h : rank P N a = rank P N b) : a = b := by
  by_contra hne
  have key : ∀ {a b : ℕ}, a < N → b < N → a < b → rank P N a ≠ rank P N b := fun {a b} ha hb hab e => by
    by_cases p : P a <;> by_cases q : P b
    · exact absurd (rank_lt ha hb (.inr ⟨⟨fun _ => q, fun _ => p⟩, hab⟩)) (by omega)
    · exact absurd (rank_lt ha hb (.inl ⟨p, q⟩)) (by omega)
    · exact absurd (rank_lt hb ha (.inl ⟨q, p⟩)) (by omega)
    · exact absurd (rank_lt ha hb (.inr ⟨⟨fun h => (p h).elim, fun h => (q h).elim⟩, hab⟩)) (by omega)
  rcases Nat.lt_or_gt_of_ne hne with h' | h'
  · exact key ha hb h' h
  · exact key hb ha h' h.symm

/-- The rank of row `j` in its block. -/
abbrev rk (d : Dests) (j : ℕ) : ℕ := rank (IsZ d) 1024 j

/-- Rows of part 0 have the ranks below the number of them. -/
theorem rk_of_zero {d : Dests} {j : ℕ} (h : IsZ d j) : rk d j = zeros d j := if_pos h

/-- Rows of part 1 have the ranks from there on. -/
theorem rk_of_one {d : Dests} {j : ℕ} (h : ¬IsZ d j) : rk d j = zeros d 1024 + (j - zeros d j) := if_neg h

/-- A row of part 0 is not past the last of them. -/
theorem zeros_lt {d : Dests} {j : ℕ} (hj : j < 1024) (h : IsZ d j) : zeros d j < zeros d 1024 := Nat.count_strict_mono h hj

/-- A row kept stands in the output at its rank. -/
theorem keptAt_rk {c : Fin 8} {d : Dests} {j : ℕ} (h : Keeps c d j) : keptAt c d j = rk d j := by
  unfold Keeps at h
  unfold keptAt
  by_cases hy : yOf c = 0
  · rw [if_pos hy, rk_of_zero (h.2 hy)]
  · rw [if_neg hy, rk_of_one fun hz => hy (h.1 hz)]

/-- A row sent stands among the rows sent at its rank, less the rows kept where those are first. -/
theorem sentPos_rk {c : Fin 8} {d : Dests} {j : ℕ} (hd : Balanced d) (h : ¬Keeps c d j) : sentPos c d j + (if yOf c = 0 then 512 else 0) = rk d j := by
  have h5 := hd.half
  unfold Keeps at h
  unfold sentPos
  by_cases hy : yOf c = 0
  · rw [if_pos hy, if_pos hy, rk_of_one fun hz => h ⟨fun _ => hy, fun _ => hz⟩]; omega
  · have hz : IsZ d j := by by_contra hn; exact h ⟨fun hz => (hn hz).elim, fun e => (hy e).elim⟩
    rw [if_neg hy, if_neg hy, rk_of_zero hz]; omega

/-- Of a row kept, by the device's position: which half of the output it stands in. -/
theorem rk_kept {c : Fin 8} {d : Dests} {j : ℕ} (hd : Balanced d) (hj : j < 1024) (h : Keeps c d j) : if yOf c = 0 then rk d j < 512 else 512 ≤ rk d j := by
  have h5 := hd.half
  unfold Keeps at h
  by_cases hy : yOf c = 0
  · rw [if_pos hy, rk_of_zero (h.2 hy)]
    have := zeros_lt hj (h.2 hy)
    omega
  · rw [if_neg hy, rk_of_one fun hz => hy (h.1 hz)]; omega

/-- No more than 512 rows are sent. -/
theorem sentPos_lt {c : Fin 8} {d : Dests} {j : ℕ} (hd : Balanced d) (hj : j < 1024) (h : ¬Keeps c d j) : sentPos c d j < 512 := by
  have h5 := hd.half
  have hr := sentPos_rk hd h
  have hb : rk d j < 1024 := rank_bound hj
  by_cases hy : yOf c = 0
  · rw [if_pos hy] at hr; omega
  · have hz : IsZ d j := by by_contra hn; exact h ⟨fun hz => (hn hz).elim, fun e => (hy e).elim⟩
    rw [if_neg hy, rk_of_zero hz] at hr
    have := zeros_lt hj hz
    omega

/-- The destinations of all the rows, cut in two. -/
def Cut (D : AllDests) (b : ℕ) (d : Dests) : Prop := ∀ (j : ℕ), j < 1024 → (IsZ d j ↔ AllZ D (1024 * b + j))

/-- Rows of part 0 up to a place in a block. -/
theorem count_cut {D : AllDests} {b : ℕ} {d : Dests} (h : Cut D b d) {j : ℕ} (hj : j ≤ 1024) :
    Nat.count (AllZ D) (1024 * b + j) = Nat.count (AllZ D) (1024 * b) + zeros d j := by
  induction j with
  | zero => simp [zeros]
  | succ j ih =>
    rw [← Nat.add_assoc, Nat.count_succ, ih (by omega), zeros_succ, Nat.add_assoc]
    simp only [h j (by omega)]

/-- The rank of a row among all, from its rank in its block, where the two blocks have 512 rows of part 0 each. -/
theorem rank_cut {D : AllDests} {d0 d1 : Dests} (h0 : Cut D 0 d0) (h1 : Cut D 1 d1) (b0 : Balanced d0) (b1 : Balanced d1) {b : ℕ} {d : Dests}
    (hb : (b = 0 ∧ d = d0) ∨ (b = 1 ∧ d = d1)) {j : ℕ} (hj : j < 1024) :
    rank (AllZ D) 2048 (1024 * b + j) = rk d j + 512 * b + if IsZ d j then 0 else 512 := by
  have e0 : Nat.count (AllZ D) (1024 * 0) = 0 := Nat.count_zero ..
  have e1 : Nat.count (AllZ D) (1024 * 1) = 512 := by
    have := count_cut h0 (Nat.le_refl 1024)
    rw [e0, b0.half] at this
    exact this
  have e2 : Nat.count (AllZ D) 2048 = 1024 := by
    have := count_cut h1 (Nat.le_refl 1024)
    rw [e1, b1.half] at this
    exact this
  have hz := zeros_le d j
  rcases hb with ⟨rfl, rfl⟩ | ⟨rfl, rfl⟩
  · have hc := count_cut h0 hj.le
    have h5 := b0.half
    by_cases hz' : IsZ d j
    · rw [rk_of_zero hz', if_pos hz', rank, if_pos ((h0 j hj).1 hz')]; omega
    · rw [rk_of_one hz', if_neg hz', rank, if_neg fun q => hz' ((h0 j hj).2 q)]; omega
  · have hc := count_cut h1 hj.le
    have h5 := b1.half
    by_cases hz' : IsZ d j
    · rw [rk_of_zero hz', if_pos hz', rank, if_pos ((h1 j hj).1 hz')]; omega
    · rw [rk_of_one hz', if_neg hz', rank, if_neg fun q => hz' ((h1 j hj).2 q)]; omega

end Cert.Proof
-- ==== Proof.KernelValue.lean ====
/- What a run leaves in a device's output, at the extended reals: a row that the device keeps stands at its rank, and a row that its partner sends it at its rank too. -/
module

public import proofs.«01_k».proof.Proof.Picked
public import proofs.«01_k».proof.Proof.Ranks
public import proofs.«01_k».proof.Proof.Frames

@[expose] public section

noncomputable section

namespace Cert.Proof

open Cert.KernelIdeal Cert.KernelIdeal.Gen
open Idealize.ShloMosaic hiding ix0 ix1 ix2 ix3 eq_ix2
open Idealize.ShloMosaic.TcCoe Idealize.ShloMosaic.Routing Idealize.ShloMosaic.ValueIdx Idealize.SL.Sem

/-- Words that give different places to the rows they name, and minus one to the others, name each place once. -/
theorem named_once {P : ℕ → Prop} [DecidablePred P] {f : ℕ → ℕ} {w : Fin 1024 → BitVec 32} (hw : ∀ k : Fin 1024, w k = if P k.val then BitVec.ofNat 32 (f k.val) else 4294967295#32)
    (hlt : ∀ k : Fin 1024, P k.val → f k.val < 1024) (hinj : ∀ k k' : Fin 1024, P k.val → P k'.val → f k.val = f k'.val → k = k')
    {j : Fin 1024} (hj : P j.val) {n : ℕ} (hn : f j.val = n) (k : Fin 1024) : w k = BitVec.ofNat 32 n ↔ k = j := by
  have hb := hlt j hj
  constructor
  · intro e
    rw [hw k] at e
    by_cases hk : P k.val
    · rw [if_pos hk] at e
      have hb' := hlt k hk
      have := congrArg BitVec.toNat e
      rw [BitVec.toNat_ofNat, BitVec.toNat_ofNat, Nat.mod_eq_of_lt (by omega), Nat.mod_eq_of_lt (by omega)] at this
      exact hinj k j hk hj (this.trans hn.symm)
    · rw [if_neg hk] at e
      have := congrArg BitVec.toNat e
      rw [BitVec.toNat_ofNat, BitVec.toNat_ofNat, Nat.mod_eq_of_lt (by omega), Nat.mod_eq_of_lt (by omega)] at this
      omega
  · rintro rfl
    rw [hw k, if_pos hj, hn]

variable (m : (ℓ : Loc nD τ sig) → Buf (Elt Ideal) ℓ)

/-- The rows of a device's block. -/
abbrev rowsOf0 (c : Dev nD) : Vec Ideal S1024x512 .f32 := m ((c.tc : Thread nD τ).loc main_arg0)

/-- The argument is as it was when the kernel is entered. -/
theorem V17_arg0 (c : Dev nD) : (V17 m c main_arg0 : Vec Ideal S1024x512 .f32) = rowsOf0 m c :=
  (V18_of m (fun _ r c => m ((c : Thread nD τ).loc r)) c main_arg0 (by decide)).symm.trans (V18_main_arg0 m (fun _ r c => m ((c : Thread nD τ).loc r)) c)

variable (h : ∀ c, Balanced (destOf m c))

include h

/-- A row kept is named once by the words for the output. -/
theorem kept_named (c : Dev nD) {j : Fin 1024} (hj : Keeps c (destOf m c) j.val) (k : Fin 1024) :
    (V17 m c main_v40 : IVec S1x1024 32) (ix2 (0 : Fin 1) k) = BitVec.ofNat 32 (rk (destOf m c) j.val) ↔ k = j :=
  named_once (P := Keeps c (destOf m c)) (f := keptAt c (destOf m c)) (v40_val m c) (fun k hk => by rw [keptAt_rk hk]; exact rank_bound k.isLt)
    (fun k k' hk hk' e => by
      rw [keptAt_rk hk, keptAt_rk hk'] at e
      exact Fin.ext (rank_inj k.isLt k'.isLt e)) hj (keptAt_rk hj) k

/-- A row sent is named once by the words for the send buffer. -/
theorem sent_named (c : Dev nD) {j : Fin 1024} (hj : ¬Keeps c (destOf m c) j.val) (k : Fin 1024) :
    (V17 m c main_v41 : IVec S1x1024 32) (ix2 (0 : Fin 1) k) = BitVec.ofNat 32 (sentPos c (destOf m c) j.val) ↔ k = j :=
  named_once (P := fun j => ¬Keeps c (destOf m c) j) (f := sentPos c (destOf m c)) (fun k => (v41_val m c k).trans (by split_ifs <;> first | rfl | contradiction))
    (fun k hk => (sentPos_lt (h c) k.isLt hk).trans (by decide))
    (fun k k' hk hk' e => by
      have e1 := sentPos_rk (h c) hk
      have e2 := sentPos_rk (h c) hk'
      exact Fin.ext (rank_inj k.isLt k'.isLt (show rk (destOf m c) k.val = rk (destOf m c) k'.val by omega))) hj rfl k

/-- With 512 rows of each part in each block, the rows received are 512 of the output, the first or the last. -/
theorem out_eq (c : Dev nD) : outAt (zOf m) (V17 m) c
    = blended (if yOf c = 0 then 512 else 0) 0 512 512 (k0_pay5 (k0_pay1 (rowsOf0 m c)) (V17 m c main_v40)) (sent (rowsOf0 m (pr c)) (V17 m (pr c) main_v41)) := by
  have hz : ∀ c, zOf m c = 512 := fun c => (h c).half
  have hs : startRow (zOf m) c / 8 * 8 = (if yOf c = 0 then 512 else 0) ∧ startRow (zOf m) c % 8 = 0 ∧ nSend (zOf m) c = 512 ∧ grp (zOf m) (pr c) = 64 := by
    unfold startRow grp shiftOf nSend
    simp only [hz]
    split_ifs <;> decide
  unfold outAt outOf sentAt
  rw [hs.1, hs.2.1, hs.2.2.1, hs.2.2.2, pos_end (by decide), V17_arg0, V17_arg0]

/-- A row kept. -/
theorem out_kept (c : Dev nD) {j : Fin 1024} (hj : Keeps c (destOf m c) j.val) {i : Fin 1024} (hi : rk (destOf m c) j.val = i.val) (l : Fin 512) :
    outAt (zOf m) (V17 m) c (ix2 i l) = rowsOf0 m c (ix2 j l) := by
  have hk := rk_kept (h c) j.isLt hj
  rw [out_eq m h]
  unfold blended
  have hn : ¬((if yOf c = 0 then 512 else 0) ≤ ((ix2 i l) 0).val ∧ ((ix2 i l) 0).val < (if yOf c = 0 then 512 else 0) + 512
      ∧ 0 ≤ ((ix2 i l) 0).val - (if yOf c = 0 then 512 else 0) ∧ ((ix2 i l) 0).val - (if yOf c = 0 then 512 else 0) < 0 + 512) := by
    show ¬((if yOf c = 0 then 512 else 0) ≤ i.val ∧ i.val < (if yOf c = 0 then 512 else 0) + 512 ∧ _ ∧ _)
    split_ifs at hk ⊢ <;> omega
  rw [if_neg hn]
  exact pay5_row _ _ i l j fun k => by rw [← hi]; exact kept_named m h c hj k

/-- A row received: the partner sent it. -/
theorem out_sent (c : Dev nD) {j : Fin 1024} (hj : ¬Keeps (pr c) (destOf m (pr c)) j.val) {i : Fin 1024}
    (hi : sentPos (pr c) (destOf m (pr c)) j.val + (if yOf c = 0 then 512 else 0) = i.val) (l : Fin 512) :
    outAt (zOf m) (V17 m) c (ix2 i l) = rowsOf0 m (pr c) (ix2 j l) := by
  have hlt := sentPos_lt (h (pr c)) j.isLt hj
  rw [out_eq m h]
  unfold blended
  have hn : (if yOf c = 0 then 512 else 0) ≤ ((ix2 i l) 0).val ∧ ((ix2 i l) 0).val < (if yOf c = 0 then 512 else 0) + 512
      ∧ 0 ≤ ((ix2 i l) 0).val - (if yOf c = 0 then 512 else 0) ∧ ((ix2 i l) 0).val - (if yOf c = 0 then 512 else 0) < 0 + 512 := by
    show (if yOf c = 0 then 512 else 0) ≤ i.val ∧ i.val < (if yOf c = 0 then 512 else 0) + 512 ∧ 0 ≤ i.val - _ ∧ i.val - (if yOf c = 0 then 512 else 0) < 0 + 512
    omega
  rw [if_pos hn]
  have e : ((ix2 i l) 0).val - (if yOf c = 0 then 512 else 0) = sentPos (pr c) (destOf m (pr c)) j.val := by
    show i.val - _ = _
    omega
  rw [e]
  exact sent_row _ _ _ (by omega) l j fun k => sent_named m h (pr c) hj k

end Cert.Proof
-- ==== Proof.RefValue.lean ====
/- The reference's result: row r is the argument's row at the place that the sort puts at r. -/
module

public import proofs.«01_k».proof.Proof.Reference

@[expose] public section

noncomputable section

namespace Cert.Proof

open Cert.ReferenceIdeal Cert.ReferenceIdeal.Gen
open Idealize.ShloMosaic hiding ix0 ix1 ix2 ix3 eq_ix2
open Idealize.ShloMosaic.TcCoe Idealize.ShloMosaic.Routing Idealize.ShloMosaic.ValueIdx Idealize.SL.Sem

variable {F : FTy → Type} [FloatOps F]

/-- The places as the reference makes them: a negative one would count from the end. -/
def wrapped (p : IVec S2048 32) : IVec S2048x1 32 :=
  broadcastInDim S2048x1 ![0] bcast_S2048_S2048x1_0 (select (cmpi .slt p (broadcastInDim S2048 ![] bcast_S_S2048 (constantI S_ 32 0#32)))
    (addi p (broadcastInDim S2048 ![] bcast_S_S2048 (constantI S_ 32 2048#32))) p)

/-- Which places are in range. -/
def inRange (q : IVec S2048x1 32) : IVec S2048 1 :=
  Host.reduce IntOp.andi (andi (cmpi .sge q (broadcastInDim S2048x1 ![] bcast_S_S2048x1 (constantI S_ 32 0#32)))
    (cmpi .sle q (broadcastInDim S2048x1 ![0, 1] bcast_S1x1_S2048x1_0_1 (broadcastInDim S1x1 ![1] bcast_S1_S1x1_1 (constantI S1 32 2047#32))))) (constantI S_ 1 1#1) reducesTo_S2048x1_S2048_d1 h_S_

/-- The rows at given places as the reference takes them: a place out of range would give no number. -/
def taken (x : FVec F S2048x512 .f32) (q : IVec S2048x1 32) : FVec F S2048x512 .f32 :=
  select (broadcastInDim S2048x512 ![0] bcast_S2048_S2048x512_0 (inRange q))
    (Host.gather gather_S2048x512_S2048x1_S2048x512_1_0_n_n_0_1_1512 x q) (broadcastInDim S2048x512 ![] bcast_S_S2048x512 (constant S_ .f32 0x7FC00000#32))

/-- A place in range stays. -/
theorem wrapped_read (p : IVec S2048 32) (r : Fin 2048) (u : Fin 1) (b : Fin 2048) (h : p (ix1 r) = BitVec.ofNat 32 b.val) :
    wrapped p (ix2 r u) = BitVec.ofNat 32 b.val := by
  unfold wrapped
  pointwise []
  show Scalar.select (IntOp.cmpi CmpIPredicate.slt (p (ix1 r)) (BitVec.ofNat 32 0)) (IntOp.addi (p (ix1 r)) 2048#32) (p (ix1 r)) = BitVec.ofNat 32 b.val
  rw [h, WordCmp.cmpi_slt_ofNat (by omega) (by omega), decide_eq_false (by omega)]
  rfl

/-- With every place in range the rows are the argument's at the places. -/
theorem taken_read (x : FVec F S2048x512 .f32) (q : IVec S2048x1 32) (s : Fin 2048 → Fin 2048)
    (h : ∀ (r : Fin 2048) (u : Fin 1), q (ix2 r u) = BitVec.ofNat 32 (s r).val) (r : Fin 2048) (l : Fin 512) : taken x q (ix2 r l) = x (ix2 (s r) l) := by
  have hm : inRange q (ix1 r) = 1#1 :=
    Host.reduce_andi_one _ _ _ _ _ rfl fun i => by
      have hi : q i = BitVec.ofNat 32 (s (i 0)).val := (congrArg q (eq_ix2 i)).trans (h (i 0) (i 1))
      have hs : (s (i 0)).val < 2048 := (s (i 0)).isLt
      pointwise []
      show IntOp.andi (IntOp.cmpi CmpIPredicate.sge (q i) (BitVec.ofNat 32 0)) (IntOp.cmpi CmpIPredicate.sle (q i) (BitVec.ofNat 32 2047)) = 1#1
      rw [hi, WordCmp.cmpi_sge_ofNat (by omega) (by omega), WordCmp.cmpi_sle_ofNat (by omega) (by omega), decide_eq_true (Nat.zero_le _), decide_eq_true (by omega)]
      rfl
  unfold taken
  pointwise []
  show Scalar.select (inRange q (ix1 r)) (Host.gather gather_S2048x512_S2048x1_S2048x512_1_0_n_n_0_1_1512 x q (ix2 r l)) _ = _
  rw [hm]
  exact gather_row _ rfl rfl rfl rfl rfl x q r l (s r) (h r 0) (by omega)

/-- What the reference's run leaves. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = taken (m ((c.tc : Thread nD τ).loc main_arg0)) (wrapped (Host.sort2 S2048 0 comparator_i32_i32_d0 (m ((c.tc : Thread nD τ).loc main_arg1)) (iotaInDim S2048 32 0)).2)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

/-- The reference's result, for destinations 0 and 1: row r is the argument's row at the r-th place of the sort. -/
theorem reference_read (x : FVec F S2048x512 .f32) (d : AllDests) (hd : ∀ i : Fin 2048, d (ix1 i) = 0#32 ∨ d (ix1 i) = 1#32) (r : Fin 2048) (l : Fin 512) :
    taken x (wrapped (Host.sort2 S2048 0 comparator_i32_i32_d0 d (iotaInDim S2048 32 0)).2) (ix2 r l) = x (ix2 (src (AllZ d) r) l) :=
  taken_read x _ (src (AllZ d)) (fun r u => wrapped_read _ r u _ (sort_read d hd r)) r l

end Cert.Proof
-- ==== Proof.Algebraic.lean ====
/- The value: each device's output is its block of the reference's result, at the extended reals. -/
module

public import proofs.«01_k».proof.Proof.KernelValue
public import proofs.«01_k».proof.Proof.RefValue

@[expose] public section

noncomputable section

namespace Cert.Proof

open Cert.KernelIdeal Cert.KernelIdeal.Gen
open Idealize.ShloMosaic hiding ix0 ix1 ix2 ix3 eq_ix2
open Idealize.ShloMosaic.TcCoe Idealize.ShloMosaic.Routing Idealize.ShloMosaic.ValueIdx Idealize.SL.Sem

/-- The place among all the rows of row `j` of a device's block. -/
def whole (c : Dev nD) (j : Fin 1024) : Fin 2048 := ⟨1024 * yOf c + j.val, by have := yOf_lt c; omega⟩

/-- A device's block is the one of its position on the axis that the arrays are cut along. -/
theorem mesh_y (c : Dev nD) : Layout.meshLin [2, 2, 2] c.val [1] = yOf c := by revert c; decide

/-- A device's block of an array of rows. -/
theorem block_rows {α : Type} (x : (shape2 2048 512).Idx → α) (c : Dev nD) (j : Fin 1024) (l : Fin 512) :
    (Layout.blockN ⟨2, ![1024, 512]⟩ ⟨2, ![2048, 512]⟩ (Layout.meshBlock [2, 2, 2] ![[1], []] c) x) (ix2 j l) = x (ix2 (whole c j) l) := by
  refine congrArg x (funext fun a => Fin.ext ?_)
  match a with
  | ⟨0, _⟩ => show Layout.meshLin [2, 2, 2] c.val [1] * 1024 + j.val = 1024 * yOf c + j.val; rw [mesh_y]; omega
  | ⟨1, _⟩ => show 0 * 512 + l.val = l.val; omega

/-- A device's block of a line of words. -/
theorem block_words {α : Type} (x : (shape1 2048).Idx → α) (c : Dev nD) (j : Fin 1024) :
    (Layout.blockN ⟨1, ![1024]⟩ ⟨1, ![2048]⟩ (Layout.meshBlock [2, 2, 2] ![[1]] c) x) (ix1 j) = x (ix1 (whole c j)) := by
  refine congrArg x (funext fun a => Fin.ext ?_)
  match a with
  | ⟨0, _⟩ => show Layout.meshLin [2, 2, 2] c.val [1] * 1024 + j.val = 1024 * yOf c + j.val; rw [mesh_y]; omega

section Rows

variable (m : (ℓ : Loc nD τ sig) → Buf (Elt Ideal) ℓ) (h : ∀ c, Balanced (destOf m c)) (D : AllDests) (hd : ∀ (c : Dev nD) (j : Fin 1024), destOf m c (ix1 j) = D (ix1 (whole c j)))

include hd

/-- Each device's destinations are a block of all. -/
theorem cut_of (c : Dev nD) : Cut D (yOf c) (destOf m c) := fun j hj => by
  rw [isZ_iff (destOf m c) ⟨j, hj⟩, hd c ⟨j, hj⟩]
  exact ⟨fun e => ⟨(whole c ⟨j, hj⟩).isLt, e⟩, fun ⟨_, e⟩ => e⟩

/-- With each block's destinations 0 and 1, so are all. -/
theorem all_bit (h : ∀ c, Balanced (destOf m c)) (i : Fin 2048) : D (ix1 i) = 0#32 ∨ D (ix1 i) = 1#32 := by
  have key : ∀ (c : Dev nD) (j : Fin 1024), whole c j = i → D (ix1 i) = 0#32 ∨ D (ix1 i) = 1#32 := fun c j e => by
    rw [← e, ← hd c j]; exact (h c).bit j
  by_cases hi : i.val < 1024
  · exact key 0 ⟨i.val, hi⟩ (Fin.ext (by show 1024 * 0 + i.val = i.val; omega))
  · exact key 2 ⟨i.val - 1024, by omega⟩ (Fin.ext (by show 1024 * 1 + (i.val - 1024) = i.val; omega))

include h

/-- The rank among all the rows of a row of a device's block. -/
theorem rank_whole (c : Dev nD) (j : Fin 1024) :
    rank (AllZ D) 2048 (whole c j).val = rk (destOf m c) j.val + 512 * yOf c + if IsZ (destOf m c) j.val then 0 else 512 := by
  have hp := yOf_pr c
  have c1 := cut_of m D hd c
  have c2 := cut_of m D hd (pr c)
  rcases yOf_lt c with hy | hy
  · rw [hy] at hp c1
    rw [hp] at c2
    exact rank_cut c1 c2 (h c) (h (pr c)) (.inl ⟨hy, rfl⟩) j.isLt
  · rw [hy] at hp c1
    rw [hp] at c2
    exact rank_cut c2 c1 (h (pr c)) (h c) (.inr ⟨hy, rfl⟩) j.isLt

/-- Row `i` of a device's output is the row, of all, whose rank is that of the place of row `i` among all. -/
theorem out_row (c : Dev nD) (i : Fin 1024) (l : Fin 512) :
    ∃ (e : Dev nD) (j : Fin 1024), whole e j = src (AllZ D) (whole c i) ∧ outAt (zOf m) (V17 m) c (ix2 i l) = rowsOf0 m e (ix2 j l) := by
  have hr := rank_src (AllZ D) (whole c i)
  generalize src (AllZ D) (whole c i) = s at hr ⊢
  have hi : (whole c i).val = 1024 * yOf c + i.val := rfl
  have hp := yOf_pr c
  have hy := yOf_lt c
  have hs := s.isLt
  have split : ∀ e : Dev nD, 1024 * yOf e ≤ s.val → s.val < 1024 * yOf e + 1024 → ∃ j : Fin 1024, whole e j = s := fun e h1 h2 =>
    ⟨⟨s.val - 1024 * yOf e, by omega⟩, Fin.ext (by show 1024 * yOf e + (s.val - 1024 * yOf e) = s.val; omega)⟩
  have half : ∀ (e : Dev nD) (j : Fin 1024), if IsZ (destOf m e) j.val then rk (destOf m e) j.val < 512 else 512 ≤ rk (destOf m e) j.val := fun e j => by
    have h5 := (h e).half
    split_ifs with hz
    · have := zeros_lt j.isLt hz
      rw [rk_of_zero hz]; omega
    · rw [rk_of_one hz]; omega
  by_cases hown : 1024 * yOf c ≤ s.val ∧ s.val < 1024 * yOf c + 1024
  · obtain ⟨j, rfl⟩ := split c hown.1 hown.2
    have hw := rank_whole m h D hd c j
    have hh := half c j
    have hb : rk (destOf m c) j.val < 1024 := rank_bound j.isLt
    have hk : Keeps c (destOf m c) j.val ∧ rk (destOf m c) j.val = i.val := by
      unfold Keeps
      by_cases hz : IsZ (destOf m c) j.val
      · rw [if_pos hz] at hw hh
        exact ⟨⟨fun _ => by omega, fun _ => hz⟩, by omega⟩
      · rw [if_neg hz] at hw hh
        exact ⟨⟨fun q => (hz q).elim, fun q => by omega⟩, by omega⟩
    exact ⟨c, j, rfl, out_kept m h c hk.1 hk.2 l⟩
  · obtain ⟨j, rfl⟩ := split (pr c) (by omega) (by omega)
    have hw := rank_whole m h D hd (pr c) j
    have hh := half (pr c) j
    have hb : rk (destOf m (pr c)) j.val < 1024 := rank_bound j.isLt
    have hk : ¬Keeps (pr c) (destOf m (pr c)) j.val := by
      unfold Keeps
      by_cases hz : IsZ (destOf m (pr c)) j.val
      · rw [if_pos hz] at hw hh
        exact fun q => absurd (q.1 hz) (by omega)
      · rw [if_neg hz] at hw hh
        exact fun q => hz (q.2 (by omega))
    have hsent := sentPos_rk (h (pr c)) hk
    refine ⟨pr c, j, rfl, out_sent m h c hk ?_ l⟩
    split_ifs at hw hh hsent ⊢ <;> omega

end Rows

/-- Each device's output is its block of the reference's result. -/
theorem algebraic : Cert.algebraic_KernelIdeal_ReferenceIdeal := fun m g m' g' hpre hin => by
  have h := balanced_all m hpre
  have hd : ∀ (c : Dev nD) (j : Fin 1024), destOf m c (ix1 j)
      = (m' (((0 : Dev Cert.ReferenceIdeal.nD).tc : Thread Cert.ReferenceIdeal.nD Cert.ReferenceIdeal.τ).loc Cert.ReferenceIdeal.main_arg1) : AllDests) (ix1 (whole c j)) := fun c j =>
    (congrFun (hin c).2 (ix1 j)).trans (block_words _ c j)
  have hx : ∀ (c : Dev nD) (j : Fin 1024) (l : Fin 512), rowsOf0 m c (ix2 j l)
      = (m' (((0 : Dev Cert.ReferenceIdeal.nD).tc : Thread Cert.ReferenceIdeal.nD Cert.ReferenceIdeal.τ).loc Cert.ReferenceIdeal.main_arg0) : FVec Ideal (shape2 2048 512) .f32) (ix2 (whole c j) l) := fun c j l =>
    (congrFun (hin c).1 (ix2 j l)).trans (block_rows _ c j l)
  refine ⟨_, ?_, (θ_run (Cert.ReferenceIdeal.defs (F := Ideal)) _ _).mono (fun r hr => hr 0) (reference_run (F := Ideal) m' g')⟩
  refine (θ_run (Cert.KernelIdeal.defs (F := Ideal)) _ _).mono (fun r hr c => ⟨(hr.1 c).1.trans ?_, (hr.1 c).2⟩) (run_pre m g h)
  funext i
  rw [eq_ix2 i]
  refine Eq.trans ?_ (block_rows _ c (i 0) (i 1)).symm
  obtain ⟨e, j, he, ho⟩ := out_row m h _ hd c (i 0) (i 1)
  refine ho.trans ((hx e j (i 1)).trans ?_)
  rw [he]
  exact (reference_read (F := Ideal) _ _ (all_bit m _ hd h) (whole c (i 0)) (i 1)).symm

end Cert.Proof
-- ==== Proof.lean ====
module

public import proofs.«01_k».proof.Defs
public import proofs.«01_k».proof.Proof.Frames
public import proofs.«01_k».proof.Proof.FrameKernel
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_balanced_Kernel
public import proofs.«01_k».proof.Proof.Gen.Pre_balanced_ReferenceIdeal
public import Idealize.ShloMosaic.Adequacy
public import Idealize.ShloMosaic.Init

@[expose] public section

noncomputable section

namespace Cert.Proof

open Idealize.ShloMosaic Idealize.SL.Sem Cert.Kernel

/-- The claims, each from its module. -/
theorem claim : Cert.Claim :=
  ⟨Cert.Kernel.Gen.facts, Cert.KernelIdeal.Gen.facts, Cert.ReferenceIdeal.Gen.facts, Cert.Pre_balanced_Kernel.Gen.facts, Cert.Pre_balanced_ReferenceIdeal.Gen.facts,
    frame_kernel, frame_ideal, frame_reference, frame_reference_pre, trivial, algebraic⟩

end Cert.Proof

end
